-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x256x1024 : Shape := ⟨3, ![1, 256, 1024]⟩
abbrev S1024x1024 : Shape := ⟨2, ![1024, 1024]⟩
abbrev S1x65536x8x128 : Shape := ⟨4, ![1, 65536, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x65536x8x128 : S_.BroadcastsInDim S1x65536x8x128 (![] : Fin 0 → Fin S1x65536x8x128.rank)

variable [Facts]

def fn {F : FTy → Type} [FloatOps F] (main_arg0 : FVec F S1x256x1024 .f32) (main_arg1 : FVec F S1024x1024 .f32) (main_arg2 : FVec F S1x65536x8x128 .f32) (main_arg3 : FVec F S1x65536x8x128 .f32) (main_arg4 : FVec F S1024x1024 .f32) : IVec S1x256x1024 1 × IVec S1024x1024 1 × IVec S1x65536x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x65536x8x128 .f32 := Host.absf main_arg2
  let main_cst_1 : FVec F S_ .f32 := constant S_ .f32 0x7F800000#32
  let main_v7 : FVec F S1x65536x8x128 .f32 := broadcastInDim S1x65536x8x128 ![] bcast_S_S1x65536x8x128 main_cst_1
  let main_v8 : IVec S1x65536x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1152 : Shape := ⟨2, ![256, 1152]⟩
abbrev S15x16x1152 : Shape := ⟨3, ![15, 16, 1152]⟩
abbrev S16x1024 : Shape := ⟨2, ![16, 1024]⟩
abbrev S15x16x1024 : Shape := ⟨3, ![15, 16, 1024]⟩
abbrev S8x4096x128 : Shape := ⟨3, ![8, 4096, 128]⟩
abbrev S2x8 : Shape := ⟨2, ![2, 8]⟩
abbrev S4x15 : Shape := ⟨2, ![4, 15]⟩
abbrev S15 : Shape := ⟨1, ![15]⟩
abbrev S1x1 : Shape := ⟨2, ![1, 1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x1024 : Shape := ⟨2, ![256, 1024]⟩
abbrev S16x4x64x128 : Shape := ⟨4, ![16, 4, 64, 128]⟩
abbrev S4x16x64x128 : Shape := ⟨4, ![4, 16, 64, 128]⟩
abbrev S4x1024x128 : Shape := ⟨3, ![4, 1024, 128]⟩
abbrev S256x128 : Shape := ⟨2, ![256, 128]⟩
abbrev S4x64x128 : Shape := ⟨3, ![4, 64, 128]⟩
abbrev S4x64x1024 : Shape := ⟨3, ![4, 64, 1024]⟩
abbrev S4x64 : Shape := ⟨2, ![4, 64]⟩
abbrev S256x1 : Shape := ⟨2, ![256, 1]⟩
abbrev S1x16x256 : Shape := ⟨3, ![1, 16, 256]⟩
abbrev S16x256 : Shape := ⟨2, ![16, 256]⟩
abbrev S1x16x384 : Shape := ⟨3, ![1, 16, 384]⟩
abbrev S16x384 : Shape := ⟨2, ![16, 384]⟩
abbrev S16x1152 : Shape := ⟨2, ![16, 1152]⟩
abbrev S1x16x1152 : Shape := ⟨3, ![1, 16, 1152]⟩
abbrev S16x128 : Shape := ⟨2, ![16, 128]⟩
abbrev S16x1 : Shape := ⟨2, ![16, 1]⟩
abbrev S1x16x1024 : Shape := ⟨3, ![1, 16, 1024]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S256x1152, .bf16⟩
  | .local _ .vmem, ⟨5, _⟩ => ⟨S15x16x1152, .bf16⟩
  | .local _ .vmem, ⟨6, _⟩ => ⟨S16x1024, .bf16⟩
  | .local _ .vmem, ⟨7, _⟩ => ⟨S16x1024, .bf16⟩
  | .local _ .vmem, ⟨8, _⟩ => ⟨S15x16x1024, .bf16⟩
  | .local _ .vmem, ⟨9, _⟩ => ⟨S8x4096x128, .f32⟩
  | .local _ .vmem, ⟨10, _⟩ => ⟨S8x4096x128, .f32⟩
  | _, _ => ⟨S1x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 170 → Bool
  | ⟨i, _⟩ => dmaSemScopedAt i

abbrev sig : RefSig :=
  (ofTc nBuf bufTy 1 170 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_137 : BitVec 32 := 1#32
  let v100 : BitVec 32 := Scalar.addi v2 c1_i32_137
  let c16_i32_138 : BitVec 32 := 16#32
  let v101 : BitVec 32 := Scalar.remsi v100 c16_i32_138
  let c1_i32_140 : BitVec 32 := 1#32
  let v102 : BitVec 32 := Scalar.muli v101 c1_i32_140
  let v103 : BitVec 32 := Scalar.addi c0_i32_141 v102
  v103.toNat
def k0_dev2 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_142 : BitVec 32 := 2#32
  let v104 : BitVec 32 := Scalar.addi v2 c2_i32_142
  let c16_i32_143 : BitVec 32 := 16#32
  let v105 : BitVec 32 := Scalar.remsi v104 c16_i32_143
  let c1_i32_145 : BitVec 32 := 1#32
  let v106 : BitVec 32 := Scalar.muli v105 c1_i32_145
  let v107 : BitVec 32 := Scalar.addi c0_i32_146 v106
  v107.toNat
def k0_dev3 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_147 : BitVec 32 := 3#32
  let v108 : BitVec 32 := Scalar.addi v2 c3_i32_147
  let c16_i32_148 : BitVec 32 := 16#32
  let v109 : BitVec 32 := Scalar.remsi v108 c16_i32_148
  let c1_i32_150 : BitVec 32 := 1#32
  let v110 : BitVec 32 := Scalar.muli v109 c1_i32_150
  let v111 : BitVec 32 := Scalar.addi c0_i32_151 v110
  v111.toNat
def k0_dev4 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_152 : BitVec 32 := 4#32
  let v112 : BitVec 32 := Scalar.addi v2 c4_i32_152
  let c16_i32_153 : BitVec 32 := 16#32
  let v113 : BitVec 32 := Scalar.remsi v112 c16_i32_153
  let c1_i32_155 : BitVec 32 := 1#32
  let v114 : BitVec 32 := Scalar.muli v113 c1_i32_155
  let v115 : BitVec 32 := Scalar.addi c0_i32_156 v114
  v115.toNat
def k0_dev5 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_157 : BitVec 32 := 5#32
  let v116 : BitVec 32 := Scalar.addi v2 c5_i32_157
  let c16_i32_158 : BitVec 32 := 16#32
  let v117 : BitVec 32 := Scalar.remsi v116 c16_i32_158
  let c1_i32_160 : BitVec 32 := 1#32
  let v118 : BitVec 32 := Scalar.muli v117 c1_i32_160
  let v119 : BitVec 32 := Scalar.addi c0_i32_161 v118
  v119.toNat
def k0_dev6 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_162 : BitVec 32 := 6#32
  let v120 : BitVec 32 := Scalar.addi v2 c6_i32_162
  let c16_i32_163 : BitVec 32 := 16#32
  let v121 : BitVec 32 := Scalar.remsi v120 c16_i32_163
  let c1_i32_165 : BitVec 32 := 1#32
  let v122 : BitVec 32 := Scalar.muli v121 c1_i32_165
  let v123 : BitVec 32 := Scalar.addi c0_i32_166 v122
  v123.toNat
def k0_dev7 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_167 : BitVec 32 := 7#32
  let v124 : BitVec 32 := Scalar.addi v2 c7_i32_167
  let c16_i32_168 : BitVec 32 := 16#32
  let v125 : BitVec 32 := Scalar.remsi v124 c16_i32_168
  let c1_i32_170 : BitVec 32 := 1#32
  let v126 : BitVec 32 := Scalar.muli v125 c1_i32_170
  let v127 : BitVec 32 := Scalar.addi c0_i32_171 v126
  v127.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v128 : BitVec 32 := Scalar.addi v2 c8_i32
  let c16_i32_172 : BitVec 32 := 16#32
  let v129 : BitVec 32 := Scalar.remsi v128 c16_i32_172
  let c1_i32_174 : BitVec 32 := 1#32
  let v130 : BitVec 32 := Scalar.muli v129 c1_i32_174
  let v131 : BitVec 32 := Scalar.addi c0_i32_175 v130
  v131.toNat
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v132 : BitVec 32 := Scalar.addi v2 c9_i32
  let c16_i32_176 : BitVec 32 := 16#32
  let v133 : BitVec 32 := Scalar.remsi v132 c16_i32_176
  let c1_i32_178 : BitVec 32 := 1#32
  let v134 : BitVec 32 := Scalar.muli v133 c1_i32_178
  let v135 : BitVec 32 := Scalar.addi c0_i32_179 v134
  v135.toNat
def k0_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v136 : BitVec 32 := Scalar.addi v2 c10_i32
  let c16_i32_180 : BitVec 32 := 16#32
  let v137 : BitVec 32 := Scalar.remsi v136 c16_i32_180
  let c1_i32_182 : BitVec 32 := 1#32
  let v138 : BitVec 32 := Scalar.muli v137 c1_i32_182
  let v139 : BitVec 32 := Scalar.addi c0_i32_183 v138
  v139.toNat
def k0_dev11 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v140 : BitVec 32 := Scalar.addi v2 c11_i32
  let c16_i32_184 : BitVec 32 := 16#32
  let v141 : BitVec 32 := Scalar.remsi v140 c16_i32_184
  let c1_i32_186 : BitVec 32 := 1#32
  let v142 : BitVec 32 := Scalar.muli v141 c1_i32_186
  let v143 : BitVec 32 := Scalar.addi c0_i32_187 v142
  v143.toNat
def k0_dev12 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v144 : BitVec 32 := Scalar.addi v2 c12_i32
  let c16_i32_188 : BitVec 32 := 16#32
  let v145 : BitVec 32 := Scalar.remsi v144 c16_i32_188
  let c1_i32_190 : BitVec 32 := 1#32
  let v146 : BitVec 32 := Scalar.muli v145 c1_i32_190
  let v147 : BitVec 32 := Scalar.addi c0_i32_191 v146
  v147.toNat
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v148 : BitVec 32 := Scalar.addi v2 c13_i32
  let c16_i32_192 : BitVec 32 := 16#32
  let v149 : BitVec 32 := Scalar.remsi v148 c16_i32_192
  let c1_i32_194 : BitVec 32 := 1#32
  let v150 : BitVec 32 := Scalar.muli v149 c1_i32_194
  let v151 : BitVec 32 := Scalar.addi c0_i32_195 v150
  v151.toNat
def k0_dev14 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v152 : BitVec 32 := Scalar.addi v2 c14_i32
  let c16_i32_196 : BitVec 32 := 16#32
  let v153 : BitVec 32 := Scalar.remsi v152 c16_i32_196
  let c1_i32_198 : BitVec 32 := 1#32
  let v154 : BitVec 32 := Scalar.muli v153 c1_i32_198
  let v155 : BitVec 32 := Scalar.addi c0_i32_199 v154
  v155.toNat
def k0_dev15 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v156 : BitVec 32 := Scalar.addi v2 c15_i32
  let c16_i32_200 : BitVec 32 := 16#32
  let v157 : BitVec 32 := Scalar.remsi v156 c16_i32_200
  let c1_i32_202 : BitVec 32 := 1#32
  let v158 : BitVec 32 := Scalar.muli v157 c1_i32_202
  let v159 : BitVec 32 := Scalar.addi c0_i32_203 v158
  v159.toNat
def k0_off1 (d0 : Dev nD) (c1_i32_268 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v253 : BitVec 32 := Scalar.addi v2 c1_i32_268
  let c16_i32_269 : BitVec 32 := 16#32
  let v254 : BitVec 32 := Scalar.remsi v253 c16_i32_269
  let c16_i32_270 : BitVec 32 := 16#32
  let v255 : BitVec 32 := Scalar.muli v254 c16_i32_270
  let c0_i32_280 : BitVec 32 := 0#32
  ![v255.toNat, 0]
def k0_dev16 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v253 : BitVec 32 := Scalar.addi v2 c1_i32_268
  let c16_i32_269 : BitVec 32 := 16#32
  let v254 : BitVec 32 := Scalar.remsi v253 c16_i32_269
  let c1_i32_276 : BitVec 32 := 1#32
  let v256 : BitVec 32 := Scalar.muli v254 c1_i32_276
  let v257 : BitVec 32 := Scalar.addi c0_i32_277 v256
  v257.toNat
def k0_dev17 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_281 : BitVec 32 := 2#32
  let v265 : BitVec 32 := Scalar.addi v2 c2_i32_281
  let c16_i32_282 : BitVec 32 := 16#32
  let v266 : BitVec 32 := Scalar.remsi v265 c16_i32_282
  let c1_i32_289 : BitVec 32 := 1#32
  let v268 : BitVec 32 := Scalar.muli v266 c1_i32_289
  let v269 : BitVec 32 := Scalar.addi c0_i32_290 v268
  v269.toNat
def k0_dev18 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_294 : BitVec 32 := 3#32
  let v277 : BitVec 32 := Scalar.addi v2 c3_i32_294
  let c16_i32_295 : BitVec 32 := 16#32
  let v278 : BitVec 32 := Scalar.remsi v277 c16_i32_295
  let c1_i32_302 : BitVec 32 := 1#32
  let v280 : BitVec 32 := Scalar.muli v278 c1_i32_302
  let v281 : BitVec 32 := Scalar.addi c0_i32_303 v280
  v281.toNat
def k0_dev19 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_307 : BitVec 32 := 4#32
  let v289 : BitVec 32 := Scalar.addi v2 c4_i32_307
  let c16_i32_308 : BitVec 32 := 16#32
  let v290 : BitVec 32 := Scalar.remsi v289 c16_i32_308
  let c1_i32_315 : BitVec 32 := 1#32
  let v292 : BitVec 32 := Scalar.muli v290 c1_i32_315
  let v293 : BitVec 32 := Scalar.addi c0_i32_316 v292
  v293.toNat
def k0_dev20 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_320 : BitVec 32 := 5#32
  let v301 : BitVec 32 := Scalar.addi v2 c5_i32_320
  let c16_i32_321 : BitVec 32 := 16#32
  let v302 : BitVec 32 := Scalar.remsi v301 c16_i32_321
  let c1_i32_328 : BitVec 32 := 1#32
  let v304 : BitVec 32 := Scalar.muli v302 c1_i32_328
  let v305 : BitVec 32 := Scalar.addi c0_i32_329 v304
  v305.toNat
def k0_dev21 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_333 : BitVec 32 := 6#32
  let v313 : BitVec 32 := Scalar.addi v2 c6_i32_333
  let c16_i32_334 : BitVec 32 := 16#32
  let v314 : BitVec 32 := Scalar.remsi v313 c16_i32_334
  let c1_i32_341 : BitVec 32 := 1#32
  let v316 : BitVec 32 := Scalar.muli v314 c1_i32_341
  let v317 : BitVec 32 := Scalar.addi c0_i32_342 v316
  v317.toNat
def k0_dev22 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_346 : BitVec 32 := 7#32
  let v325 : BitVec 32 := Scalar.addi v2 c7_i32_346
  let c16_i32_347 : BitVec 32 := 16#32
  let v326 : BitVec 32 := Scalar.remsi v325 c16_i32_347
  let c1_i32_354 : BitVec 32 := 1#32
  let v328 : BitVec 32 := Scalar.muli v326 c1_i32_354
  let v329 : BitVec 32 := Scalar.addi c0_i32_355 v328
  v329.toNat
def k0_dev23 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_359 : BitVec 32 := 8#32
  let v337 : BitVec 32 := Scalar.addi v2 c8_i32_359
  let c16_i32_360 : BitVec 32 := 16#32
  let v338 : BitVec 32 := Scalar.remsi v337 c16_i32_360
  let c1_i32_367 : BitVec 32 := 1#32
  let v340 : BitVec 32 := Scalar.muli v338 c1_i32_367
  let v341 : BitVec 32 := Scalar.addi c0_i32_368 v340
  v341.toNat
def k0_dev24 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_372 : BitVec 32 := 9#32
  let v349 : BitVec 32 := Scalar.addi v2 c9_i32_372
  let c16_i32_373 : BitVec 32 := 16#32
  let v350 : BitVec 32 := Scalar.remsi v349 c16_i32_373
  let c1_i32_380 : BitVec 32 := 1#32
  let v352 : BitVec 32 := Scalar.muli v350 c1_i32_380
  let v353 : BitVec 32 := Scalar.addi c0_i32_381 v352
  v353.toNat
def k0_dev25 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_385 : BitVec 32 := 10#32
  let v361 : BitVec 32 := Scalar.addi v2 c10_i32_385
  let c16_i32_386 : BitVec 32 := 16#32
  let v362 : BitVec 32 := Scalar.remsi v361 c16_i32_386
  let c1_i32_393 : BitVec 32 := 1#32
  let v364 : BitVec 32 := Scalar.muli v362 c1_i32_393
  let v365 : BitVec 32 := Scalar.addi c0_i32_394 v364
  v365.toNat
def k0_dev26 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_398 : BitVec 32 := 11#32
  let v373 : BitVec 32 := Scalar.addi v2 c11_i32_398
  let c16_i32_399 : BitVec 32 := 16#32
  let v374 : BitVec 32 := Scalar.remsi v373 c16_i32_399
  let c1_i32_406 : BitVec 32 := 1#32
  let v376 : BitVec 32 := Scalar.muli v374 c1_i32_406
  let v377 : BitVec 32 := Scalar.addi c0_i32_407 v376
  v377.toNat
def k0_dev27 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_411 : BitVec 32 := 12#32
  let v385 : BitVec 32 := Scalar.addi v2 c12_i32_411
  let c16_i32_412 : BitVec 32 := 16#32
  let v386 : BitVec 32 := Scalar.remsi v385 c16_i32_412
  let c1_i32_419 : BitVec 32 := 1#32
  let v388 : BitVec 32 := Scalar.muli v386 c1_i32_419
  let v389 : BitVec 32 := Scalar.addi c0_i32_420 v388
  v389.toNat
def k0_dev28 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_424 : BitVec 32 := 13#32
  let v397 : BitVec 32 := Scalar.addi v2 c13_i32_424
  let c16_i32_425 : BitVec 32 := 16#32
  let v398 : BitVec 32 := Scalar.remsi v397 c16_i32_425
  let c1_i32_432 : BitVec 32 := 1#32
  let v400 : BitVec 32 := Scalar.muli v398 c1_i32_432
  let v401 : BitVec 32 := Scalar.addi c0_i32_433 v400
  v401.toNat
def k0_dev29 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_437 : BitVec 32 := 14#32
  let v409 : BitVec 32 := Scalar.addi v2 c14_i32_437
  let c16_i32_438 : BitVec 32 := 16#32
  let v410 : BitVec 32 := Scalar.remsi v409 c16_i32_438
  let c1_i32_445 : BitVec 32 := 1#32
  let v412 : BitVec 32 := Scalar.muli v410 c1_i32_445
  let v413 : BitVec 32 := Scalar.addi c0_i32_446 v412
  v413.toNat
def k0_dev30 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_450 : BitVec 32 := 15#32
  let v421 : BitVec 32 := Scalar.addi v2 c15_i32_450
  let c16_i32_451 : BitVec 32 := 16#32
  let v422 : BitVec 32 := Scalar.remsi v421 c16_i32_451
  let c1_i32_458 : BitVec 32 := 1#32
  let v424 : BitVec 32 := Scalar.muli v422 c1_i32_458
  let v425 : BitVec 32 := Scalar.addi c0_i32_459 v424
  v425.toNat
def k0_off2 (d0 : Dev nD) (c1_i32_519 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v517 : BitVec 32 := Scalar.addi v2 c1_i32_519
  let c16_i32_520 : BitVec 32 := 16#32
  let v518 : BitVec 32 := Scalar.remsi v517 c16_i32_520
  let c16_i32_521 : BitVec 32 := 16#32
  let v519 : BitVec 32 := Scalar.muli v518 c16_i32_521
  let c256_i32_530 : BitVec 32 := 256#32
  ![v519.toNat, 256]
def k0_dev31 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_519 : BitVec 32 := 1#32
  let v517 : BitVec 32 := Scalar.addi v2 c1_i32_519
  let c16_i32_520 : BitVec 32 := 16#32
  let v518 : BitVec 32 := Scalar.remsi v517 c16_i32_520
  let c1_i32_527 : BitVec 32 := 1#32
  let v520 : BitVec 32 := Scalar.muli v518 c1_i32_527
  let v521 : BitVec 32 := Scalar.addi c0_i32_528 v520
  v521.toNat
def k0_dev32 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_531 : BitVec 32 := 2#32
  let v529 : BitVec 32 := Scalar.addi v2 c2_i32_531
  let c16_i32_532 : BitVec 32 := 16#32
  let v530 : BitVec 32 := Scalar.remsi v529 c16_i32_532
  let c1_i32_539 : BitVec 32 := 1#32
  let v532 : BitVec 32 := Scalar.muli v530 c1_i32_539
  let v533 : BitVec 32 := Scalar.addi c0_i32_540 v532
  v533.toNat
def k0_dev33 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_544 : BitVec 32 := 3#32
  let v541 : BitVec 32 := Scalar.addi v2 c3_i32_544
  let c16_i32_545 : BitVec 32 := 16#32
  let v542 : BitVec 32 := Scalar.remsi v541 c16_i32_545
  let c1_i32_552 : BitVec 32 := 1#32
  let v544 : BitVec 32 := Scalar.muli v542 c1_i32_552
  let v545 : BitVec 32 := Scalar.addi c0_i32_553 v544
  v545.toNat
def k0_dev34 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_557 : BitVec 32 := 4#32
  let v553 : BitVec 32 := Scalar.addi v2 c4_i32_557
  let c16_i32_558 : BitVec 32 := 16#32
  let v554 : BitVec 32 := Scalar.remsi v553 c16_i32_558
  let c1_i32_565 : BitVec 32 := 1#32
  let v556 : BitVec 32 := Scalar.muli v554 c1_i32_565
  let v557 : BitVec 32 := Scalar.addi c0_i32_566 v556
  v557.toNat
def k0_dev35 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_570 : BitVec 32 := 5#32
  let v565 : BitVec 32 := Scalar.addi v2 c5_i32_570
  let c16_i32_571 : BitVec 32 := 16#32
  let v566 : BitVec 32 := Scalar.remsi v565 c16_i32_571
  let c1_i32_578 : BitVec 32 := 1#32
  let v568 : BitVec 32 := Scalar.muli v566 c1_i32_578
  let v569 : BitVec 32 := Scalar.addi c0_i32_579 v568
  v569.toNat
def k0_dev36 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_583 : BitVec 32 := 6#32
  let v577 : BitVec 32 := Scalar.addi v2 c6_i32_583
  let c16_i32_584 : BitVec 32 := 16#32
  let v578 : BitVec 32 := Scalar.remsi v577 c16_i32_584
  let c1_i32_591 : BitVec 32 := 1#32
  let v580 : BitVec 32 := Scalar.muli v578 c1_i32_591
  let v581 : BitVec 32 := Scalar.addi c0_i32_592 v580
  v581.toNat
def k0_dev37 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_596 : BitVec 32 := 7#32
  let v589 : BitVec 32 := Scalar.addi v2 c7_i32_596
  let c16_i32_597 : BitVec 32 := 16#32
  let v590 : BitVec 32 := Scalar.remsi v589 c16_i32_597
  let c1_i32_604 : BitVec 32 := 1#32
  let v592 : BitVec 32 := Scalar.muli v590 c1_i32_604
  let v593 : BitVec 32 := Scalar.addi c0_i32_605 v592
  v593.toNat
def k0_dev38 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_609 : BitVec 32 := 8#32
  let v601 : BitVec 32 := Scalar.addi v2 c8_i32_609
  let c16_i32_610 : BitVec 32 := 16#32
  let v602 : BitVec 32 := Scalar.remsi v601 c16_i32_610
  let c1_i32_617 : BitVec 32 := 1#32
  let v604 : BitVec 32 := Scalar.muli v602 c1_i32_617
  let v605 : BitVec 32 := Scalar.addi c0_i32_618 v604
  v605.toNat
def k0_dev39 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_622 : BitVec 32 := 9#32
  let v613 : BitVec 32 := Scalar.addi v2 c9_i32_622
  let c16_i32_623 : BitVec 32 := 16#32
  let v614 : BitVec 32 := Scalar.remsi v613 c16_i32_623
  let c1_i32_630 : BitVec 32 := 1#32
  let v616 : BitVec 32 := Scalar.muli v614 c1_i32_630
  let v617 : BitVec 32 := Scalar.addi c0_i32_631 v616
  v617.toNat
def k0_dev40 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_635 : BitVec 32 := 10#32
  let v625 : BitVec 32 := Scalar.addi v2 c10_i32_635
  let c16_i32_636 : BitVec 32 := 16#32
  let v626 : BitVec 32 := Scalar.remsi v625 c16_i32_636
  let c1_i32_643 : BitVec 32 := 1#32
  let v628 : BitVec 32 := Scalar.muli v626 c1_i32_643
  let v629 : BitVec 32 := Scalar.addi c0_i32_644 v628
  v629.toNat
def k0_dev41 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_648 : BitVec 32 := 11#32
  let v637 : BitVec 32 := Scalar.addi v2 c11_i32_648
  let c16_i32_649 : BitVec 32 := 16#32
  let v638 : BitVec 32 := Scalar.remsi v637 c16_i32_649
  let c1_i32_656 : BitVec 32 := 1#32
  let v640 : BitVec 32 := Scalar.muli v638 c1_i32_656
  let v641 : BitVec 32 := Scalar.addi c0_i32_657 v640
  v641.toNat
def k0_dev42 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_661 : BitVec 32 := 12#32
  let v649 : BitVec 32 := Scalar.addi v2 c12_i32_661
  let c16_i32_662 : BitVec 32 := 16#32
  let v650 : BitVec 32 := Scalar.remsi v649 c16_i32_662
  let c1_i32_669 : BitVec 32 := 1#32
  let v652 : BitVec 32 := Scalar.muli v650 c1_i32_669
  let v653 : BitVec 32 := Scalar.addi c0_i32_670 v652
  v653.toNat
def k0_dev43 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_674 : BitVec 32 := 13#32
  let v661 : BitVec 32 := Scalar.addi v2 c13_i32_674
  let c16_i32_675 : BitVec 32 := 16#32
  let v662 : BitVec 32 := Scalar.remsi v661 c16_i32_675
  let c1_i32_682 : BitVec 32 := 1#32
  let v664 : BitVec 32 := Scalar.muli v662 c1_i32_682
  let v665 : BitVec 32 := Scalar.addi c0_i32_683 v664
  v665.toNat
def k0_dev44 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_687 : BitVec 32 := 14#32
  let v673 : BitVec 32 := Scalar.addi v2 c14_i32_687
  let c16_i32_688 : BitVec 32 := 16#32
  let v674 : BitVec 32 := Scalar.remsi v673 c16_i32_688
  let c1_i32_695 : BitVec 32 := 1#32
  let v676 : BitVec 32 := Scalar.muli v674 c1_i32_695
  let v677 : BitVec 32 := Scalar.addi c0_i32_696 v676
  v677.toNat
def k0_dev45 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_700 : BitVec 32 := 15#32
  let v685 : BitVec 32 := Scalar.addi v2 c15_i32_700
  let c16_i32_701 : BitVec 32 := 16#32
  let v686 : BitVec 32 := Scalar.remsi v685 c16_i32_701
  let c1_i32_708 : BitVec 32 := 1#32
  let v688 : BitVec 32 := Scalar.muli v686 c1_i32_708
  let v689 : BitVec 32 := Scalar.addi c0_i32_709 v688
  v689.toNat
def k0_off3 (d0 : Dev nD) (c1_i32_769 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v781 : BitVec 32 := Scalar.addi v2 c1_i32_769
  let c16_i32_770 : BitVec 32 := 16#32
  let v782 : BitVec 32 := Scalar.remsi v781 c16_i32_770
  let c16_i32_771 : BitVec 32 := 16#32
  let v783 : BitVec 32 := Scalar.muli v782 c16_i32_771
  let c512_i32_780 : BitVec 32 := 512#32
  ![v783.toNat, 512]
def k0_dev46 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_769 : BitVec 32 := 1#32
  let v781 : BitVec 32 := Scalar.addi v2 c1_i32_769
  let c16_i32_770 : BitVec 32 := 16#32
  let v782 : BitVec 32 := Scalar.remsi v781 c16_i32_770
  let c1_i32_777 : BitVec 32 := 1#32
  let v784 : BitVec 32 := Scalar.muli v782 c1_i32_777
  let v785 : BitVec 32 := Scalar.addi c0_i32_778 v784
  v785.toNat
def k0_dev47 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_781 : BitVec 32 := 2#32
  let v793 : BitVec 32 := Scalar.addi v2 c2_i32_781
  let c16_i32_782 : BitVec 32 := 16#32
  let v794 : BitVec 32 := Scalar.remsi v793 c16_i32_782
  let c1_i32_789 : BitVec 32 := 1#32
  let v796 : BitVec 32 := Scalar.muli v794 c1_i32_789
  let v797 : BitVec 32 := Scalar.addi c0_i32_790 v796
  v797.toNat
def k0_dev48 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_794 : BitVec 32 := 3#32
  let v805 : BitVec 32 := Scalar.addi v2 c3_i32_794
  let c16_i32_795 : BitVec 32 := 16#32
  let v806 : BitVec 32 := Scalar.remsi v805 c16_i32_795
  let c1_i32_802 : BitVec 32 := 1#32
  let v808 : BitVec 32 := Scalar.muli v806 c1_i32_802
  let v809 : BitVec 32 := Scalar.addi c0_i32_803 v808
  v809.toNat
def k0_dev49 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_807 : BitVec 32 := 4#32
  let v817 : BitVec 32 := Scalar.addi v2 c4_i32_807
  let c16_i32_808 : BitVec 32 := 16#32
  let v818 : BitVec 32 := Scalar.remsi v817 c16_i32_808
  let c1_i32_815 : BitVec 32 := 1#32
  let v820 : BitVec 32 := Scalar.muli v818 c1_i32_815
  let v821 : BitVec 32 := Scalar.addi c0_i32_816 v820
  v821.toNat
def k0_dev50 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_820 : BitVec 32 := 5#32
  let v829 : BitVec 32 := Scalar.addi v2 c5_i32_820
  let c16_i32_821 : BitVec 32 := 16#32
  let v830 : BitVec 32 := Scalar.remsi v829 c16_i32_821
  let c1_i32_828 : BitVec 32 := 1#32
  let v832 : BitVec 32 := Scalar.muli v830 c1_i32_828
  let v833 : BitVec 32 := Scalar.addi c0_i32_829 v832
  v833.toNat
def k0_dev51 (d0 : Dev nD) : Nat :=
  let c0_i32_842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_833 : BitVec 32 := 6#32
  let v841 : BitVec 32 := Scalar.addi v2 c6_i32_833
  let c16_i32_834 : BitVec 32 := 16#32
  let v842 : BitVec 32 := Scalar.remsi v841 c16_i32_834
  let c1_i32_841 : BitVec 32 := 1#32
  let v844 : BitVec 32 := Scalar.muli v842 c1_i32_841
  let v845 : BitVec 32 := Scalar.addi c0_i32_842 v844
  v845.toNat
def k0_dev52 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_846 : BitVec 32 := 7#32
  let v853 : BitVec 32 := Scalar.addi v2 c7_i32_846
  let c16_i32_847 : BitVec 32 := 16#32
  let v854 : BitVec 32 := Scalar.remsi v853 c16_i32_847
  let c1_i32_854 : BitVec 32 := 1#32
  let v856 : BitVec 32 := Scalar.muli v854 c1_i32_854
  let v857 : BitVec 32 := Scalar.addi c0_i32_855 v856
  v857.toNat
def k0_dev53 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_859 : BitVec 32 := 8#32
  let v865 : BitVec 32 := Scalar.addi v2 c8_i32_859
  let c16_i32_860 : BitVec 32 := 16#32
  let v866 : BitVec 32 := Scalar.remsi v865 c16_i32_860
  let c1_i32_867 : BitVec 32 := 1#32
  let v868 : BitVec 32 := Scalar.muli v866 c1_i32_867
  let v869 : BitVec 32 := Scalar.addi c0_i32_868 v868
  v869.toNat
def k0_dev54 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_872 : BitVec 32 := 9#32
  let v877 : BitVec 32 := Scalar.addi v2 c9_i32_872
  let c16_i32_873 : BitVec 32 := 16#32
  let v878 : BitVec 32 := Scalar.remsi v877 c16_i32_873
  let c1_i32_880 : BitVec 32 := 1#32
  let v880 : BitVec 32 := Scalar.muli v878 c1_i32_880
  let v881 : BitVec 32 := Scalar.addi c0_i32_881 v880
  v881.toNat
def k0_dev55 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_885 : BitVec 32 := 10#32
  let v889 : BitVec 32 := Scalar.addi v2 c10_i32_885
  let c16_i32_886 : BitVec 32 := 16#32
  let v890 : BitVec 32 := Scalar.remsi v889 c16_i32_886
  let c1_i32_893 : BitVec 32 := 1#32
  let v892 : BitVec 32 := Scalar.muli v890 c1_i32_893
  let v893 : BitVec 32 := Scalar.addi c0_i32_894 v892
  v893.toNat
def k0_dev56 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_898 : BitVec 32 := 11#32
  let v901 : BitVec 32 := Scalar.addi v2 c11_i32_898
  let c16_i32_899 : BitVec 32 := 16#32
  let v902 : BitVec 32 := Scalar.remsi v901 c16_i32_899
  let c1_i32_906 : BitVec 32 := 1#32
  let v904 : BitVec 32 := Scalar.muli v902 c1_i32_906
  let v905 : BitVec 32 := Scalar.addi c0_i32_907 v904
  v905.toNat
def k0_dev57 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_911 : BitVec 32 := 12#32
  let v913 : BitVec 32 := Scalar.addi v2 c12_i32_911
  let c16_i32_912 : BitVec 32 := 16#32
  let v914 : BitVec 32 := Scalar.remsi v913 c16_i32_912
  let c1_i32_919 : BitVec 32 := 1#32
  let v916 : BitVec 32 := Scalar.muli v914 c1_i32_919
  let v917 : BitVec 32 := Scalar.addi c0_i32_920 v916
  v917.toNat
def k0_dev58 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_924 : BitVec 32 := 13#32
  let v925 : BitVec 32 := Scalar.addi v2 c13_i32_924
  let c16_i32_925 : BitVec 32 := 16#32
  let v926 : BitVec 32 := Scalar.remsi v925 c16_i32_925
  let c1_i32_932 : BitVec 32 := 1#32
  let v928 : BitVec 32 := Scalar.muli v926 c1_i32_932
  let v929 : BitVec 32 := Scalar.addi c0_i32_933 v928
  v929.toNat
def k0_dev59 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_937 : BitVec 32 := 14#32
  let v937 : BitVec 32 := Scalar.addi v2 c14_i32_937
  let c16_i32_938 : BitVec 32 := 16#32
  let v938 : BitVec 32 := Scalar.remsi v937 c16_i32_938
  let c1_i32_945 : BitVec 32 := 1#32
  let v940 : BitVec 32 := Scalar.muli v938 c1_i32_945
  let v941 : BitVec 32 := Scalar.addi c0_i32_946 v940
  v941.toNat
def k0_dev60 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_950 : BitVec 32 := 15#32
  let v949 : BitVec 32 := Scalar.addi v2 c15_i32_950
  let c16_i32_951 : BitVec 32 := 16#32
  let v950 : BitVec 32 := Scalar.remsi v949 c16_i32_951
  let c1_i32_958 : BitVec 32 := 1#32
  let v952 : BitVec 32 := Scalar.muli v950 c1_i32_958
  let v953 : BitVec 32 := Scalar.addi c0_i32_959 v952
  v953.toNat
def k0_off4 (d0 : Dev nD) (c1_i32_1019 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1045 : BitVec 32 := Scalar.addi v2 c1_i32_1019
  let c16_i32_1020 : BitVec 32 := 16#32
  let v1046 : BitVec 32 := Scalar.remsi v1045 c16_i32_1020
  let c16_i32_1021 : BitVec 32 := 16#32
  let v1047 : BitVec 32 := Scalar.muli v1046 c16_i32_1021
  let c768_i32_1030 : BitVec 32 := 768#32
  ![v1047.toNat, 768]
def k0_dev61 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1019 : BitVec 32 := 1#32
  let v1045 : BitVec 32 := Scalar.addi v2 c1_i32_1019
  let c16_i32_1020 : BitVec 32 := 16#32
  let v1046 : BitVec 32 := Scalar.remsi v1045 c16_i32_1020
  let c1_i32_1027 : BitVec 32 := 1#32
  let v1048 : BitVec 32 := Scalar.muli v1046 c1_i32_1027
  let v1049 : BitVec 32 := Scalar.addi c0_i32_1028 v1048
  v1049.toNat
def k0_dev62 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1031 : BitVec 32 := 2#32
  let v1057 : BitVec 32 := Scalar.addi v2 c2_i32_1031
  let c16_i32_1032 : BitVec 32 := 16#32
  let v1058 : BitVec 32 := Scalar.remsi v1057 c16_i32_1032
  let c1_i32_1039 : BitVec 32 := 1#32
  let v1060 : BitVec 32 := Scalar.muli v1058 c1_i32_1039
  let v1061 : BitVec 32 := Scalar.addi c0_i32_1040 v1060
  v1061.toNat
def k0_dev63 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1044 : BitVec 32 := 3#32
  let v1069 : BitVec 32 := Scalar.addi v2 c3_i32_1044
  let c16_i32_1045 : BitVec 32 := 16#32
  let v1070 : BitVec 32 := Scalar.remsi v1069 c16_i32_1045
  let c1_i32_1052 : BitVec 32 := 1#32
  let v1072 : BitVec 32 := Scalar.muli v1070 c1_i32_1052
  let v1073 : BitVec 32 := Scalar.addi c0_i32_1053 v1072
  v1073.toNat
def k0_dev64 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1057 : BitVec 32 := 4#32
  let v1081 : BitVec 32 := Scalar.addi v2 c4_i32_1057
  let c16_i32_1058 : BitVec 32 := 16#32
  let v1082 : BitVec 32 := Scalar.remsi v1081 c16_i32_1058
  let c1_i32_1065 : BitVec 32 := 1#32
  let v1084 : BitVec 32 := Scalar.muli v1082 c1_i32_1065
  let v1085 : BitVec 32 := Scalar.addi c0_i32_1066 v1084
  v1085.toNat
def k0_dev65 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1070 : BitVec 32 := 5#32
  let v1093 : BitVec 32 := Scalar.addi v2 c5_i32_1070
  let c16_i32_1071 : BitVec 32 := 16#32
  let v1094 : BitVec 32 := Scalar.remsi v1093 c16_i32_1071
  let c1_i32_1078 : BitVec 32 := 1#32
  let v1096 : BitVec 32 := Scalar.muli v1094 c1_i32_1078
  let v1097 : BitVec 32 := Scalar.addi c0_i32_1079 v1096
  v1097.toNat
def k0_dev66 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1083 : BitVec 32 := 6#32
  let v1105 : BitVec 32 := Scalar.addi v2 c6_i32_1083
  let c16_i32_1084 : BitVec 32 := 16#32
  let v1106 : BitVec 32 := Scalar.remsi v1105 c16_i32_1084
  let c1_i32_1091 : BitVec 32 := 1#32
  let v1108 : BitVec 32 := Scalar.muli v1106 c1_i32_1091
  let v1109 : BitVec 32 := Scalar.addi c0_i32_1092 v1108
  v1109.toNat
def k0_dev67 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1096 : BitVec 32 := 7#32
  let v1117 : BitVec 32 := Scalar.addi v2 c7_i32_1096
  let c16_i32_1097 : BitVec 32 := 16#32
  let v1118 : BitVec 32 := Scalar.remsi v1117 c16_i32_1097
  let c1_i32_1104 : BitVec 32 := 1#32
  let v1120 : BitVec 32 := Scalar.muli v1118 c1_i32_1104
  let v1121 : BitVec 32 := Scalar.addi c0_i32_1105 v1120
  v1121.toNat
def k0_dev68 (d0 : Dev nD) : Nat :=
  let c0_i32_1118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1109 : BitVec 32 := 8#32
  let v1129 : BitVec 32 := Scalar.addi v2 c8_i32_1109
  let c16_i32_1110 : BitVec 32 := 16#32
  let v1130 : BitVec 32 := Scalar.remsi v1129 c16_i32_1110
  let c1_i32_1117 : BitVec 32 := 1#32
  let v1132 : BitVec 32 := Scalar.muli v1130 c1_i32_1117
  let v1133 : BitVec 32 := Scalar.addi c0_i32_1118 v1132
  v1133.toNat
def k0_dev69 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1122 : BitVec 32 := 9#32
  let v1141 : BitVec 32 := Scalar.addi v2 c9_i32_1122
  let c16_i32_1123 : BitVec 32 := 16#32
  let v1142 : BitVec 32 := Scalar.remsi v1141 c16_i32_1123
  let c1_i32_1130 : BitVec 32 := 1#32
  let v1144 : BitVec 32 := Scalar.muli v1142 c1_i32_1130
  let v1145 : BitVec 32 := Scalar.addi c0_i32_1131 v1144
  v1145.toNat
def k0_dev70 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1135 : BitVec 32 := 10#32
  let v1153 : BitVec 32 := Scalar.addi v2 c10_i32_1135
  let c16_i32_1136 : BitVec 32 := 16#32
  let v1154 : BitVec 32 := Scalar.remsi v1153 c16_i32_1136
  let c1_i32_1143 : BitVec 32 := 1#32
  let v1156 : BitVec 32 := Scalar.muli v1154 c1_i32_1143
  let v1157 : BitVec 32 := Scalar.addi c0_i32_1144 v1156
  v1157.toNat
def k0_dev71 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1148 : BitVec 32 := 11#32
  let v1165 : BitVec 32 := Scalar.addi v2 c11_i32_1148
  let c16_i32_1149 : BitVec 32 := 16#32
  let v1166 : BitVec 32 := Scalar.remsi v1165 c16_i32_1149
  let c1_i32_1156 : BitVec 32 := 1#32
  let v1168 : BitVec 32 := Scalar.muli v1166 c1_i32_1156
  let v1169 : BitVec 32 := Scalar.addi c0_i32_1157 v1168
  v1169.toNat
def k0_dev72 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1161 : BitVec 32 := 12#32
  let v1177 : BitVec 32 := Scalar.addi v2 c12_i32_1161
  let c16_i32_1162 : BitVec 32 := 16#32
  let v1178 : BitVec 32 := Scalar.remsi v1177 c16_i32_1162
  let c1_i32_1169 : BitVec 32 := 1#32
  let v1180 : BitVec 32 := Scalar.muli v1178 c1_i32_1169
  let v1181 : BitVec 32 := Scalar.addi c0_i32_1170 v1180
  v1181.toNat
def k0_dev73 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1174 : BitVec 32 := 13#32
  let v1189 : BitVec 32 := Scalar.addi v2 c13_i32_1174
  let c16_i32_1175 : BitVec 32 := 16#32
  let v1190 : BitVec 32 := Scalar.remsi v1189 c16_i32_1175
  let c1_i32_1182 : BitVec 32 := 1#32
  let v1192 : BitVec 32 := Scalar.muli v1190 c1_i32_1182
  let v1193 : BitVec 32 := Scalar.addi c0_i32_1183 v1192
  v1193.toNat
def k0_dev74 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1187 : BitVec 32 := 14#32
  let v1201 : BitVec 32 := Scalar.addi v2 c14_i32_1187
  let c16_i32_1188 : BitVec 32 := 16#32
  let v1202 : BitVec 32 := Scalar.remsi v1201 c16_i32_1188
  let c1_i32_1195 : BitVec 32 := 1#32
  let v1204 : BitVec 32 := Scalar.muli v1202 c1_i32_1195
  let v1205 : BitVec 32 := Scalar.addi c0_i32_1196 v1204
  v1205.toNat
def k0_dev75 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1200 : BitVec 32 := 15#32
  let v1213 : BitVec 32 := Scalar.addi v2 c15_i32_1200
  let c16_i32_1201 : BitVec 32 := 16#32
  let v1214 : BitVec 32 := Scalar.remsi v1213 c16_i32_1201
  let c1_i32_1208 : BitVec 32 := 1#32
  let v1216 : BitVec 32 := Scalar.muli v1214 c1_i32_1208
  let v1217 : BitVec 32 := Scalar.addi c0_i32_1209 v1216
  v1217.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1933 : BitVec 32 := 16#32
  let v1705 : BitVec 32 := Scalar.muli v2 c16_i32_1933
  let v1706 : Index := Scalar.indexCast v1705
  let c0_1934 : Index := 0#32
  ![v1706.toNat, 0]
def k0_off6 (d0 : Dev nD) : Fin 3 → Nat :=
  let c0_1995 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1994 : BitVec 32 := 16#32
  let v1838 : BitVec 32 := Scalar.muli v2 c16_i32_1994
  let v1839 : Index := Scalar.indexCast v1838
  let c0_1996 : Index := 0#32
  ![0, v1839.toNat, 0]
def k0_dev76 (d0 : Dev nD) : Nat :=
  let c0_i32_2005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1999 : BitVec 32 := 1#32
  let v1847 : BitVec 32 := Scalar.addi v2 c1_i32_1999
  let c16_i32_2000 : BitVec 32 := 16#32
  let v1848 : BitVec 32 := Scalar.remsi v1847 c16_i32_2000
  let c1_i32_2004 : BitVec 32 := 1#32
  let v1849 : BitVec 32 := Scalar.muli v1848 c1_i32_2004
  let v1850 : BitVec 32 := Scalar.addi c0_i32_2005 v1849
  v1850.toNat
def k0_dev77 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2008 : BitVec 32 := 2#32
  let v1857 : BitVec 32 := Scalar.addi v2 c2_i32_2008
  let c16_i32_2009 : BitVec 32 := 16#32
  let v1858 : BitVec 32 := Scalar.remsi v1857 c16_i32_2009
  let c1_i32_2013 : BitVec 32 := 1#32
  let v1859 : BitVec 32 := Scalar.muli v1858 c1_i32_2013
  let v1860 : BitVec 32 := Scalar.addi c0_i32_2014 v1859
  v1860.toNat
def k0_dev78 (d0 : Dev nD) : Nat :=
  let c0_i32_2023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2017 : BitVec 32 := 3#32
  let v1867 : BitVec 32 := Scalar.addi v2 c3_i32_2017
  let c16_i32_2018 : BitVec 32 := 16#32
  let v1868 : BitVec 32 := Scalar.remsi v1867 c16_i32_2018
  let c1_i32_2022 : BitVec 32 := 1#32
  let v1869 : BitVec 32 := Scalar.muli v1868 c1_i32_2022
  let v1870 : BitVec 32 := Scalar.addi c0_i32_2023 v1869
  v1870.toNat
def k0_dev79 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2026 : BitVec 32 := 4#32
  let v1877 : BitVec 32 := Scalar.addi v2 c4_i32_2026
  let c16_i32_2027 : BitVec 32 := 16#32
  let v1878 : BitVec 32 := Scalar.remsi v1877 c16_i32_2027
  let c1_i32_2031 : BitVec 32 := 1#32
  let v1879 : BitVec 32 := Scalar.muli v1878 c1_i32_2031
  let v1880 : BitVec 32 := Scalar.addi c0_i32_2032 v1879
  v1880.toNat
def k0_dev80 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2035 : BitVec 32 := 5#32
  let v1887 : BitVec 32 := Scalar.addi v2 c5_i32_2035
  let c16_i32_2036 : BitVec 32 := 16#32
  let v1888 : BitVec 32 := Scalar.remsi v1887 c16_i32_2036
  let c1_i32_2040 : BitVec 32 := 1#32
  let v1889 : BitVec 32 := Scalar.muli v1888 c1_i32_2040
  let v1890 : BitVec 32 := Scalar.addi c0_i32_2041 v1889
  v1890.toNat
def k0_dev81 (d0 : Dev nD) : Nat :=
  let c0_i32_2050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2044 : BitVec 32 := 6#32
  let v1897 : BitVec 32 := Scalar.addi v2 c6_i32_2044
  let c16_i32_2045 : BitVec 32 := 16#32
  let v1898 : BitVec 32 := Scalar.remsi v1897 c16_i32_2045
  let c1_i32_2049 : BitVec 32 := 1#32
  let v1899 : BitVec 32 := Scalar.muli v1898 c1_i32_2049
  let v1900 : BitVec 32 := Scalar.addi c0_i32_2050 v1899
  v1900.toNat
def k0_dev82 (d0 : Dev nD) : Nat :=
  let c0_i32_2059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2053 : BitVec 32 := 7#32
  let v1907 : BitVec 32 := Scalar.addi v2 c7_i32_2053
  let c16_i32_2054 : BitVec 32 := 16#32
  let v1908 : BitVec 32 := Scalar.remsi v1907 c16_i32_2054
  let c1_i32_2058 : BitVec 32 := 1#32
  let v1909 : BitVec 32 := Scalar.muli v1908 c1_i32_2058
  let v1910 : BitVec 32 := Scalar.addi c0_i32_2059 v1909
  v1910.toNat
def k0_dev83 (d0 : Dev nD) : Nat :=
  let c0_i32_2068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2062 : BitVec 32 := 8#32
  let v1917 : BitVec 32 := Scalar.addi v2 c8_i32_2062
  let c16_i32_2063 : BitVec 32 := 16#32
  let v1918 : BitVec 32 := Scalar.remsi v1917 c16_i32_2063
  let c1_i32_2067 : BitVec 32 := 1#32
  let v1919 : BitVec 32 := Scalar.muli v1918 c1_i32_2067
  let v1920 : BitVec 32 := Scalar.addi c0_i32_2068 v1919
  v1920.toNat
def k0_dev84 (d0 : Dev nD) : Nat :=
  let c0_i32_2077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2071 : BitVec 32 := 9#32
  let v1927 : BitVec 32 := Scalar.addi v2 c9_i32_2071
  let c16_i32_2072 : BitVec 32 := 16#32
  let v1928 : BitVec 32 := Scalar.remsi v1927 c16_i32_2072
  let c1_i32_2076 : BitVec 32 := 1#32
  let v1929 : BitVec 32 := Scalar.muli v1928 c1_i32_2076
  let v1930 : BitVec 32 := Scalar.addi c0_i32_2077 v1929
  v1930.toNat
def k0_dev85 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2080 : BitVec 32 := 10#32
  let v1937 : BitVec 32 := Scalar.addi v2 c10_i32_2080
  let c16_i32_2081 : BitVec 32 := 16#32
  let v1938 : BitVec 32 := Scalar.remsi v1937 c16_i32_2081
  let c1_i32_2085 : BitVec 32 := 1#32
  let v1939 : BitVec 32 := Scalar.muli v1938 c1_i32_2085
  let v1940 : BitVec 32 := Scalar.addi c0_i32_2086 v1939
  v1940.toNat
def k0_dev86 (d0 : Dev nD) : Nat :=
  let c0_i32_2095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2089 : BitVec 32 := 11#32
  let v1947 : BitVec 32 := Scalar.addi v2 c11_i32_2089
  let c16_i32_2090 : BitVec 32 := 16#32
  let v1948 : BitVec 32 := Scalar.remsi v1947 c16_i32_2090
  let c1_i32_2094 : BitVec 32 := 1#32
  let v1949 : BitVec 32 := Scalar.muli v1948 c1_i32_2094
  let v1950 : BitVec 32 := Scalar.addi c0_i32_2095 v1949
  v1950.toNat
def k0_dev87 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2098 : BitVec 32 := 12#32
  let v1957 : BitVec 32 := Scalar.addi v2 c12_i32_2098
  let c16_i32_2099 : BitVec 32 := 16#32
  let v1958 : BitVec 32 := Scalar.remsi v1957 c16_i32_2099
  let c1_i32_2103 : BitVec 32 := 1#32
  let v1959 : BitVec 32 := Scalar.muli v1958 c1_i32_2103
  let v1960 : BitVec 32 := Scalar.addi c0_i32_2104 v1959
  v1960.toNat
def k0_dev88 (d0 : Dev nD) : Nat :=
  let c0_i32_2113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2107 : BitVec 32 := 13#32
  let v1967 : BitVec 32 := Scalar.addi v2 c13_i32_2107
  let c16_i32_2108 : BitVec 32 := 16#32
  let v1968 : BitVec 32 := Scalar.remsi v1967 c16_i32_2108
  let c1_i32_2112 : BitVec 32 := 1#32
  let v1969 : BitVec 32 := Scalar.muli v1968 c1_i32_2112
  let v1970 : BitVec 32 := Scalar.addi c0_i32_2113 v1969
  v1970.toNat
def k0_dev89 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2116 : BitVec 32 := 14#32
  let v1977 : BitVec 32 := Scalar.addi v2 c14_i32_2116
  let c16_i32_2117 : BitVec 32 := 16#32
  let v1978 : BitVec 32 := Scalar.remsi v1977 c16_i32_2117
  let c1_i32_2121 : BitVec 32 := 1#32
  let v1979 : BitVec 32 := Scalar.muli v1978 c1_i32_2121
  let v1980 : BitVec 32 := Scalar.addi c0_i32_2122 v1979
  v1980.toNat
def k0_dev90 (d0 : Dev nD) : Nat :=
  let c0_i32_2131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2125 : BitVec 32 := 15#32
  let v1987 : BitVec 32 := Scalar.addi v2 c15_i32_2125
  let c16_i32_2126 : BitVec 32 := 16#32
  let v1988 : BitVec 32 := Scalar.remsi v1987 c16_i32_2126
  let c1_i32_2130 : BitVec 32 := 1#32
  let v1989 : BitVec 32 := Scalar.muli v1988 c1_i32_2130
  let v1990 : BitVec 32 := Scalar.addi c0_i32_2131 v1989
  v1990.toNat
def k0_off7 (d0 : Dev nD) (c1_i32_2141 : BitVec 32) : Fin 3 → Nat :=
  let c0_2148 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2003 : BitVec 32 := Scalar.subi v2 c1_i32_2141
  let c16_i32_2142 : BitVec 32 := 16#32
  let v2004 : BitVec 32 := Scalar.addi v2003 c16_i32_2142
  let c16_i32_2143 : BitVec 32 := 16#32
  let v2005 : BitVec 32 := Scalar.remsi v2004 c16_i32_2143
  let c16_i32_2147 : BitVec 32 := 16#32
  let v2009 : BitVec 32 := Scalar.muli v2005 c16_i32_2147
  let v2010 : Index := Scalar.indexCast v2009
  let c0_2149 : Index := 0#32
  ![0, v2010.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x65536x8x128 : Shape := ⟨4, ![1, 65536, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S65536 : Shape := ⟨1, ![65536]⟩
abbrev S1x65536 : Shape := ⟨2, ![1, 65536]⟩
abbrev S256x65536 : Shape := ⟨2, ![256, 65536]⟩
abbrev S1x8x256x65536 : Shape := ⟨4, ![1, 8, 256, 65536]⟩
abbrev S1x1x256x65536 : Shape := ⟨4, ![1, 1, 256, 65536]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x1024, .f32⟩
  | 2 => ⟨S1x65536x8x128, .f32⟩
  | 3 => ⟨S1x65536x8x128, .f32⟩
  | 4 => ⟨S1024x1024, .f32⟩
  | 5 => ⟨S1x256x1024, .f32⟩
  | 6 => ⟨S1x256x8x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S65536, .i32⟩
  | 28 => ⟨S_, .i32⟩
  | 29 => ⟨S_, .i32⟩
  | 30 => ⟨S65536, .i32⟩
  | 31 => ⟨S65536, .i32⟩
  | 32 => ⟨S65536, .i32⟩
  | 33 => ⟨S_, .i32⟩
  | 34 => ⟨S65536, .i32⟩
  | 35 => ⟨S65536, .i1⟩
  | 36 => ⟨S65536, .i32⟩
  | 37 => ⟨S65536, .i32⟩
  | 38 => ⟨S_, .i32⟩
  | 39 => ⟨S65536, .i32⟩
  | 40 => ⟨S65536, .i1⟩
  | 41 => ⟨S65536, .i1⟩
  | 42 => ⟨S_, .i32⟩
  | 43 => ⟨S65536, .i32⟩
  | 44 => ⟨S65536, .i32⟩
  | 45 => ⟨S65536, .i32⟩
  | 46 => ⟨S1x65536, .i32⟩
  | 47 => ⟨S256x65536, .i32⟩
  | 48 => ⟨S256x65536, .i32⟩
  | 49 => ⟨S256x65536, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x65536, .i32⟩
  | 57 => ⟨S1x65536, .i32⟩
  | 58 => ⟨S_, .i32⟩
  | 59 => ⟨S1x65536, .i32⟩
  | 60 => ⟨S1x65536, .i1⟩
  | 61 => ⟨S_, .i32⟩
  | 62 => ⟨S1x65536, .i32⟩
  | 63 => ⟨S1x65536, .i1⟩
  | 64 => ⟨S_, .i32⟩
  | 65 => ⟨S_, .i1⟩
  | 66 => ⟨S1x65536, .i1⟩
  | 67 => ⟨S1x65536, .i1⟩
  | 68 => ⟨S1x65536, .i1⟩
  | 69 => ⟨S1x65536, .i32⟩
  | 70 => ⟨S1x65536, .i32⟩
  | 71 => ⟨S1x65536, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x65536, .i32⟩
  | 95 => ⟨S256x65536, .i32⟩
  | 96 => ⟨S256x65536, .i1⟩
  | 97 => ⟨S256x65536, .i1⟩
  | 98 => ⟨S1x8x256x65536, .f32⟩
  | 99 => ⟨S_, .f32⟩
  | 100 => ⟨S1x8x256x65536, .f32⟩
  | 101 => ⟨S1x8x256x65536, .f32⟩
  | 102 => ⟨S1x1x256x65536, .i1⟩
  | 103 => ⟨S_, .f32⟩
  | 104 => ⟨S_, .f32⟩
  | 105 => ⟨S1x8x256x65536, .i1⟩
  | 106 => ⟨S1x8x256x65536, .f32⟩
  | 107 => ⟨S1x8x256x65536, .f32⟩
  | 108 => ⟨S_, .f32⟩
  | 109 => ⟨S1x8x256, .f32⟩
  | 110 => ⟨S1x8x256x1, .f32⟩
  | 111 => ⟨S1x8x256x65536, .f32⟩
  | 112 => ⟨S1x8x256x65536, .f32⟩
  | 113 => ⟨S1x8x256x65536, .f32⟩
  | 114 => ⟨S_, .i1⟩
  | 115 => ⟨S256, .i1⟩
  | 116 => ⟨S1x1x256x1, .i1⟩
  | 117 => ⟨S_, .f32⟩
  | 118 => ⟨S1x8x256, .f32⟩
  | 119 => ⟨S1x8x256x1, .f32⟩
  | 120 => ⟨S_, .f32⟩
  | 121 => ⟨S_, .f32⟩
  | 122 => ⟨S1x8x256x1, .i1⟩
  | 123 => ⟨S1x8x256x1, .f32⟩
  | 124 => ⟨S1x8x256x1, .f32⟩
  | 125 => ⟨S1x8x256x65536, .f32⟩
  | 126 => ⟨S1x8x256x65536, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x8x256x65536, .i1⟩
  | 3 => ⟨S1x8x256x65536, .f32⟩
  | 4 => ⟨S1x8x256x65536, .f32⟩
  | 5 => ⟨S1x8x128x256, .f32⟩
  | 6 => ⟨S1x256x8x128, .f32⟩
  | 7 => ⟨S1x256x1024, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Body.lean ====
/-
The kernel's body, written as loops.

The printed body lists its effects one by one: sixteen local copies of the key and value heads into their staging
buffers, fifteen barrier signals, eight heads of attention over the device's own keys, the barrier wait, four strips
of partial sums sent to fifteen peers each, the sixty waits for the peers' strips, the combination and the output
projection of the device's own sixteen rows, the fifteen sends of that result, and their waits. Here each repeated
group is one definition with its head, strip or peer as a parameter, and `body` strings them together;
`bodyAt_eq` says that the printed body is this one.

A device's peer number `r` (of fifteen) is the device `r + 1` places on, around the sixteen.
-/
module

public import proofs.«01_k».proof.Proof.Gen.KernelIdeal
public import proofs.«01_k».proof.Proof.Gen.KernelIdeal.Launch
public import proofs.«01_k».proof.Proof.Gen.KernelIdeal.Points

@[expose] public section

noncomputable section

namespace Cert.KernelIdeal.Attn

open Cert.KernelIdeal Cert.KernelIdeal.Gen
open Idealize.ShloMosaic Idealize.SL.Sem

variable {F : FTy → Type} [FloatOps F]

/-- A program of the kernel. -/
abbrev Pg (F : FTy → Type) : Type 1 := Prog (TpuEff nD τ sig (Elt F) Λ₀ .tc) PUnit

/-! ## Peers -/

/-- The device `w` places on from `d`, as the kernel computes its number. -/
def peerNat (d : Dev nD) (w : BitVec 32) : ℕ :=
  (Scalar.addi 0#32 (Scalar.muli (Scalar.remsi (Scalar.addi (Scalar.remsi (Scalar.divsi (Dev.word d) 1#32) 16#32) w) 16#32) 1#32)).toNat

theorem peerNat_lt : ∀ (d : Dev nD) (r : Fin 15), peerNat d (BitVec.ofNat 32 (1 + r.val)) < nD := by decide +kernel

/-- The word the kernel names its peer number `r` by. -/
abbrev wd (r : Fin 15) : BitVec 32 := BitVec.ofNat 32 (1 + r.val)

/-- Peer number `r` of device `d`, as the kernel names it. -/
def peerP (d : Dev nD) (r : Fin 15) : Dev nD := ⟨peerNat d (wd r), peerNat_lt d r⟩

/-- The first row of `part` that device `d` keeps for the device `w` places on. -/
def rowNat (d : Dev nD) (w : BitVec 32) : ℕ :=
  (Scalar.muli (Scalar.remsi (Scalar.addi (Scalar.remsi (Scalar.divsi (Dev.word d) 1#32) 16#32) w) 16#32) 16#32).toNat

/-! ## The strips of columns -/

/-- The first column of strip `t` of the partial sums. -/
def col0 : Fin 4 → ℕ := ![0, 256, 512, 768]

/-- The width of strip `t`. -/
def wid : Fin 4 → ℕ := ![256, 256, 256, 384]

/-- Sixteen rows of strip `t`. -/
abbrev SS (t : Fin 4) : Shape := ⟨2, ![16, wid t]⟩

/-- The same, with a leading axis of one. -/
abbrev SS1 (t : Fin 4) : Shape := ⟨3, ![1, 16, wid t]⟩

theorem squeezes_SS : ∀ t : Fin 4, (SS1 t).Squeezes (SS t) := by decide +kernel

/-- The offsets of the rows of strip `t` that device `d` keeps for its peer number `r`. -/
abbrev srcOff (d : Dev nD) (t : Fin 4) (r : Fin 15) : Fin 2 → ℕ := ![rowNat d (wd r), col0 t]

theorem srcOff_inb : ∀ (d : Dev nD) (t : Fin 4) (r : Fin 15) (a : Fin 2), srcOff d t r a + (SS t).size a ≤ S256x1152.size a := by decide +kernel

theorem srcOff_words : ∀ (d : Dev nD) (t : Fin 4) (r : Fin 15),
    (Rect.unit (s := S256x1152) (srcOff d t r) (SS t).size (srcOff_inb d t r)).WholeWords (EltTy.packing .bf16) := by decide +kernel

/-- The offsets of strip `t` in slot `r`. -/
abbrev slotOff (t : Fin 4) (r : Fin 15) : Fin 3 → ℕ := ![r.val, 0, col0 t]

theorem slotOff_inb : ∀ (t : Fin 4) (r : Fin 15) (a : Fin 3), slotOff t r a + (SS1 t).size a ≤ S15x16x1152.size a := by decide +kernel

theorem slotOff_words : ∀ (t : Fin 4) (r : Fin 15),
    (Rect.unit (s := S15x16x1152) (slotOff t r) (SS1 t).size (slotOff_inb t r)).WholeWords (EltTy.packing .bf16) := by decide +kernel

/-! ## The buffers -/

abbrev xR : Memref sig .tc .vmem S1x256x1024 .f32 := Memref.whole cc0_stg0_0
abbrev wqR : Memref sig .tc .vmem S1024x1024 .f32 := Memref.whole cc0_stg1_0
abbrev kR : Memref sig .tc .hbm S1x4096x8x128 .f32 := Memref.whole main_arg2
abbrev vR : Memref sig .tc .hbm S1x4096x8x128 .f32 := Memref.whole main_arg3
abbrev woR : Memref sig .tc .vmem S1024x1024 .f32 := Memref.whole cc0_stg2_0
abbrev outR : Memref sig .tc .vmem S1x256x1024 .f32 := Memref.whole cc0_stg3_0
abbrev partR : Memref sig .tc .vmem S256x1152 .bf16 := Memref.whole cc0_scratch0
abbrev slotsR : Memref sig .tc .vmem S15x16x1152 .bf16 := Memref.whole cc0_scratch1
abbrev ctxR : Memref sig .tc .vmem S16x1024 .bf16 := Memref.whole cc0_scratch2
abbrev oslotR : Memref sig .tc .vmem S16x1024 .bf16 := Memref.whole cc0_scratch3
abbrev islotsR : Memref sig .tc .vmem S15x16x1024 .bf16 := Memref.whole cc0_scratch4
abbrev kstR : Memref sig .tc .vmem S8x4096x128 .f32 := Memref.whole cc0_scratch5
abbrev vstR : Memref sig .tc .vmem S8x4096x128 .f32 := Memref.whole cc0_scratch6

/-! ## The semaphores -/

theorem inb_kvSem : ∀ (j : Fin 2) (h : Fin 8) (a : Fin 2), (![j.val, h.val] : Fin 2 → ℕ) a + S1x1.size a ≤ S2x8.size a := by decide +kernel
theorem inb_tSem : ∀ (t : Fin 4) (r : Fin 15) (a : Fin 2), (![t.val, r.val] : Fin 2 → ℕ) a + S1x1.size a ≤ S4x15.size a := by decide +kernel
theorem inb_rSem : ∀ (r : Fin 15) (a : Fin 1), (![r.val] : Fin 1 → ℕ) a + S1.size a ≤ S15.size a := by decide +kernel

/-- The semaphore of the copy of key head `h` (`j = 0`) or value head `h` (`j = 1`). -/
abbrev kvSem (j : Fin 2) (h : Fin 8) : DmaSem sig :=
  ((cc0_scratch7.slice (Rect.unit (s := S2x8) ![j.val, h.val] S1x1.size (inb_kvSem j h))).squeeze S_ squeezes_S1x1_S_).sem
/-- The semaphore the sender of strip `t` to its peer number `r` waits on. -/
abbrev bsSem (t : Fin 4) (r : Fin 15) : DmaSem sig :=
  ((cc0_scratch8.slice (Rect.unit (s := S4x15) ![t.val, r.val] S1x1.size (inb_tSem t r))).squeeze S_ squeezes_S1x1_S_).sem
/-- The semaphore the receiver of that strip waits on. -/
abbrev brSem (t : Fin 4) (r : Fin 15) : DmaSem sig :=
  ((cc0_scratch9.slice (Rect.unit (s := S4x15) ![t.val, r.val] S1x1.size (inb_tSem t r))).squeeze S_ squeezes_S1x1_S_).sem
/-- The semaphore the sender of the finished rows to its peer number `r` waits on. -/
abbrev dsSem (r : Fin 15) : DmaSem sig :=
  ((cc0_scratch10.slice (Rect.unit (s := S15) ![r.val] S1.size (inb_rSem r))).squeeze S_ squeezes_S1_S_).sem
/-- The semaphore the receiver of those rows waits on. -/
abbrev drSem (r : Fin 15) : DmaSem sig :=
  ((cc0_scratch11.slice (Rect.unit (s := S15) ![r.val] S1.size (inb_rSem r))).squeeze S_ squeezes_S1_S_).sem
/-- The barrier semaphore. -/
abbrev barSem : Sem sig := (SemArray.scalar (sig.barrier 0 rfl) : Sems sig S_).sem

/-! ## The copied slices -/

theorem inb_stg : ∀ (h : Fin 8) (a : Fin 3), (![h.val, 0, 0] : Fin 3 → ℕ) a + S1x4096x128.size a ≤ S8x4096x128.size a := by decide +kernel
theorem inb_kv : ∀ (h : Fin 8) (a : Fin 4), (![0, 0, h.val, 0] : Fin 4 → ℕ) a + S1x4096x1x128.size a ≤ S1x4096x8x128.size a := by decide +kernel
theorem inb_isl : ∀ (r : Fin 15) (a : Fin 3), (![r.val, 0, 0] : Fin 3 → ℕ) a + S1x16x1024.size a ≤ S15x16x1024.size a := by decide +kernel
theorem isl_words : ∀ (r : Fin 15),
    (Rect.unit (s := S15x16x1024) ![r.val, 0, 0] S1x16x1024.size (inb_isl r)).WholeWords (EltTy.packing .bf16) := by decide +kernel

abbrev kstV (h : Fin 8) : Memref sig .tc .vmem S4096x128 .f32 :=
  (kstR.slice (Rect.unit (s := S8x4096x128) ![h.val, 0, 0] S1x4096x128.size (inb_stg h)) (fun _ => rfl)).squeeze S4096x128 squeezes_S1x4096x128_S4096x128
abbrev vstV (h : Fin 8) : Memref sig .tc .vmem S4096x128 .f32 :=
  (vstR.slice (Rect.unit (s := S8x4096x128) ![h.val, 0, 0] S1x4096x128.size (inb_stg h)) (fun _ => rfl)).squeeze S4096x128 squeezes_S1x4096x128_S4096x128
abbrev kV (h : Fin 8) : Memref sig .tc .hbm S4096x128 .f32 :=
  (kR.slice (Rect.unit (s := S1x4096x8x128) ![0, 0, h.val, 0] S1x4096x1x128.size (inb_kv h)) (fun _ => rfl)).squeeze S4096x128 squeezes_S1x4096x1x128_S4096x128
abbrev vV (h : Fin 8) : Memref sig .tc .hbm S4096x128 .f32 :=
  (vR.slice (Rect.unit (s := S1x4096x8x128) ![0, 0, h.val, 0] S1x4096x1x128.size (inb_kv h)) (fun _ => rfl)).squeeze S4096x128 squeezes_S1x4096x1x128_S4096x128
abbrev srcV (d : Dev nD) (t : Fin 4) (r : Fin 15) : Memref sig .tc .vmem (SS t) .bf16 :=
  partR.slice (Rect.unit (s := S256x1152) (srcOff d t r) (SS t).size (srcOff_inb d t r)) (fun _ => rfl)
abbrev slotV (t : Fin 4) (r : Fin 15) : Memref sig .tc .vmem (SS t) .bf16 :=
  (slotsR.slice (Rect.unit (s := S15x16x1152) (slotOff t r) (SS1 t).size (slotOff_inb t r)) (fun _ => rfl)).squeeze (SS t) (squeezes_SS t)
abbrev islV (r : Fin 15) : Memref sig .tc .vmem S16x1024 .bf16 :=
  (islotsR.slice (Rect.unit (s := S15x16x1024) ![r.val, 0, 0] S1x16x1024.size (inb_isl r)) (fun _ => rfl)).squeeze S16x1024 squeezes_S1x16x1024_S16x1024

theorem slotV_we (t : Fin 4) (r : Fin 15) : (slotV t r).view.WordExact :=
  ((Memref.isWhole_whole cc0_scratch1).wordExact_slice rfl _ (slotOff_words t r)).reshape _ _
theorem srcV_we (d : Dev nD) (t : Fin 4) (r : Fin 15) : (srcV d t r).view.WordExact :=
  (Memref.isWhole_whole cc0_scratch0).wordExact_slice rfl _ (srcOff_words d t r)
theorem islV_we (r : Fin 15) : (islV r).view.WordExact :=
  ((Memref.isWhole_whole cc0_scratch4).wordExact_slice rfl _ (isl_words r)).reshape _ _

/-! ## The arithmetic -/

/-- The scaled queries. -/
def qOf (x : Vec F S1x256x1024 .f32) (wq : Vec F S1024x1024 .f32) : FVec F S256x1024 .f32 :=
  mulf (matmul dot_S256x1024_S1024x1024_S256x1024_1_0_0_1_n_n none
      (truncf .bf16 (shapeCast S256x1024 x shapeCasts_S1x256x1024_S256x1024) bitsLt_bf16_f32)
      (truncf .bf16 (shapeCast S1024x1024 wq shapeCasts_S1024x1024_S1024x1024) bitsLt_bf16_f32)
      (constant S256x1024 .f32 0x00000000#32))
    (broadcast S256x1024 (Scalar.ofBits .f32 0x3DB504F3#32 : F .f32))

/-- A head's keys or values grouped by key block modulo four. -/
def grpOf (k : Vec F S1x4096x128 .f32) : FVec F S4x1024x128 .f32 :=
  shapeCast S4x1024x128 (transpose S4x16x64x128 [1, 0, 2, 3]
    (shapeCast S16x4x64x128 (shapeCast S4096x128 k shapeCasts_S1x4096x128_S4096x128) shapeCasts_S4096x128_S16x4x64x128)
    transposes_S16x4x64x128_p1_0_2_3_S4x16x64x128) shapeCasts_S4x16x64x128_S4x1024x128

theorem slices_q : ∀ h : Fin 8, S256x1024.Slices ![0, 128 * h.val] S256x128 := by decide +kernel

/-- A head's queries grouped by query block. -/
def qgOf (q : FVec F S256x1024 .f32) (h : Fin 8) : FVec F S4x64x128 .bf16 :=
  truncf .bf16 (shapeCast S4x64x128 (extractStridedSlice S256x128 ![0, 128 * h.val] q (slices_q h)) shapeCasts_S256x128_S4x64x128) bitsLt_bf16_f32

/-- A head's weights: the exponentials of its scores. -/
def wOf (q : FVec F S256x1024 .f32) (h : Fin 8) (k : Vec F S1x4096x128 .f32) : FVec F S4x64x1024 .f32 :=
  exp (matmul dot_S4x64x128_S4x1024x128_S4x64x1024_2_2_1_1_0_0 none (qgOf q h) (truncf .bf16 (grpOf k) bitsLt_bf16_f32)
    (constant S4x64x1024 .f32 0x00000000#32))

/-- A head's weighted sum of the device's values. -/
def accOf (q : FVec F S256x1024 .f32) (h : Fin 8) (k v : Vec F S1x4096x128 .f32) : FVec F S256x128 .bf16 :=
  shapeCast S256x128 (truncf .bf16 (shapeCast S256x128 (matmul dot_S4x64x1024_S4x1024x128_S4x64x128_2_1_1_2_0_0 none
      (truncf .bf16 (wOf q h k) bitsLt_bf16_f32) (truncf .bf16 (grpOf v) bitsLt_bf16_f32) (constant S4x64x128 .f32 0x00000000#32))
    shapeCasts_S4x64x128_S256x128) bitsLt_bf16_f32) shapeCasts_S256x128_S256x128

/-- A head's sum of weights over the device's keys. -/
def denOf (q : FVec F S256x1024 .f32) (h : Fin 8) (k : Vec F S1x4096x128 .f32) : FVec F S256x1 .bf16 :=
  shapeCast S256x1 (truncf .bf16 (shapeCast S256x1 (multiReduction .add [2] S4x64 (wOf q h k) 0x00000000#32 reduces_S4x64x1024_S4x64 (.inl rfl) rfl)
    shapeCasts_S4x64_S256x1) bitsLt_bf16_f32) shapeCasts_S256x1_S256x1

/-- The running total after one more slot. -/
def addSlot (acc : FVec F S16x1152 .f32) (x : Vec F S1x16x1152 .bf16) : FVec F S16x1152 .f32 :=
  addf acc (extf .f32 (shapeCast S16x1152 x shapeCasts_S1x16x1152_S16x1152) bitsLt_bf16_f32)

theorem slices_num : ∀ h : Fin 8, S16x1152.Slices ![0, 128 * h.val] S16x128 := by decide +kernel
theorem slices_den : ∀ h : Fin 8, S16x1152.Slices ![0, 1024 + h.val] S16x1 := by decide +kernel

/-- A head's context from the total: its weighted sum over its sum of weights. -/
def ctxOf (tot : FVec F S16x1152 .f32) (h : Fin 8) : FVec F S16x128 .bf16 :=
  shapeCast S16x128 (truncf .bf16 (divf (extractStridedSlice S16x128 ![0, 128 * h.val] tot (slices_num h))
    (broadcastTo S16x128 (extractStridedSlice S16x1 ![0, 1024 + h.val] tot (slices_den h)) broadcasts_S16x1_S16x128)) bitsLt_bf16_f32)
    shapeCasts_S16x128_S16x128

/-- The output projection of sixteen rows. -/
def resOf (ctx : Vec F S16x1024 .bf16) (wo : Vec F S1024x1024 .f32) : FVec F S16x1024 .f32 :=
  matmul dot_S16x1024_S1024x1024_S16x1024_1_0_0_1_n_n none ctx
    (truncf .bf16 (shapeCast S1024x1024 wo shapeCasts_S1024x1024_S1024x1024) bitsLt_bf16_f32) (constant S16x1024 .f32 0x00000000#32)

/-- The rows as they are stored in the output block. -/
def rowsOf (r : FVec F S16x1024 .f32) : FVec F S1x16x1024 .f32 := shapeCast S1x16x1024 r shapeCasts_S16x1024_S1x16x1024

/-- The rows as they are sent. -/
def sendOf (r : FVec F S16x1024 .f32) : FVec F S16x1024 .bf16 :=
  shapeCast S16x1024 (truncf .bf16 r bitsLt_bf16_f32) shapeCasts_S16x1024_S16x1024

/-- A peer's rows as they are read. -/
def recvOf (x : Vec F S1x16x1024 .bf16) : FVec F S16x1024 .f32 :=
  extf .f32 (shapeCast S16x1024 x shapeCasts_S1x16x1024_S16x1024) bitsLt_bf16_f32

/-! ## The pieces of the body -/

abbrev heads : List (Fin 8) := [0, 1, 2, 3, 4, 5, 6, 7]
abbrev peers : List (Fin 15) := [0, 1, 2, 3, 4, 5, 6, 7, 8, 9, 10, 11, 12, 13, 14]

/-- Start the copies of key head and value head `h`. -/
def kvStart (h : Fin 8) (κ : Pg F) : Pg F :=
  .op (.enqueueDma (kV h) (.here (kstV h)) (.dma (kvSem 0 h)) ((View.wordExact_bits rfl).reshape _ _) ((View.wordExact_bits rfl).reshape _ _) ⟨Or.inl rfl, trivial⟩) fun _ =>
  .op (.enqueueDma (vV h) (.here (vstV h)) (.dma (kvSem 1 h)) ((View.wordExact_bits rfl).reshape _ _) ((View.wordExact_bits rfl).reshape _ _) ⟨Or.inl rfl, trivial⟩) fun _ => κ

/-- Signal the barrier of peer number `r`. -/
def barSignal (d : Dev nD) (r : Fin 15) (κ : Pg F) : Pg F :=
  .op (.semSignal (peerP d r, .tc) barSem (BitVec.toInt 1#32)) fun _ => κ

/-- Read the queries' operands. -/
def qRead (κ : FVec F S256x1024 .f32 → Pg F) : Pg F :=
  .op (.load xR (Rect.unit (s := S1x256x1024) ![0, 0, 0] S1x256x1024.size inb_S1x256x1024_S1x256x1024_0_0_0).toLoadRect (View.loadsAt_vmem h_S1x256x1024)) fun x =>
  .op (.load wqR (Rect.unit (s := S1024x1024) ![0, 0] S1024x1024.size inb_S1024x1024_S1024x1024_0_0).toLoadRect (View.loadsAt_vmem h_S1024x1024)) fun wq => κ (qOf x wq)

abbrev stgRect (h : Fin 8) : Rect S8x4096x128 := Rect.unit (s := S8x4096x128) ![h.val, 0, 0] S1x4096x128.size (inb_stg h)

theorem inb_acc : ∀ (h : Fin 8) (a : Fin 2), (![0, 128 * h.val] : Fin 2 → ℕ) a + S256x128.size a ≤ S256x1152.size a := by decide +kernel
theorem inb_den : ∀ (h : Fin 8) (a : Fin 2), (![0, 1024 + h.val] : Fin 2 → ℕ) a + S256x1.size a ≤ S256x1152.size a := by decide +kernel
abbrev accRect (h : Fin 8) : Rect S256x1152 := Rect.unit (s := S256x1152) ![0, 128 * h.val] S256x128.size (inb_acc h)
abbrev denRect (h : Fin 8) : Rect S256x1152 := Rect.unit (s := S256x1152) ![0, 1024 + h.val] S256x1.size (inb_den h)
theorem packed_acc : ∀ h : Fin 8, (accRect h).PackedRows (EltTy.packing .bf16) := by decide +kernel
theorem packed_den : ∀ h : Fin 8, (denRect h).PackedRows (EltTy.packing .bf16) := by decide +kernel

/-- One head: wait for its keys and values, read them, and store its weighted sum and its sum of weights. -/
def head (q : FVec F S256x1024 .f32) (h : Fin 8) (κ : Pg F) : Pg F :=
  .op (.waitDma2 (kvSem 0 h) (kV h) (kstV h) ((View.wordExact_bits rfl).reshape _ _) ((View.wordExact_bits rfl).reshape _ _)) fun _ =>
  .op (.waitDma2 (kvSem 1 h) (vV h) (vstV h) ((View.wordExact_bits rfl).reshape _ _) ((View.wordExact_bits rfl).reshape _ _)) fun _ =>
  .op (.load kstR (stgRect h).toLoadRect (View.loadsAt_vmem h_S1x4096x128)) fun k =>
  .op (.load vstR (stgRect h).toLoadRect (View.loadsAt_vmem h_S1x4096x128)) fun v =>
  .op (.load partR (accRect h).toLoadRect (View.loadsAt_vmem h_S256x128)) fun _ =>
  .op (.store partR (accRect h) (accOf q h k v) Finset.univ
    (View.stores_vmem h_S256x128 ((Memref.isWhole_whole cc0_scratch0).storeExact_slice rfl _ (packed_acc h)) (fun _ => rfl)) (.inl rfl)) fun _ =>
  .op (.load partR (denRect h).toLoadRect (View.loadsAt_vmem h_S256x1)) fun _ =>
  .op (.store partR (denRect h) (denOf q h k) Finset.univ
    (View.stores_vmem h_S256x1 ((Memref.isWhole_whole cc0_scratch0).storeExact_slice rfl _ (packed_den h)) (fun _ => rfl)) (.inl rfl)) fun _ => κ

/-- Wait for the fifteen barrier signals. -/
def barWait (κ : Pg F) : Pg F := .op (.semWait barSem (BitVec.toInt 15#32)) fun _ => κ

/-- Send strip `t` of its rows to peer number `r`. -/
def strip (d : Dev nD) (t : Fin 4) (r : Fin 15) (κ : Pg F) : Pg F :=
  .op (.enqueueDma (srcV d t r) (.remote (Dev.tc (peerP d r)) (slotV t r) (.dma (bsSem t r))) (.dma (brSem t r)) (srcV_we d t r) (slotV_we t r)
    ⟨⟨rfl, Or.inl rfl⟩, trivial⟩) fun _ => κ

/-- Wait for strip `t` into slot `r`. -/
def stripWait (t : Fin 4) (r : Fin 15) (κ : Pg F) : Pg F :=
  .op (.waitDma2 (brSem t r) (slotV t r) (slotV t r) (slotV_we t r) (slotV_we t r)) fun _ => κ

theorem inb_slot : ∀ (r : Fin 15) (a : Fin 3), (![r.val, 0, 0] : Fin 3 → ℕ) a + S1x16x1152.size a ≤ S15x16x1152.size a := by decide +kernel
abbrev slotRect (r : Fin 15) : Rect S15x16x1152 := Rect.unit (s := S15x16x1152) ![r.val, 0, 0] S1x16x1152.size (inb_slot r)

/-- Add the slots of the peers listed to the total. -/
def addSlots : List (Fin 15) → (FVec F S16x1152 .f32 → Pg F) → FVec F S16x1152 .f32 → Pg F
  | [], κ, acc => κ acc
  | r :: l, κ, acc => .op (.load slotsR (slotRect r).toLoadRect (View.loadsAt_vmem h_S1x16x1152)) fun x => addSlots l κ (addSlot acc x)

/-- Read the device's own rows of the partial sums and add the fifteen slots. -/
def total (d : Dev nD) (κ : FVec F S16x1152 .f32 → Pg F) : Pg F :=
  .op (.load partR (Rect.unit (s := S256x1152) (k0_off5 d) S16x1152.size (Gen.k0_off5_inb d)).toLoadRect (View.loadsAt_vmem h_S16x1152)) fun (x : Vec F S16x1152 .bf16) =>
  addSlots peers κ (extf .f32 x bitsLt_bf16_f32)

theorem inb_ctx : ∀ (h : Fin 8) (a : Fin 2), (![0, 128 * h.val] : Fin 2 → ℕ) a + S16x128.size a ≤ S16x1024.size a := by decide +kernel
abbrev ctxRect (h : Fin 8) : Rect S16x1024 := Rect.unit (s := S16x1024) ![0, 128 * h.val] S16x128.size (inb_ctx h)
theorem packed_ctx : ∀ h : Fin 8, (ctxRect h).PackedRows (EltTy.packing .bf16) := by decide +kernel

/-- Store a head's context. -/
def ctxStore (tot : FVec F S16x1152 .f32) (h : Fin 8) (κ : Pg F) : Pg F :=
  .op (.load ctxR (ctxRect h).toLoadRect (View.loadsAt_vmem h_S16x128)) fun _ =>
  .op (.store ctxR (ctxRect h) (ctxOf tot h) Finset.univ
    (View.stores_vmem h_S16x128 ((Memref.isWhole_whole cc0_scratch2).storeExact_slice rfl _ (packed_ctx h)) (fun _ => rfl)) (.inl rfl)) fun _ => κ

abbrev allRect : Rect S16x1024 := Rect.unit (s := S16x1024) ![0, 0] S16x1024.size inb_S16x1024_S16x1024_0_0

/-- Project the context, store the rows in the output block and in the buffer they are sent from. -/
def project (d : Dev nD) (κ : Pg F) : Pg F :=
  .op (.load ctxR allRect.toLoadRect (View.loadsAt_vmem h_S16x1024)) fun c =>
  .op (.load woR (Rect.unit (s := S1024x1024) ![0, 0] S1024x1024.size inb_S1024x1024_S1024x1024_0_0).toLoadRect (View.loadsAt_vmem h_S1024x1024)) fun wo =>
  .op (.load outR (Rect.unit (s := S1x256x1024) (k0_off6 d) S1x16x1024.size (Gen.k0_off6_inb d)).toLoadRect (View.loadsAt_vmem h_S1x16x1024)) fun _ =>
  .op (.store outR (Rect.unit (s := S1x256x1024) (k0_off6 d) S1x16x1024.size (Gen.k0_off6_inb d)) (rowsOf (resOf c wo)) Finset.univ
    (View.stores_vmem_bits_univ h_S1x16x1024 rfl) (.inl rfl)) fun _ =>
  .op (.load oslotR allRect.toLoadRect (View.loadsAt_vmem h_S16x1024)) fun _ =>
  .op (.store oslotR allRect (sendOf (resOf c wo)) Finset.univ
    (View.stores_vmem h_S16x1024 ((Memref.isWhole_whole cc0_scratch3).storeExact_slice rfl _ packedbf16_S16x1024_S16x1024_0_0) (fun _ => rfl)) (.inl rfl)) fun _ => κ

/-- Send the finished rows to peer number `r`. -/
def outSend (d : Dev nD) (r : Fin 15) (κ : Pg F) : Pg F :=
  .op (.enqueueDma oslotR (.remote (Dev.tc (peerP d r)) (islV r) (.dma (dsSem r))) (.dma (drSem r)) (Memref.isWhole_whole cc0_scratch3).wordExact (islV_we r)
    ⟨⟨rfl, Or.inl rfl⟩, trivial⟩) fun _ => κ

abbrev islRect (r : Fin 15) : Rect S15x16x1024 := Rect.unit (s := S15x16x1024) ![r.val, 0, 0] S1x16x1024.size (inb_isl r)
abbrev rowRect (d : Dev nD) (r : Fin 15) : Rect S1x256x1024 := Rect.unit (s := S1x256x1024) (k0_off7 d (wd r)) S1x16x1024.size (Gen.k0_off7_inb d r)

/-- Wait for the rows of the device `r + 1` places back and store them in the output block. -/
def outRecv (d : Dev nD) (r : Fin 15) (κ : Pg F) : Pg F :=
  .op (.waitDma2 (drSem r) oslotR (islV r) (Memref.isWhole_whole cc0_scratch3).wordExact (islV_we r)) fun _ =>
  .op (.load islotsR (islRect r).toLoadRect (View.loadsAt_vmem h_S1x16x1024)) fun x =>
  .op (.load outR (rowRect d r).toLoadRect (View.loadsAt_vmem h_S1x16x1024)) fun _ =>
  .op (.store outR (rowRect d r) (rowsOf (recvOf x)) Finset.univ (View.stores_vmem_bits_univ h_S1x16x1024 rfl) (.inl rfl)) fun _ => κ

/-- Wait for the send of strip `t` to peer number `r`. -/
def stripDone (t : Fin 4) (r : Fin 15) (κ : Pg F) : Pg F :=
  .op (.waitDma2 (bsSem t r) (slotV t r) (slotV t r) (slotV_we t r) (slotV_we t r)) fun _ => κ

/-- Wait for the send of the finished rows to peer number `r`. -/
def outDone (r : Fin 15) (κ : Pg F) : Pg F :=
  .op (.waitDma2 (dsSem r) (islV r) oslotR (islV_we r) (Memref.isWhole_whole cc0_scratch3).wordExact) fun _ => κ

abbrev strips (d : Dev nD) (t : Fin 4) (κ : Pg F) : Pg F := peers.foldr (strip d t) κ

/-- The body. -/
def body : Pg F :=
  .op .deviceId fun d =>
  heads.foldr kvStart <| peers.foldr (barSignal d) <| qRead fun q =>
  head q 0 <| head q 1 <| barWait <| strips d 0 <|
  head q 2 <| head q 3 <| strips d 1 <|
  head q 4 <| head q 5 <| strips d 2 <|
  head q 6 <| head q 7 <| strips d 3 <|
  peers.foldr (stripWait 0) <| peers.foldr (stripWait 1) <| peers.foldr (stripWait 2) <| peers.foldr (stripWait 3) <|
  total d fun tot => heads.foldr (ctxStore tot) <| project d <|
  peers.foldr (outSend d) <| peers.foldr (outRecv d) <|
  peers.foldr (stripDone 0) <| peers.foldr (stripDone 1) <| peers.foldr (stripDone 2) <| peers.foldr (stripDone 3) <|
  peers.foldr outDone <| .ret ⟨⟩

end Cert.KernelIdeal.Attn

end
-- ==== Proof.Contents.lean ====
/-
What the buffers hold: every device's inputs, partial sums, totals and results as functions of the memory at launch,
and where each copied slice lies in its buffer.
-/
module

public import proofs.«01_k».proof.Proof.Body
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ValueLayout

@[expose] public section

noncomputable section

namespace Cert.KernelIdeal.Attn

open Cert.KernelIdeal Cert.KernelIdeal.Gen
open Idealize.ShloMosaic Idealize.SL.Sem
open Idealize.ShloMosaic.TcCoe
open Idealize.ShloMosaic.ValueIdx

variable {F : FTy → Type} [FloatOps F]

/-! ## Peers -/

theorem peer_back : ∀ (d : Dev nD) (r : Fin 15), peerP (peerP d r) (Fin.rev r) = d := by decide +kernel
theorem peer_back' (d : Dev nD) (r : Fin 15) : peerP (peerP d (Fin.rev r)) r = d := by
  have := peer_back d (Fin.rev r); rwa [Fin.rev_rev] at this
theorem peer_ne : ∀ (d : Dev nD) (r : Fin 15), peerP d r ≠ d := by decide +kernel
theorem peer_inj : ∀ (d : Dev nD) (r s : Fin 15), peerP d r = peerP d s → r = s := by decide +kernel
theorem peer_cover : ∀ (d e : Dev nD), e = d ∨ ∃ r : Fin 15, e = peerP d r := by decide +kernel
theorem rowNat_eq : ∀ (d : Dev nD) (r : Fin 15), rowNat d (wd r) = 16 * (peerP d r).val := by decide +kernel
theorem off5_eq : ∀ d : Dev nD, k0_off5 d = ![16 * d.val, 0] := k0_off5_eq
theorem off7_eq : ∀ (d : Dev nD) (r : Fin 15), k0_off7 d (wd r) = ![0, 16 * (peerP d (Fin.rev r)).val, 0] := by decide +kernel

/-- Peer number `r`, as a permutation of the devices. -/
def peerE (r : Fin 15) : Dev nD ≃ Dev nD := ⟨fun d => peerP d r, fun d => peerP d (Fin.rev r), fun d => peer_back d r, fun d => peer_back' d r⟩

/-! ## Where the slices lie -/

/-- The column strip `n` starts at; the fourth strip ends at the last column. -/
def lo (n : ℕ) : ℕ := if n < 4 then 256 * n else 1152

theorem col0_eq : ∀ t : Fin 4, col0 t = lo t.val := by decide +kernel
theorem wid_eq : ∀ t : Fin 4, col0 t + wid t = lo (t.val + 1) := by decide +kernel
theorem lo_mono : ∀ t : Fin 4, lo t.val < lo (t.val + 1) := by decide +kernel

/-- Device `e`'s rows of strip `t` of the partial sums. -/
def cellS (e : Dev nD) (t : Fin 4) : Finset S256x1152.Idx :=
  Finset.univ.filter fun i => (16 * e.val ≤ (i 0).val ∧ (i 0).val < 16 * e.val + 16) ∧ (col0 t ≤ (i 1).val ∧ (i 1).val < col0 t + wid t)

/-- The columns of the strips from `n` on. -/
def restS (n : ℕ) : Finset S256x1152.Idx := Finset.univ.filter fun i => lo n ≤ (i 1).val

/-- Device `e`'s rows of the partial sums. -/
def rowsS (e : Dev nD) : Finset S256x1152.Idx :=
  Finset.univ.filter fun i => 16 * e.val ≤ (i 0).val ∧ (i 0).val < 16 * e.val + 16

/-- Slot `r`'s strip `t`. -/
def slotS (t : Fin 4) (r : Fin 15) : Finset S15x16x1152.Idx :=
  Finset.univ.filter fun i => (i 0).val = r.val ∧ (col0 t ≤ (i 2).val ∧ (i 2).val < col0 t + wid t)

/-- Slot `r`. -/
def slotRS (r : Fin 15) : Finset S15x16x1152.Idx := Finset.univ.filter fun i => (i 0).val = r.val

/-- Slot `r` of the finished rows. -/
def islS (r : Fin 15) : Finset S15x16x1024.Idx := Finset.univ.filter fun i => (i 0).val = r.val

/-- Head `h` of a staging buffer. -/
def stgS (h : Fin 8) : Finset S8x4096x128.Idx := Finset.univ.filter fun i => (i 0).val = h.val

/-- Head `h` of the keys or the values. -/
def kvS (h : Fin 8) : Finset S1x4096x8x128.Idx := Finset.univ.filter fun i => (i 2).val = h.val

theorem srcV_set (d : Dev nD) (t : Fin 4) (r : Fin 15) : (srcV d t r).view.set = cellS (peerP d r) t := by
  show ((View.whole cc0_scratch0).slice _).set = _
  rw [View.set_slice_whole]
  ext i
  refine Rect.mem_set_unit.trans ?_
  simp only [cellS, Finset.mem_filter, Finset.mem_univ, true_and, ← rowNat_eq]
  exact Fin.forall_fin_two

theorem slotV_set (t : Fin 4) (r : Fin 15) : (slotV t r).view.set = slotS t r := by
  show (((View.whole cc0_scratch1).slice _).reshape _ _).set = _
  rw [View.set_reshape, View.set_slice_whole]
  ext i
  refine Rect.mem_set_unit.trans ?_
  simp only [slotS, Finset.mem_filter, Finset.mem_univ, true_and]
  have h1 : (i 1).val < 16 := (i 1).isLt
  constructor
  · intro h
    have h0 : r.val ≤ (i 0).val ∧ (i 0).val < r.val + 1 := h 0
    exact ⟨by omega, h 2⟩
  · rintro ⟨h0, h2⟩ a
    match a with
    | ⟨0, _⟩ => show r.val ≤ (i 0).val ∧ (i 0).val < r.val + 1; omega
    | ⟨1, _⟩ => show 0 ≤ (i 1).val ∧ (i 1).val < 0 + 16; omega
    | ⟨2, _⟩ => exact h2

theorem islV_set (r : Fin 15) : (islV r).view.set = islS r := by
  show (((View.whole cc0_scratch4).slice _).reshape _ _).set = _
  rw [View.set_reshape, View.set_slice_whole]
  ext i
  refine Rect.mem_set_unit.trans ?_
  simp only [islS, Finset.mem_filter, Finset.mem_univ, true_and]
  have h1 : (i 1).val < 16 := (i 1).isLt
  have h2 : (i 2).val < 1024 := (i 2).isLt
  constructor
  · intro h
    have h0 : r.val ≤ (i 0).val ∧ (i 0).val < r.val + 1 := h 0
    omega
  · intro h0 a
    match a with
    | ⟨0, _⟩ => show r.val ≤ (i 0).val ∧ (i 0).val < r.val + 1; omega
    | ⟨1, _⟩ => show 0 ≤ (i 1).val ∧ (i 1).val < 0 + 16; omega
    | ⟨2, _⟩ => show 0 ≤ (i 2).val ∧ (i 2).val < 0 + 1024; omega

theorem stgRect_mem (h : Fin 8) (i : S8x4096x128.Idx) : i ∈ (stgRect h).set ↔ i ∈ stgS h := by
  refine Rect.mem_set_unit.trans ?_
  simp only [stgS, Finset.mem_filter, Finset.mem_univ, true_and]
  have h1 : (i 1).val < 4096 := (i 1).isLt
  have h2 : (i 2).val < 128 := (i 2).isLt
  constructor
  · intro q
    have h0 : h.val ≤ (i 0).val ∧ (i 0).val < h.val + 1 := q 0
    omega
  · intro h0 a
    match a with
    | ⟨0, _⟩ => show h.val ≤ (i 0).val ∧ (i 0).val < h.val + 1; omega
    | ⟨1, _⟩ => show 0 ≤ (i 1).val ∧ (i 1).val < 0 + 4096; omega
    | ⟨2, _⟩ => show 0 ≤ (i 2).val ∧ (i 2).val < 0 + 128; omega

theorem kstV_set (h : Fin 8) : (kstV h).view.set = stgS h := by
  show (((View.whole cc0_scratch5).slice _).reshape _ _).set = _
  rw [View.set_reshape, View.set_slice_whole]
  ext i; exact stgRect_mem h i

theorem vstV_set (h : Fin 8) : (vstV h).view.set = stgS h := by
  show (((View.whole cc0_scratch6).slice _).reshape _ _).set = _
  rw [View.set_reshape, View.set_slice_whole]
  ext i; exact stgRect_mem h i

theorem kvRect_mem (h : Fin 8) (i : S1x4096x8x128.Idx) :
    i ∈ (Rect.unit (s := S1x4096x8x128) ![0, 0, h.val, 0] S1x4096x1x128.size (inb_kv h)).set ↔ i ∈ kvS h := by
  refine Rect.mem_set_unit.trans ?_
  simp only [kvS, Finset.mem_filter, Finset.mem_univ, true_and]
  have h0 : (i 0).val < 1 := (i 0).isLt
  have h1 : (i 1).val < 4096 := (i 1).isLt
  have h3 : (i 3).val < 128 := (i 3).isLt
  constructor
  · intro q
    have h0 : h.val ≤ (i 2).val ∧ (i 2).val < h.val + 1 := q 2
    omega
  · intro h2 a
    match a with
    | ⟨0, _⟩ => show 0 ≤ (i 0).val ∧ (i 0).val < 0 + 1; omega
    | ⟨1, _⟩ => show 0 ≤ (i 1).val ∧ (i 1).val < 0 + 4096; omega
    | ⟨2, _⟩ => show h.val ≤ (i 2).val ∧ (i 2).val < h.val + 1; omega
    | ⟨3, _⟩ => show 0 ≤ (i 3).val ∧ (i 3).val < 0 + 128; omega

theorem kV_set (h : Fin 8) : (kV h).view.set = kvS h := by
  show (((View.whole main_arg2).slice _).reshape _ _).set = _
  rw [View.set_reshape, View.set_slice_whole]
  ext i; exact kvRect_mem h i

theorem vV_set (h : Fin 8) : (vV h).view.set = kvS h := by
  show (((View.whole main_arg3).slice _).reshape _ _).set = _
  rw [View.set_reshape, View.set_slice_whole]
  ext i; exact kvRect_mem h i

/-! ## Where an element of a slice lies -/

theorem kst_emb (h : Fin 8) (x : S4096x128.Idx) : (kstV h).view.emb x = (ix3 h (x 0) (x 1) : S8x4096x128.Idx) := by
  obtain ⟨a, b, rfl⟩ : ∃ a b, x = ix2 a b := ⟨_, _, eq_ix2 x⟩
  show (Rect.unit (s := S8x4096x128) ![h.val, 0, 0] S1x4096x128.size (inb_stg h)).emb (Shape.reshapeEquiv _ (ix2 a b)) = _
  rw [reshapeEquiv_ix2_1ab]
  funext q
  match q with
  | ⟨0, _⟩ => exact Fin.ext (show h.val + 1 * 0 = h.val by omega)
  | ⟨1, _⟩ => exact Fin.ext (show 0 + 1 * a.val = a.val by omega)
  | ⟨2, _⟩ => exact Fin.ext (show 0 + 1 * b.val = b.val by omega)

theorem vst_emb (h : Fin 8) (x : S4096x128.Idx) : (vstV h).view.emb x = (ix3 h (x 0) (x 1) : S8x4096x128.Idx) := kst_emb h x

theorem k_emb (h : Fin 8) (x : S4096x128.Idx) : (kV h).view.emb x = (ix4 0 (x 0) h (x 1) : S1x4096x8x128.Idx) := by
  obtain ⟨a, b, rfl⟩ : ∃ a b, x = ix2 a b := ⟨_, _, eq_ix2 x⟩
  show (Rect.unit (s := S1x4096x8x128) ![0, 0, h.val, 0] S1x4096x1x128.size (inb_kv h)).emb (Shape.reshapeEquiv _ (ix2 a b)) = _
  have e : (Shape.reshapeEquiv squeezes_S1x4096x1x128_S4096x128.numel_eq (ix2 a b) : S1x4096x1x128.Idx) = ix4 0 a 0 b :=
    Shape.reshapeEquiv_eq_of_rowMajor _ (by
      rw [Shape.rowMajor_val_four, Shape.rowMajor_val_two]
      show ((0 * 4096 + a.val) * 1 + 0) * 128 + b.val = a.val * 128 + b.val
      omega)
  rw [e]
  funext q
  match q with
  | ⟨0, _⟩ => rfl
  | ⟨1, _⟩ => exact Fin.ext (show 0 + 1 * a.val = a.val by omega)
  | ⟨2, _⟩ => exact Fin.ext (show h.val + 1 * 0 = h.val by omega)
  | ⟨3, _⟩ => exact Fin.ext (show 0 + 1 * b.val = b.val by omega)

theorem v_emb (h : Fin 8) (x : S4096x128.Idx) : (vV h).view.emb x = (ix4 0 (x 0) h (x 1) : S1x4096x8x128.Idx) := k_emb h x

theorem src_emb0 (d : Dev nD) (t : Fin 4) (r : Fin 15) (x : (SS t).Idx) :
    ((((srcV d t r).view.emb x : S256x1152.Idx) 0 : Fin _) : ℕ) = 16 * (peerP d r).val + (x 0).val := by
  show rowNat d (wd r) + 1 * (x 0).val = _
  rw [rowNat_eq, Nat.one_mul]

theorem src_emb1 (d : Dev nD) (t : Fin 4) (r : Fin 15) (x : (SS t).Idx) :
    ((((srcV d t r).view.emb x : S256x1152.Idx) 1 : Fin _) : ℕ) = col0 t + (x 1).val := by
  show col0 t + 1 * (x 1).val = _
  rw [Nat.one_mul]

theorem slot_emb (t : Fin 4) (r : Fin 15) (x : (SS t).Idx) :
    ((((slotV t r).view.emb x : S15x16x1152.Idx) 0 : Fin _) : ℕ) = r.val ∧ ((((slotV t r).view.emb x : S15x16x1152.Idx) 1 : Fin _) : ℕ) = (x 0).val
      ∧ ((((slotV t r).view.emb x : S15x16x1152.Idx) 2 : Fin _) : ℕ) = col0 t + (x 1).val := by
  obtain ⟨a, b, rfl⟩ : ∃ (a : Fin 16) (b : Fin (wid t)), x = ix2 a b := ⟨_, _, eq_ix2 x⟩
  have e : (slotV t r).view.emb (ix2 a b) = (Rect.unit (s := S15x16x1152) (slotOff t r) (SS1 t).size (slotOff_inb t r)).emb
      (ix3 (⟨0, Nat.one_pos⟩ : Fin 1) a b : (SS1 t).Idx) :=
    congrArg (Rect.unit (s := S15x16x1152) (slotOff t r) (SS1 t).size (slotOff_inb t r)).emb (reshapeEquiv_ix2_1ab (squeezes_SS t).numel_eq a b)
  rw [e]
  refine ⟨?_, ?_, ?_⟩
  · show r.val + 1 * 0 = _; omega
  · show 0 + 1 * a.val = a.val; omega
  · show col0 t + 1 * b.val = col0 t + b.val; rw [Nat.one_mul]

theorem isl_emb (r : Fin 15) (x : S16x1024.Idx) : (islV r).view.emb x = (ix3 r (x 0) (x 1) : S15x16x1024.Idx) := by
  obtain ⟨a, b, rfl⟩ : ∃ a b, x = ix2 a b := ⟨_, _, eq_ix2 x⟩
  show (Rect.unit (s := S15x16x1024) ![r.val, 0, 0] S1x16x1024.size (inb_isl r)).emb (Shape.reshapeEquiv _ (ix2 a b)) = _
  rw [reshapeEquiv_ix2_1ab]
  funext q
  match q with
  | ⟨0, _⟩ => exact Fin.ext (show r.val + 1 * 0 = r.val by omega)
  | ⟨1, _⟩ => exact Fin.ext (show 0 + 1 * a.val = a.val by omega)
  | ⟨2, _⟩ => exact Fin.ext (show 0 + 1 * b.val = b.val by omega)

/-! ## The contents -/

variable (m : (ℓ : Loc nD τ sig) → Buf (Elt F) ℓ)

abbrev argX (c : Dev nD) : S1x256x1024.Idx → Elt F .f32 := m ((c : Thread nD τ).loc main_arg0)
abbrev argWq (c : Dev nD) : S1024x1024.Idx → Elt F .f32 := m ((c : Thread nD τ).loc main_arg1)
abbrev argK (c : Dev nD) : S1x4096x8x128.Idx → Elt F .f32 := m ((c : Thread nD τ).loc main_arg2)
abbrev argV (c : Dev nD) : S1x4096x8x128.Idx → Elt F .f32 := m ((c : Thread nD τ).loc main_arg3)
abbrev argWo (c : Dev nD) : S1024x1024.Idx → Elt F .f32 := m ((c : Thread nD τ).loc main_arg4)

/-- The staged `x`, `Wq` and `Wo` of device `c`. -/
def xstg (c : Dev nD) : S1x256x1024.Idx → Elt F .f32 := (win0_0.blk (0 : Fin 1)).view.read (Elt F) (m ((c : Thread nD τ).loc main_arg0))
def wqstg (c : Dev nD) : S1024x1024.Idx → Elt F .f32 := (win0_1.blk (0 : Fin 1)).view.read (Elt F) (m ((c : Thread nD τ).loc main_arg1))
def wostg (c : Dev nD) : S1024x1024.Idx → Elt F .f32 := (win0_2.blk (0 : Fin 1)).view.read (Elt F) (m ((c : Thread nD τ).loc main_arg4))

/-- Device `c`'s scaled queries. -/
def Q (c : Dev nD) : FVec F S256x1024 .f32 := qOf (xstg m c) (wqstg m c)

/-- The staged keys and values of device `c`, heads first. -/
def KST (c : Dev nD) : S8x4096x128.Idx → Elt F .f32 := fun i => argK m c (ix4 0 (i 1) (i 0) (i 2))
def VST (c : Dev nD) : S8x4096x128.Idx → Elt F .f32 := fun i => argV m c (ix4 0 (i 1) (i 0) (i 2))

/-- Head `h` of them. -/
def KL (c : Dev nD) (h : Fin 8) : Vec F S1x4096x128 .f32 := fun x => argK m c (ix4 0 (x 1) h (x 2))
def VL (c : Dev nD) (h : Fin 8) : Vec F S1x4096x128 .f32 := fun x => argV m c (ix4 0 (x 1) h (x 2))

/-- Device `c`'s partial sums: eight heads' weighted sums side by side, then the eight sums of weights. Past these the
    buffer's columns hold what nobody reads. -/
def PV (c : Dev nD) : S256x1152.Idx → Elt F .bf16 := fun i =>
  if hi : (i 1).val < 1024 then
    accOf (Q m c) ⟨(i 1).val / 128, by omega⟩ (KL m c ⟨(i 1).val / 128, by omega⟩) (VL m c ⟨(i 1).val / 128, by omega⟩)
      (ix2 (i 0) ⟨(i 1).val % 128, Nat.mod_lt _ (by decide)⟩)
  else denOf (Q m c) ⟨((i 1).val - 1024) % 8, Nat.mod_lt _ (by decide)⟩ (KL m c ⟨((i 1).val - 1024) % 8, Nat.mod_lt _ (by decide)⟩) (ix2 (i 0) 0)

theorem row_lt (c : Dev nD) (a : Fin 16) : 16 * c.val + a.val < 256 := by have := c.isLt; have := a.isLt; unfold nD at *; omega

/-- Row `a` of the sixteen that device `c` finishes. -/
def rowOf (c : Dev nD) (a : Fin 16) : Fin 256 := ⟨16 * c.val + a.val, row_lt c a⟩

/-- What device `c`'s slots hold: the rows it finishes of its peers' partial sums. -/
def SL (c : Dev nD) : S15x16x1152.Idx → Elt F .bf16 := fun i => PV m (peerP c (Fin.rev (i 0))) (ix2 (rowOf c (i 1)) (i 2))

def SLv (c : Dev nD) (r : Fin 15) : Vec F S1x16x1152 .bf16 := fun x => SL m c (ix3 r (x 1) (x 2))

/-- The rows it finishes of its own. -/
def OWN (c : Dev nD) : Vec F S16x1152 .bf16 := fun x => PV m c (ix2 (rowOf c (x 0)) (x 1))

/-- The total over the devices. -/
def TOT (c : Dev nD) : FVec F S16x1152 .f32 := peers.foldl (fun acc r => addSlot acc (SLv m c r)) (extf .f32 (OWN m c) bitsLt_bf16_f32)

/-- The context of the rows device `c` finishes. -/
def CTX (c : Dev nD) : S16x1024.Idx → Elt F .bf16 := fun i =>
  ctxOf (TOT m c) ⟨(i 1).val / 128, by have : (i 1).val < 1024 := (i 1).isLt; omega⟩ (ix2 (i 0) ⟨(i 1).val % 128, Nat.mod_lt _ (by decide)⟩)

/-- Their output, and as it is sent. -/
def RES (c : Dev nD) : FVec F S16x1024 .f32 := resOf (CTX m c) (wostg m c)
def RV (c : Dev nD) : S16x1024.Idx → Elt F .bf16 := sendOf (RES m c)

/-- What device `c` receives of its peers' finished rows. -/
def ISL (c : Dev nD) : S15x16x1024.Idx → Elt F .bf16 := fun i => RV m (peerP c (Fin.rev (i 0))) (ix2 (i 1) (i 2))

def ISLv (c : Dev nD) (r : Fin 15) : Vec F S1x16x1024 .bf16 := fun x => ISL m c (ix3 r (x 1) (x 2))

theorem dev_lt (i : S1x256x1024.Idx) : (i 1).val / 16 < nD := by
  have : (i 1).val < 256 := (i 1).isLt
  show _ < 16; omega

/-- The output block of device `c`: its own rows, and every peer's as received. -/
def OUT (c : Dev nD) : S1x256x1024.Idx → Elt F .f32 := fun i =>
  if (i 1).val / 16 = c.val then RES m c (ix2 ⟨(i 1).val % 16, Nat.mod_lt _ (by decide)⟩ (i 2))
  else (extf .f32 (RV m ⟨(i 1).val / 16, dev_lt i⟩ : FVec F S16x1024 .bf16) bitsLt_bf16_f32 : FVec F S16x1024 .f32)
    (ix2 ⟨(i 1).val % 16, Nat.mod_lt _ (by decide)⟩ (i 2))

end Cert.KernelIdeal.Attn

end
-- ==== Proof.Proto.lean ====
/-
The protocol: which resource each semaphore hands over, what each device owes at launch, and in which order waits may
be made.

Every semaphore is used for one round. A copy's semaphores hand back the copied memory with its contents; a barrier
signal hands the waiter the landing areas in the signaller's buffers that the waiter will write: its four strips of
one slot, and one slot of finished rows. Duties of a barrier cell are named by the waiter's number for the peer that
pays; every other cell has the one duty `0`.
-/
module

public import proofs.«01_k».proof.Proof.Contents

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev DU : Type := Fin 15
abbrev UB : Type := URounds (GSem nD τ sig) DU
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memory agreeing with known contents -/

/-- The elements `I` of a buffer, holding `g` where `P` says so. -/
def agr (ℓ : Loc nD τ sig) (I : Finset (Idx ℓ)) (P : Idx ℓ → Prop) (g : Buf (Elt F) ℓ) : sProp 𝕄 :=
  iprop(∃ f : Buf (Elt F) ℓ, ⌜∀ i ∈ I, P i → f i = g i⌝ ∗ ℓ ↦[I]{fullShare} f)

instance agr_storable (ℓ : Loc nD τ sig) (I P) (g : Buf (Elt F) ℓ) : BI.Storable (upEmb : UEmb _ 𝕄) (agr ℓ I P g) := by
  unfold agr; infer_instance

omit [FloatOps F] in
theorem agr_mono {ℓ : Loc nD τ sig} {I : Finset (Idx ℓ)} {P P' : Idx ℓ → Prop} {g g' : Buf (Elt F) ℓ}
    (h : ∀ i ∈ I, P' i → P i ∧ g i = g' i) : (agr ℓ I P g : sProp 𝕄) ⊢ agr ℓ I P' g' := by
  unfold agr
  iintro ⟨%f, %hf, H⟩
  iexists f
  isplitr
  · ipureintro; exact fun i hi hp => (hf i hi (h i hi hp).1).trans (h i hi hp).2
  iexact H

omit [FloatOps F] in
theorem agr_intro {ℓ : Loc nD τ sig} {I : Finset (Idx ℓ)} {P : Idx ℓ → Prop} {g : Buf (Elt F) ℓ} (f : Buf (Elt F) ℓ)
    (h : ∀ i ∈ I, P i → f i = g i) : (ℓ ↦[I]{fullShare} f : sProp 𝕄) ⊢ agr ℓ I P g := by
  unfold agr
  iintro H
  iexists f
  isplitr
  · ipureintro; exact h
  iexact H

omit [FloatOps F] in
/-- Known everywhere on its elements, the memory holds `g`. -/
theorem agr_exact {ℓ : Loc nD τ sig} {I : Finset (Idx ℓ)} {P : Idx ℓ → Prop} {g : Buf (Elt F) ℓ} (h : ∀ i ∈ I, P i) :
    (agr ℓ I P g : sProp 𝕄) ⊢ ℓ ↦[I]{fullShare} g := by
  unfold agr
  iintro ⟨%f, %hf, H⟩
  iapply (Entails.of_eq (pointsTo_congr (fun i hi => hf i hi (h i hi))))
  iexact H

omit [FloatOps F] in
theorem agr_union {ℓ : Loc nD τ sig} {I J : Finset (Idx ℓ)} {P : Idx ℓ → Prop} {g : Buf (Elt F) ℓ} (hd : Disjoint I J) :
    (agr ℓ (I ∪ J) P g : sProp 𝕄) ⊢ iprop(agr ℓ I P g ∗ agr ℓ J P g) := by
  unfold agr
  iintro ⟨%f, %hf, H⟩
  ihave H' := (pointsTo_union hd).1 $$ H
  icases H' with ⟨H1, H2⟩
  isplitl [H1]
  · iexists f; isplitr
    · ipureintro; exact fun i hi => hf i (Finset.mem_union_left _ hi)
    iexact H1
  · iexists f; isplitr
    · ipureintro; exact fun i hi => hf i (Finset.mem_union_right _ hi)
    iexact H2

omit [FloatOps F] in
theorem agr_join {ℓ : Loc nD τ sig} {I J : Finset (Idx ℓ)} {P : Idx ℓ → Prop} {g : Buf (Elt F) ℓ} (hd : Disjoint I J) :
    iprop(agr ℓ I P g ∗ agr ℓ J P g) ⊢ (agr ℓ (I ∪ J) P g : sProp 𝕄) := by
  unfold agr
  iintro ⟨⟨%f, %hf, H1⟩, ⟨%f', %hf', H2⟩⟩
  iexists (J.piecewise f' f)
  isplitr
  · ipureintro
    intro i hi hp
    by_cases hj : i ∈ J
    · rw [Finset.piecewise_eq_of_mem _ _ _ hj]; exact hf' i hj hp
    · rw [Finset.piecewise_eq_of_notMem _ _ _ hj]; exact hf i ((Finset.mem_union.mp hi).resolve_right hj) hp
  iapply (pointsTo_join hd)
  isplitl [H1] <;> iassumption

omit [FloatOps F] in
theorem agr_empty {ℓ : Loc nD τ sig} {P : Idx ℓ → Prop} (g : Buf (Elt F) ℓ) : (iprop(emp) : sProp 𝕄) ⊢ agr ℓ ∅ P g := by
  unfold agr; iintro -; iexists g; isplitr
  · ipureintro; exact fun i hi => absurd hi (Finset.notMem_empty _)
  · rw [pointsTo_empty]; iempintro

omit [FloatOps F] in
theorem agr_biUnion {ℓ : Loc nD τ sig} {T : Type} [DecidableEq T] (S : Finset T) (K : T → Finset (Idx ℓ)) {P : Idx ℓ → Prop} {g : Buf (Elt F) ℓ}
    (h : ∀ t ∈ S, ∀ t' ∈ S, t ≠ t' → Disjoint (K t) (K t')) :
    (agr ℓ (S.biUnion K) P g : sProp 𝕄) ⊢ bigSep S fun t => agr ℓ (K t) P g := by
  induction S using Finset.induction_on with
  | empty => rw [bigSep_empty]; iintro -; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine BI.Entails.trans (agr_union hd) ?_
    exact sep_mono_right (ih fun t₁ h₁ t₂ h₂ => h t₁ (Finset.mem_insert_of_mem h₁) t₂ (Finset.mem_insert_of_mem h₂))

omit [FloatOps F] in
theorem agr_biUnion_join {ℓ : Loc nD τ sig} {T : Type} [DecidableEq T] (S : Finset T) (K : T → Finset (Idx ℓ)) {P : Idx ℓ → Prop} {g : Buf (Elt F) ℓ}
    (h : ∀ t ∈ S, ∀ t' ∈ S, t ≠ t' → Disjoint (K t) (K t')) :
    bigSep S (fun t => agr ℓ (K t) P g) ⊢ (agr ℓ (S.biUnion K) P g : sProp 𝕄) := by
  induction S using Finset.induction_on with
  | empty =>
    rw [Finset.biUnion_empty, bigSep_empty]
    exact agr_empty g
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine BI.Entails.trans (sep_mono_right (ih fun t₁ h₁ t₂ h₂ => h t₁ (Finset.mem_insert_of_mem h₁) t₂ (Finset.mem_insert_of_mem h₂))) ?_
    exact agr_join hd

/-! ## Resources along a list -/

/-- One resource for each member of a list. -/
def sepL {α : Type} (l : List α) (Φ : α → sProp 𝕄) : sProp 𝕄 := l.foldr (fun a P => iprop(Φ a ∗ P)) iprop(emp)

omit [FloatOps F] in
theorem sepL_cons {α : Type} (a : α) (l : List α) (Φ : α → sProp 𝕄) : sepL (a :: l) Φ = iprop(Φ a ∗ sepL l Φ) := rfl

omit [FloatOps F] in
theorem sepL_eq {α : Type} [DecidableEq α] : ∀ (l : List α) (_ : l.Nodup) (Φ : α → sProp 𝕄), sepL l Φ = bigSep l.toFinset Φ
  | [], _, Φ => by rw [List.toFinset_nil, bigSep_empty]; rfl
  | a :: l, h, Φ => by
    rw [sepL_cons, List.toFinset_cons, bigSep_insert (by rw [List.mem_toFinset]; exact (List.nodup_cons.mp h).1), sepL_eq l (List.nodup_cons.mp h).2]
    rfl

omit [FloatOps F] in
theorem sepL_peers (Φ : Fin 15 → sProp 𝕄) : sepL peers Φ = bigSep Finset.univ Φ := by
  rw [sepL_eq peers (by decide), show peers.toFinset = Finset.univ from by decide]
omit [FloatOps F] in
theorem sepL_heads (Φ : Fin 8 → sProp 𝕄) : sepL heads Φ = bigSep Finset.univ Φ := by
  rw [sepL_eq heads (by decide), show heads.toFinset = Finset.univ from by decide]

omit [FloatOps F] in
/-- A resource for each device is one for `d` and one for each of its peers. -/
theorem bigSep_peers (d : Dev nD) (Φ : Dev nD → sProp 𝕄) : bigSep Finset.univ Φ = iprop(Φ d ∗ bigSep Finset.univ fun r => Φ (peerP d r)) := by
  have e : (Finset.univ : Finset (Dev nD)) = insert d (Finset.univ.map ⟨peerP d, fun r s => peer_inj d r s⟩) := by
    ext e; simp only [Finset.mem_univ, Finset.mem_insert, Finset.mem_map, true_and, Function.Embedding.coeFn_mk, true_iff]
    rcases peer_cover d e with h | ⟨r, h⟩
    · exact Or.inl h
    · exact Or.inr ⟨r, h.symm⟩
  rw [e, bigSep_insert (by
    simp only [Finset.mem_map, Finset.mem_univ, true_and, Function.Embedding.coeFn_mk, not_exists]
    exact fun r => peer_ne d r), bigSep_map]
  rfl

/-! ## The cells -/

abbrev barCell (c : Dev nD) : GSem nD τ sig := ((c : Thread nD τ), .reg barSem)
abbrev kvCell (c : Dev nD) (j : Fin 2) (h : Fin 8) : GSem nD τ sig := ((c : Thread nD τ), .dma (kvSem j h))
abbrev bsCell (c : Dev nD) (t : Fin 4) (r : Fin 15) : GSem nD τ sig := ((c : Thread nD τ), .dma (bsSem t r))
abbrev brCell (c : Dev nD) (t : Fin 4) (r : Fin 15) : GSem nD τ sig := ((c : Thread nD τ), .dma (brSem t r))
abbrev dsCell (c : Dev nD) (r : Fin 15) : GSem nD τ sig := ((c : Thread nD τ), .dma (dsSem r))
abbrev drCell (c : Dev nD) (r : Fin 15) : GSem nD τ sig := ((c : Thread nD τ), .dma (drSem r))

/-- What a copy's semaphore is for. -/
inductive Use where
  | kv (j : Fin 2) (h : Fin 8)
  | bs (t : Fin 4) (r : Fin 15)
  | br (t : Fin 4) (r : Fin 15)
  | ds (r : Fin 15)
  | dr (r : Fin 15)
  | none
  deriving DecidableEq

def use (q : DmaSem sig) : Use :=
  if q.val < 4 then .none
  else if q.val < 20 then .kv (Fin.ofNat 2 ((q.val - 4) / 8)) (Fin.ofNat 8 ((q.val - 4) % 8))
  else if q.val < 80 then .bs (Fin.ofNat 4 ((q.val - 20) / 15)) (Fin.ofNat 15 ((q.val - 20) % 15))
  else if q.val < 140 then .br (Fin.ofNat 4 ((q.val - 80) / 15)) (Fin.ofNat 15 ((q.val - 80) % 15))
  else if q.val < 155 then .ds (Fin.ofNat 15 (q.val - 140))
  else .dr (Fin.ofNat 15 (q.val - 155))

theorem use_kv : ∀ j h, use (kvSem j h) = .kv j h := by decide +kernel
theorem use_bs : ∀ t r, use (bsSem t r) = .bs t r := by decide +kernel
theorem use_br : ∀ t r, use (brSem t r) = .br t r := by decide +kernel
theorem use_ds : ∀ r, use (dsSem r) = .ds r := by decide +kernel
theorem use_dr : ∀ r, use (drSem r) = .dr r := by decide +kernel

/-! ## The schedule -/

abbrev kvN (j : Fin 2) (h : Fin 8) : ℕ := if j = 0 then (kstV h).view.dmaCredit else (vstV h).view.dmaCredit
abbrev bN (t : Fin 4) (r : Fin 15) : ℕ := (slotV t r).view.dmaCredit
abbrev dN (r : Fin 15) : ℕ := (islV r).view.dmaCredit

/-- The credit of a copy's semaphore. -/
def useN : Use → ℕ
  | .kv j h => kvN j h
  | .bs t r => bN t r
  | .br t r => bN t r
  | .ds r => dN r
  | .dr r => dN r
  | .none => 1

theorem SS_pos : ∀ t : Fin 4, 0 < (SS t).numel := by decide

theorem useN_pos (u : Use) : 0 < useN u := by
  cases u with
  | kv j h =>
    show 0 < kvN j h
    unfold kvN; split
    · exact View.dmaCredit_pos _ (by decide)
    · exact View.dmaCredit_pos _ (by decide)
  | bs t r => exact View.dmaCredit_pos _ (SS_pos t)
  | br t r => exact View.dmaCredit_pos _ (SS_pos t)
  | ds r => exact View.dmaCredit_pos _ (by decide)
  | dr r => exact View.dmaCredit_pos _ (by decide)
  | none => exact Nat.one_pos

/-- The columns that carry partial sums. -/
abbrev Col (i : S256x1152.Idx) : Prop := (i 1).val < 1032
abbrev SCol (i : S15x16x1152.Idx) : Prop := (i 2).val < 1032

abbrev partL (c : Dev nD) : Loc nD τ sig := (c : Thread nD τ).loc cc0_scratch0
abbrev slotsL (c : Dev nD) : Loc nD τ sig := (c : Thread nD τ).loc cc0_scratch1
abbrev ctxL (c : Dev nD) : Loc nD τ sig := (c : Thread nD τ).loc cc0_scratch2
abbrev oslotL (c : Dev nD) : Loc nD τ sig := (c : Thread nD τ).loc cc0_scratch3
abbrev islL (c : Dev nD) : Loc nD τ sig := (c : Thread nD τ).loc cc0_scratch4
abbrev kstL (c : Dev nD) : Loc nD τ sig := (c : Thread nD τ).loc cc0_scratch5
abbrev vstL (c : Dev nD) : Loc nD τ sig := (c : Thread nD τ).loc cc0_scratch6
abbrev kL (c : Dev nD) : Loc nD τ sig := (c : Thread nD τ).loc main_arg2
abbrev vL (c : Dev nD) : Loc nD τ sig := (c : Thread nD τ).loc main_arg3

/-- Device `c`'s piece of its sums for device `e`, known once `P` allows. -/
def partP (c e : Dev nD) (t : Fin 4) : sProp 𝕄 := agr (partL c) (cellS e t) Col (PV m c)
/-- A landing area for a strip, before and after. -/
def landP (c : Dev nD) (t : Fin 4) (r : Fin 15) : sProp 𝕄 := iprop(∃ f, slotsL c ↦[slotS t r]{fullShare} f)
def slotP (c : Dev nD) (t : Fin 4) (r : Fin 15) : sProp 𝕄 := agr (slotsL c) (slotS t r) SCol (SL m c)
/-- A landing area for finished rows, before and after. -/
def rlandP (c : Dev nD) (r : Fin 15) : sProp 𝕄 := iprop(∃ f, islL c ↦[islS r]{fullShare} f)
def islP (c : Dev nD) (r : Fin 15) : sProp 𝕄 := islL c ↦[islS r]{fullShare} ISL m c
/-- The share of the sent rows that one send reads. -/
def oshare (r : Fin 15) : PosShare TreeShare := Transfers.dealOf fullShare (Finset.univ : Finset (Fin 15)) r
def oslotP (c : Dev nD) (r : Fin 15) : sProp 𝕄 := oslotL c ↦[Finset.univ]{oshare r} RV m c
/-- Everything a device lends its peer number `r`. -/
def lendP (c : Dev nD) (r : Fin 15) : sProp 𝕄 := iprop(landP c 0 r ∗ landP c 1 r ∗ landP c 2 r ∗ landP c 3 r ∗ rlandP c r)
def kP (c : Dev nD) (h : Fin 8) : sProp 𝕄 := kL c ↦[kvS h]{fullShare} m (kL c)
def vP (c : Dev nD) (h : Fin 8) : sProp 𝕄 := vL c ↦[kvS h]{fullShare} m (vL c)
def kstP (c : Dev nD) (h : Fin 8) : sProp 𝕄 := kstL c ↦[stgS h]{fullShare} KST m c
def vstP (c : Dev nD) (h : Fin 8) : sProp 𝕄 := vstL c ↦[stgS h]{fullShare} VST m c

/-- What a copy's semaphore hands over. -/
def usePay (c : Dev nD) : Use → sProp 𝕄
  | .kv j h => if j = 0 then iprop(kstP m c h ∗ kP m c h) else iprop(vstP m c h ∗ vP m c h)
  | .bs t r => partP m c (peerP c r) t
  | .br t r => slotP m c t r
  | .ds r => oslotP m c r
  | .dr r => islP m c r
  | .none => iprop(emp)

instance usePay_storable (c : Dev nD) (u : Use) : BI.Storable (upEmb : UEmb _ 𝕄) (usePay m c u) := by
  cases u <;> unfold usePay
  · unfold kstP kP vstP vP; dsimp only; split <;> infer_instance
  · unfold partP; infer_instance
  · unfold slotP; infer_instance
  · unfold oslotP; infer_instance
  · unfold islP; infer_instance
  · infer_instance

instance lendP_storable (c : Dev nD) (r : Fin 15) : BI.Storable (upEmb : UEmb _ 𝕄) (lendP (F := F) c r) := by
  unfold lendP landP rlandP; infer_instance

/-- The schedule: one round. -/
def Rd : Rounds.Schedule (GSem nD τ sig) DU 𝕄 where
  duties g r := if r = 0 ∧ g.1.2 = .tc then (match g.2 with | .reg _ => Finset.univ | .dma q => if use q = .none then ∅ else {0}) else ∅
  unitless _ := False
  amount g _ _ := match g.2 with | .reg _ => 1 | .dma q => useN (use q)
  payload g _ d := match g.2 with | .reg _ => lendP (peerP g.1.1 d) d | .dma q => usePay m g.1.1 (use q)
  amount_pos g _ _ _ := by
    obtain ⟨th, sm⟩ := g
    cases sm with
    | reg s => exact Nat.one_pos
    | dma q => exact useN_pos _

instance Rd_payload_storable (g : GSem nD τ sig) (r : ℕ) (d : DU) : BI.Storable (upEmb : UEmb _ 𝕄) ((Rd m).payload g r d) := by
  obtain ⟨th, sm⟩ := g
  cases sm with
  | reg s => exact lendP_storable _ _
  | dma q => exact usePay_storable m _ _

section Sched
variable (c : Dev nD)

theorem duties_later (g : GSem nD τ sig) : ∀ r, 1 ≤ r → (Rd m).duties g r = ∅ :=
  fun r hr => by dsimp only [Rd]; rw [if_neg fun h => by omega]

theorem duties_bar : (Rd m).duties (barCell c) 0 = Finset.univ := by dsimp only [Rd]; exact if_pos ⟨rfl, rfl⟩
theorem duties_dma (q : DmaSem sig) (h : use q ≠ .none) : (Rd m).duties ((c : Thread nD τ), .dma q) 0 = {0} := by
  dsimp only [Rd]; rw [if_pos ⟨rfl, rfl⟩, if_neg h]
theorem amount_bar (d : DU) : (Rd m).amount (barCell c) 0 d = 1 := rfl
theorem amount_dma (q : DmaSem sig) (d : DU) : (Rd m).amount ((c : Thread nD τ), .dma q) 0 d = useN (use q) := rfl
theorem payload_bar (d : DU) : (Rd m).payload (barCell c) 0 d = lendP (peerP c d) d := rfl
theorem payload_dma (q : DmaSem sig) (d : DU) : (Rd m).payload ((c : Thread nD τ), .dma q) 0 d = usePay m c (use q) := rfl

theorem expect_bar : (Rd m).expect (barCell c) 0 = 15 := by
  unfold Schedule.expect Schedule.amountOf
  rw [duties_bar, Finset.sum_congr rfl fun d _ => amount_bar m c d, Finset.sum_const, Finset.card_univ, Fintype.card_fin, smul_eq_mul]
theorem expect_dma (q : DmaSem sig) (h : use q ≠ .none) : (Rd m).expect ((c : Thread nD τ), .dma q) 0 = useN (use q) := by
  unfold Schedule.expect Schedule.amountOf; rw [duties_dma m c q h, Finset.sum_singleton, amount_dma]

theorem rest_bar : bigSep ((Rd m).duties (barCell c) 0 \ ∅) (fun d => (Rd m).payload (barCell c) 0 d) = bigSep Finset.univ fun d => lendP (peerP c d) d := by
  rw [Finset.sdiff_empty, duties_bar]; rfl
theorem rest_dma (q : DmaSem sig) (h : use q ≠ .none) :
    bigSep ((Rd m).duties ((c : Thread nD τ), .dma q) 0 \ ∅) (fun d => (Rd m).payload ((c : Thread nD τ), .dma q) 0 d) = usePay m c (use q) := by
  rw [Finset.sdiff_empty, duties_dma m c q h, bigSep_singleton, payload_dma]

end Sched

/-! ## What each device owes; the levels -/

/-- Tallies added along a list, the first on top. -/
def addT {α : Type} (l : List α) (f : α → CellTallies nD τ sig Unit) (O : CellTallies nD τ sig Unit) : CellTallies nD τ sig Unit :=
  l.foldr (fun a P => P + f a) O

theorem addT_cons {α : Type} (a : α) (l : List α) (f : α → CellTallies nD τ sig Unit) (O) : addT (a :: l) f O = addT l f O + f a := rfl

def barT (d : Dev nD) (r : Fin 15) : CellTallies nD τ sig Unit := tallyAt (barCell (peerP d r)) () 1
def brT (d : Dev nD) (t : Fin 4) (r : Fin 15) : CellTallies nD τ sig Unit := tallyAt (brCell (peerP d r) t r) () (bN t r)
def drT (d : Dev nD) (r : Fin 15) : CellTallies nD τ sig Unit := tallyAt (drCell (peerP d r) r) () (dN r)

def O4 (d : Dev nD) : CellTallies nD τ sig Unit := addT peers (drT d) 0
def O3 (d : Dev nD) : CellTallies nD τ sig Unit := addT peers (brT d 3) (O4 d)
def O2 (d : Dev nD) : CellTallies nD τ sig Unit := addT peers (brT d 2) (O3 d)
def O1 (d : Dev nD) : CellTallies nD τ sig Unit := addT peers (brT d 1) (O2 d)
def OB (d : Dev nD) : CellTallies nD τ sig Unit := addT peers (brT d 0) (O1 d)
def O₀ (d : Dev nD) : CellTallies nD τ sig Unit := addT peers (barT d) (OB d)

def L (g : GSem nD τ sig) : Finset Unit := if g.1.2 = .tc then {()} else ∅
/-- The barrier at 1, the landing strips at 2, the landing rows at 3, everything else at 0. -/
def lv (g : GSem nD τ sig) (_ : Unit) : ℕ :=
  match g.2 with
  | .reg _ => 1
  | .dma q => match use q with | .br _ _ => 2 | .dr _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_mono {n k : ℕ} {O} (h : Above n O) (hk : k ≤ n) : Above k O := fun g u hg => ⟨(h g u hg).1, lt_of_le_of_lt hk (h g u hg).2⟩
theorem above_at {n k : ℕ} (c : Dev nD) (sm : SemLoc sig) (h : n < lv ((c : Thread nD τ), sm) ()) : Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)
theorem above_addT {α : Type} {n : ℕ} (f : α → CellTallies nD τ sig Unit) (hf : ∀ a, Above n (f a)) {O} (hO : Above n O) : ∀ l : List α, Above n (addT l f O)
  | [] => hO
  | a :: l => by
    intro g u hg
    rw [addT_cons, Pi.add_apply, Finsupp.add_apply] at hg
    rcases Nat.eq_zero_or_pos (addT l f O g u) with h0 | h0
    · exact hf a g u (by omega)
    · exact above_addT f hf hO l g u h0

theorem lv_br (c : Dev nD) (t r) : lv (brCell c t r) () = 2 := by dsimp only [lv]; rw [use_br]
theorem lv_dr (c : Dev nD) (r) : lv (drCell c r) () = 3 := by dsimp only [lv]; rw [use_dr]

theorem above_out (d : Dev nD) (l : List (Fin 15)) : Above 2 (addT l (drT d) 0) :=
  above_addT _ (fun r => above_at _ _ (by rw [lv_dr]; decide)) (above_zero _) l
theorem above_strip (d : Dev nD) (t : Fin 4) (l : List (Fin 15)) {O} (h : Above 1 O) : Above 1 (addT l (brT d t) O) :=
  above_addT _ (fun r => above_at _ _ (by rw [lv_br]; decide)) h l
theorem above_4 (d : Dev nD) : Above 2 (O4 d) := above_out d _
theorem above_3 (d : Dev nD) : Above 1 (O3 d) := above_strip d 3 _ (above_mono (above_4 d) (by decide))
theorem above_2 (d : Dev nD) : Above 1 (O2 d) := above_strip d 2 _ (above_3 d)
theorem above_1 (d : Dev nD) : Above 1 (O1 d) := above_strip d 1 _ (above_2 d)
theorem above_B (d : Dev nD) : Above 1 (OB d) := above_strip d 0 _ (above_1 d)
theorem above_0 (d : Dev nD) : Above 0 (O₀ d) :=
  above_addT _ (fun r => above_at _ _ (by show 0 < 1; decide)) (above_mono (above_B d) (by decide)) _

omit [FloatOps F] in
theorem mayWait_above (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.KernelIdeal.Attn

end
-- ==== Proof.Steps.lean ====
/-
Each communication of the body, as one step: starting the copies, signalling the barrier, sending, and waiting.
-/
module

public import proofs.«01_k».proof.Proof.Proto

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## All the cells in use -/

/-- A device's cells: the barrier's, and one for each copy's semaphore. -/
abbrev CI : Type := Unit ⊕ (Fin 2 × Fin 8) ⊕ (Fin 4 × Fin 15) ⊕ (Fin 4 × Fin 15) ⊕ Fin 15 ⊕ Fin 15

def csem : CI → SemLoc sig
  | .inl _ => .reg barSem
  | .inr (.inl p) => .dma (kvSem p.1 p.2)
  | .inr (.inr (.inl p)) => .dma (bsSem p.1 p.2)
  | .inr (.inr (.inr (.inl p))) => .dma (brSem p.1 p.2)
  | .inr (.inr (.inr (.inr (.inl r)))) => .dma (dsSem r)
  | .inr (.inr (.inr (.inr (.inr r)))) => .dma (drSem r)

/-- What a semaphore is for: the barrier's, or a copy's. -/
def useL : SemLoc sig → Unit ⊕ Use
  | .reg _ => .inl ()
  | .dma q => .inr (use q)

def useC : CI → Unit ⊕ Use
  | .inl _ => .inl ()
  | .inr (.inl p) => .inr (.kv p.1 p.2)
  | .inr (.inr (.inl p)) => .inr (.bs p.1 p.2)
  | .inr (.inr (.inr (.inl p))) => .inr (.br p.1 p.2)
  | .inr (.inr (.inr (.inr (.inl r)))) => .inr (.ds r)
  | .inr (.inr (.inr (.inr (.inr r)))) => .inr (.dr r)

theorem useL_csem (k : CI) : useL (csem k) = useC k := by
  rcases k with _ | ⟨j, h⟩ | ⟨t, r⟩ | ⟨t, r⟩ | r | r
  · rfl
  · exact congrArg Sum.inr (use_kv j h)
  · exact congrArg Sum.inr (use_bs t r)
  · exact congrArg Sum.inr (use_br t r)
  · exact congrArg Sum.inr (use_ds r)
  · exact congrArg Sum.inr (use_dr r)

theorem useC_injective : Function.Injective useC := by
  rintro (_ | ⟨j, h⟩ | ⟨t, r⟩ | ⟨t, r⟩ | r | r) (_ | ⟨j', h'⟩ | ⟨t', r'⟩ | ⟨t', r'⟩ | r' | r') e <;> simp only [useC, Sum.inr.injEq, Use.kv.injEq, Use.bs.injEq, Use.br.injEq, Use.ds.injEq, Use.dr.injEq, reduceCtorEq] at e <;>
    first | rfl | (obtain ⟨rfl, rfl⟩ := e; rfl) | (subst e; rfl)

theorem csem_injective : Function.Injective csem := fun a b h => useC_injective (by rw [← useL_csem, ← useL_csem, h])

abbrev kcell (ck : Dev nD × CI) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

theorem mem_cells (c : Dev nD) (k : CI) : kcell (c, k) ∈ ringCells := Finset.mem_map.mpr ⟨(c, k), Finset.mem_univ _, rfl⟩

/-- Every cell's invariant, and that every cell's one round is open. -/
def recs (K : GSem nD τ sig → ℕ) : sProp 𝕄 :=
  bigSep ringCells fun g => iprop(cellInv ER (Rd m) (K g) g ∗ reached ER g 0)

instance recs_persistent (K : GSem nD τ sig → ℕ) : BI.Persistent (recs m K) := by unfold recs; infer_instance

/-- What every step may use. -/
def env (K : GSem nD τ sig → ℕ) : sProp 𝕄 := iprop(recs m K ∗ levAts L lv)

instance env_persistent (K : GSem nD τ sig → ℕ) : BI.Persistent (env m K) := by unfold env; infer_instance

variable (K : GSem nD τ sig → ℕ)

theorem env_cell (c : Dev nD) (k : CI) : env m K ⊢ iprop(cellInv ER (Rd m) (K (kcell (c, k))) (kcell (c, k)) ∗ reached ER (kcell (c, k)) 0) := by
  have h : recs m K ⊢ iprop(cellInv ER (Rd m) (K (kcell (c, k))) (kcell (c, k)) ∗ reached ER (kcell (c, k)) 0) := by
    unfold recs
    exact bigSep_elim (Φ := fun g => iprop(cellInv ER (Rd m) (K g) g ∗ reached ER g 0)) (mem_cells c k)
  unfold env
  iintro ⟨H, -⟩
  iapply h $$ H

theorem env_lev : env m K ⊢ (levAts L lv : sProp 𝕄) := by
  unfold env; iintro ⟨-, H⟩; iexact H

set_option maxRecDepth 10000 in
theorem env_mayWait (c : Dev nD) (sm : SemLoc sig) {O : CellTallies nD τ sig Unit} (h : Above (lv ((c : Thread nD τ), sm) ()) O) :
    env m K ⊢ MayWait (c : Thread nD τ) sm () O := BI.Entails.trans (env_lev m K) (mayWait_above c sm h)

abbrev iBar : CI := .inl ()
abbrev iKv (j : Fin 2) (h : Fin 8) : CI := .inr (.inl (j, h))
abbrev iBs (t : Fin 4) (r : Fin 15) : CI := .inr (.inr (.inl (t, r)))
abbrev iBr (t : Fin 4) (r : Fin 15) : CI := .inr (.inr (.inr (.inl (t, r))))
abbrev iDs (r : Fin 15) : CI := .inr (.inr (.inr (.inr (.inl r))))
abbrev iDr (r : Fin 15) : CI := .inr (.inr (.inr (.inr (.inr r))))

/-! ## Running the body -/

abbrev 𝒱₀ : Variants := Variants.none

/-- Device `c` runs `p`, and `Q` holds at its end. -/
abbrev WP (c : Dev nD) (p : Pg F) (Q : PUnit → sProp 𝕄) : sProp 𝕄 :=
  wp frame (wpE (defs₀ (F := F)) 𝒱₀ (c : Thread nD τ) none) Set.univ p Q

/-- What device `c` owes. -/
def own (c : Dev nD) (O : CellTallies nD τ sig Unit) : sProp 𝕄 := iprop(∃ W, owes (c : Thread nD τ) O W)

/-- A loop over a list: `J` is what remains to be handed out, each turn takes `A` and gives `B`. -/
theorem wp_loop {α : Type} (c : Dev nD) (Q : PUnit → sProp 𝕄) (step : α → Pg F → Pg F) (A B : α → sProp 𝕄) (J : List α → sProp 𝕄)
    (hstep : ∀ a l κ, iprop(J (a :: l) ∗ A a) ⊢ iprop(((J l ∗ B a) -∗ WP c κ Q) -∗ WP c (step a κ) Q)) :
    ∀ (l : List α) (κ : Pg F), iprop(J l ∗ sepL l A) ⊢ iprop(((J [] ∗ sepL l B) -∗ WP c κ Q) -∗ WP c (l.foldr step κ) Q)
  | [], κ => by
    show iprop(J [] ∗ emp) ⊢ iprop(((J [] ∗ emp) -∗ WP c κ Q) -∗ WP c κ Q)
    iintro H Hk
    iapply Hk $$ H
  | a :: l, κ => by
    rw [sepL_cons, sepL_cons]
    show iprop(J (a :: l) ∗ A a ∗ sepL l A) ⊢ iprop(((J [] ∗ B a ∗ sepL l B) -∗ WP c κ Q) -∗ WP c (step a (l.foldr step κ)) Q)
    iintro ⟨HJ, HA, Hl⟩ Hk
    iapply (hstep a l (l.foldr step κ)) $$ [HJ HA]
    · isplitl [HJ] <;> iassumption
    iintro ⟨HJ, HB⟩
    iapply (wp_loop c Q step A B J hstep l κ) $$ [HJ Hl]
    · isplitl [HJ] <;> iassumption
    iintro ⟨HJ, HBl⟩
    iapply Hk
    isplitl [HJ]; · iexact HJ
    isplitl [HB] <;> iassumption

/-! ## Waiting -/

/-- A wait for a copy: what the copy's semaphore hands over, and its counter, at zero for good. -/
theorem wait_dma (c : Dev nD) (Q : PUnit → sProp 𝕄) (k : CI) (q : DmaSem sig) (hq : csem k = .dma q) (hu : use q ≠ .none)
    {w : TpuEff nD τ sig (Elt F) Λ₀ .tc PUnit} {n : ℕ}
    (hw : ∀ Kk : PUnit → sProp 𝕄, wpE (defs₀ (F := F)) 𝒱₀ (c : Thread nD τ) none Set.univ w Kk = waitSpec (c : Thread nD τ) Set.univ (.dma q) n Kk)
    (hn : n = useN (use q)) {O : CellTallies nD τ sig Unit} (hO : Above (lv ((c : Thread nD τ), .dma q) ()) O) (κ : PUnit → Pg F) :
    iprop(env m K ∗ own c O ∗ cred (tallyAt ((c : Thread nD τ), .dma q) () n) ∗ atPos ER ((c : Thread nD τ), .dma q) 0 ∅ 0)
      ⊢ iprop(((own c O ∗ usePay m c (use q) ∗ semVal ((c : Thread nD τ), .dma q) 0) -∗ WP c (κ ⟨⟩) Q) -∗ WP c (.op w κ) Q) := by
  have hc : kcell (c, k) = ((c : Thread nD τ), .dma q) := by show ((c : Thread nD τ), csem k) = _; rw [hq]
  unfold own
  iintro ⟨#He, ⟨%W, Ho⟩, Hc, Hat⟩ Hk
  ihave #Hi := (env_cell m K c k) $$ He
  rw [hc]
  icases Hi with ⟨#Hi, -⟩
  iapply (Rounds.wp_wait_rest_token 𝒱₀ ER (Rd m) (c : Thread nD τ) none (κ := K ((c : Thread nD τ), .dma q)) hw (Set.mem_univ _) () (O := O) (W := W) (R := 0) (m := 0) (T := ∅)
    (by rw [Nat.zero_add, expect_dma m c q hu, hn])) $$ [Hc Ho Hat]
  · isplitr; · iexact Hi
    isplitl [Hc]; · iexact Hc
    isplitl [Ho]; · iexact Ho
    isplitr; · iapply (env_mayWait m K c (.dma q) hO); iexact He
    iexact Hat
  iintro ⟨Ho, Hat, -, Hp⟩
  ihave Hp := (Entails.of_eq (rest_dma m c q hu)) $$ Hp
  imod (Rounds.cell_close ER (Rd m) (Set.mem_univ (K ((c : Thread nD τ), .dma q))) (fun h => h) (R := 0 + 1) (duties_later m _)) $$ [Hat] with Hz
  · isplitr; · iexact Hi
    iexact Hat
  iapply Hk
  isplitl [Ho]; · iexists _; iexact Ho
  isplitl [Hp] <;> iassumption

/-! ## The key and value copies -/

theorem kst_land (c : Dev nD) (h : Fin 8) (fd : Buf (Elt F) (kstL c)) :
    ((kstV h).view.loc (c : Thread nD τ) ↦[(kstV h).view.set]{fullShare} (kstV h).view.write (Elt F) fd ((kV h).view.read (Elt F) (m (kL c))) Finset.univ : sProp 𝕄) = kstP m c h := by
  unfold kstP
  rw [← kstV_set h]
  refine pointsTo_congr fun i hi => ?_
  obtain ⟨x, rfl⟩ := View.exists_emb_of_mem_set _ hi
  rw [View.write_emb_of_mem _ _ (Finset.mem_univ x), kst_emb]
  show m (kL c) ((kV h).view.emb x) = _
  rw [k_emb]
  rfl

theorem vst_land (c : Dev nD) (h : Fin 8) (fd : Buf (Elt F) (vstL c)) :
    ((vstV h).view.loc (c : Thread nD τ) ↦[(vstV h).view.set]{fullShare} (vstV h).view.write (Elt F) fd ((vV h).view.read (Elt F) (m (vL c))) Finset.univ : sProp 𝕄) = vstP m c h := by
  unfold vstP
  rw [← vstV_set h]
  refine pointsTo_congr fun i hi => ?_
  obtain ⟨x, rfl⟩ := View.exists_emb_of_mem_set _ hi
  rw [View.write_emb_of_mem _ _ (Finset.mem_univ x), vst_emb]
  show m (vL c) ((vV h).view.emb x) = _
  rw [v_emb]
  rfl

def kvPre (c : Dev nD) (h : Fin 8) : sProp 𝕄 :=
  iprop(kP m c h ∗ vP m c h ∗ (∃ f, kstL c ↦[stgS h]{fullShare} f) ∗ (∃ f, vstL c ↦[stgS h]{fullShare} f)
    ∗ dutyTok ER (kvCell c 0 h) 0 (0 : Fin 15) ∗ dutyTok ER (kvCell c 1 h) 0 (0 : Fin 15))
def kvCr (c : Dev nD) (h : Fin 8) : sProp 𝕄 :=
  iprop(cred (tallyAt (kvCell c 0 h) () (kstV h).view.dmaCredit) ∗ cred (tallyAt (kvCell c 1 h) () (vstV h).view.dmaCredit))

theorem kv_step (c : Dev nD) (Q : PUnit → sProp 𝕄) (h : Fin 8) (κ : Pg F) :
    iprop(env m K ∗ kvPre m c h) ⊢ iprop(((env m K ∗ kvCr c h) -∗ WP c κ Q) -∗ WP c (kvStart h κ) Q) := by
  unfold kvPre kvCr kvStart
  iintro ⟨#He, Hk, Hv, ⟨%fk, Hks⟩, ⟨%fv, Hvs⟩, Ht0, Ht1⟩ HK
  ihave #H0 := (env_cell m K c (iKv 0 h)) $$ He
  ihave #H1 := (env_cell m K c (iKv 1 h)) $$ He
  icases H0 with ⟨#Hi0, #Hr0⟩
  icases H1 with ⟨#Hi1, #Hr1⟩
  iapply (Rounds.wp_copy_pointsTo 𝒱₀ ER (Rd m) (c : Thread nD τ) none (src := kV h) (dst := kstV h) (q := fullShare) (fs := m (kL c)) (fd := fk) (r := 0) (d := (0 : Fin 15))
      (κ := K (kvCell c 0 h)) (by rw [duties_dma m c _ (by rw [use_kv]; exact fun e => by cases e)]; exact Finset.mem_singleton_self _)
      () (kstV h).view.dmaCredit (View.amount_dma _ _) (by rw [amount_dma, use_kv]; rfl)
      (by rw [payload_dma, use_kv, kst_land, kV_set]; exact BI.Entails.refl _)) $$ [Hk Hks Ht0]
  · isplitr; · iexact Hi0
    isplitl [Hk]; · unfold kP; rw [kV_set]; iexact Hk
    isplitl [Hks]; · rw [kstV_set]; iexact Hks
    isplitl [Ht0]; · iexact Ht0
    iexact Hr0
  iintro Hc0
  iapply (Rounds.wp_copy_pointsTo 𝒱₀ ER (Rd m) (c : Thread nD τ) none (src := vV h) (dst := vstV h) (q := fullShare) (fs := m (vL c)) (fd := fv) (r := 0) (d := (0 : Fin 15))
      (κ := K (kvCell c 1 h)) (by rw [duties_dma m c _ (by rw [use_kv]; exact fun e => by cases e)]; exact Finset.mem_singleton_self _)
      () (vstV h).view.dmaCredit (View.amount_dma _ _) (by rw [amount_dma, use_kv]; rfl)
      (by rw [payload_dma, use_kv, vst_land, vV_set]; exact BI.Entails.refl _)) $$ [Hv Hvs Ht1]
  · isplitr; · iexact Hi1
    isplitl [Hv]; · unfold vP; rw [vV_set]; iexact Hv
    isplitl [Hvs]; · rw [vstV_set]; iexact Hvs
    isplitl [Ht1]; · iexact Ht1
    iexact Hr1
  iintro Hc1
  iapply HK
  isplitr; · iexact He
  isplitl [Hc0] <;> iassumption

/-! ## The barrier -/

/-- Signal the barrier of peer `r`, lending it the landing areas it writes. -/
theorem bar_step (c : Dev nD) (Q : PUnit → sProp 𝕄) (O : CellTallies nD τ sig Unit) (r : Fin 15) (l : List (Fin 15)) (κ : Pg F) :
    iprop((env m K ∗ own c (addT (r :: l) (barT c) O)) ∗ (lendP c (Fin.rev r) ∗ dutyTok ER (barCell (peerP c r)) 0 (Fin.rev r)))
      ⊢ iprop((((env m K ∗ own c (addT l (barT c) O)) ∗ emp) -∗ WP c κ Q) -∗ WP c (barSignal c r κ) Q) := by
  unfold barSignal own
  iintro ⟨⟨#He, ⟨%W, Ho⟩⟩, Hl, Ht⟩ HK
  ihave #H := (env_cell m K (peerP c r) iBar) $$ He
  icases H with ⟨#Hi, #Hr⟩
  iapply (Rounds.wp_signal 𝒱₀ ER (Rd m) (c : Thread nD τ) none (dst := (peerP c r : Thread nD τ)) (sem := barSem) (κ := K (barCell (peerP c r)))
      (d := Fin.rev r) (r := 0) (by rw [duties_bar]; exact Finset.mem_univ _) ((amount_bar m (peerP c r) _).trans (by decide)) () (addT l (barT c) O) (addT_cons r l (barT c) O))
    $$ [Ho Ht Hl]
  · isplitr; · iexact Hi
    isplitl [Ho]; · iexact Ho
    isplitl [Ht]; · iexact Ht
    isplitl [Hl]; · rw [payload_bar, peer_back]; iexact Hl
    iexact Hr
  iintro Ho
  iapply HK
  isplitl [Ho]
  · isplitr; · iexact He
    iexists _; iexact Ho
  iempintro

/-- Wait for the fifteen signals: every peer's landing areas for this device. -/
theorem barWait_step (c : Dev nD) (Q : PUnit → sProp 𝕄) (O : CellTallies nD τ sig Unit) (hO : Above 1 O) (κ : Pg F) :
    iprop(env m K ∗ own c O ∗ cred (tallyAt (barCell c) () 15) ∗ atPos ER (barCell c) 0 ∅ 0)
      ⊢ iprop(((own c O ∗ (bigSep Finset.univ fun r => lendP (peerP c r) r) ∗ semVal (barCell c) 0) -∗ WP c κ Q) -∗ WP c (barWait κ) Q) := by
  unfold barWait own
  iintro ⟨#He, ⟨%W, Ho⟩, Hc, Hat⟩ Hk
  ihave #Hi := (env_cell m K c iBar) $$ He
  icases Hi with ⟨#Hi, -⟩
  iapply (Rounds.wp_wait_rest_token 𝒱₀ ER (Rd m) (c : Thread nD τ) none (κ := K (barCell c)) (wpE_semWait_eq 𝒱₀ (c : Thread nD τ) none Set.univ) (Set.mem_univ _) () (O := O) (W := W) (R := 0) (m := 0) (T := ∅)
    (by rw [expect_bar]; decide)) $$ [Hc Ho Hat]
  · isplitr; · iexact Hi
    isplitl [Hc]; · iexact Hc
    isplitl [Ho]; · iexact Ho
    isplitr; · iapply (env_mayWait m K c (.reg barSem) hO); iexact He
    iexact Hat
  iintro ⟨Ho, Hat, -, Hp⟩
  ihave Hp := (Entails.of_eq (rest_bar m c)) $$ Hp
  imod (Rounds.cell_close ER (Rd m) (Set.mem_univ (K (barCell c))) (fun h => h) (R := 0 + 1) (duties_later m _)) $$ [Hat] with Hz
  · isplitr; · iexact Hi
    iexact Hat
  iapply Hk
  isplitl [Ho]; · iexists _; iexact Ho
  isplitl [Hp]; · iexact Hp
  iexact Hz

/-! ## The strips -/

theorem slot_land (c : Dev nD) (t : Fin 4) (r : Fin 15) (fd : Buf (Elt F) (slotsL (peerP c r))) (f : Buf (Elt F) (partL c))
    (hf : ∀ i ∈ cellS (peerP c r) t, Col i → f i = PV m c i) :
    ((slotV t r).view.loc (peerP c r : Thread nD τ) ↦[(slotV t r).view.set]{fullShare} (slotV t r).view.write (Elt F) fd ((srcV c t r).view.read (Elt F) f) Finset.univ : sProp 𝕄)
      ⊢ slotP m (peerP c r) t r := by
  unfold slotP
  rw [← slotV_set t r]
  refine agr_intro _ fun i hi hp => ?_
  obtain ⟨x, rfl⟩ := View.exists_emb_of_mem_set _ hi
  rw [View.write_emb_of_mem _ _ (Finset.mem_univ x)]
  show f ((srcV c t r).view.emb x) = _
  obtain ⟨h0, h1, h2⟩ := slot_emb t r x
  have s0 := src_emb0 c t r x
  have s1 := src_emb1 c t r x
  have hm : (srcV c t r).view.emb x ∈ cellS (peerP c r) t := by rw [← srcV_set]; exact View.emb_mem_set _ x
  revert h0 h1 h2 s0 s1 hm hp
  generalize ((slotV t r).view.emb x : S15x16x1152.Idx) = y
  generalize ((srcV c t r).view.emb x : S256x1152.Idx) = z
  intro hp h0 h1 h2 s0 s1 hm
  have ey : y 0 = r := Fin.ext h0
  have ez : z = ix2 (rowOf (peerP c r) (y 1)) (y 2) := by
    funext a
    match a with
    | ⟨0, _⟩ => exact Fin.ext (s0.trans (congrArg (16 * (peerP c r).val + ·) h1.symm))
    | ⟨1, _⟩ => exact Fin.ext (s1.trans h2.symm)
  rw [hf z hm (by show (z 1).val < 1032; rw [s1, ← h2]; exact hp)]
  unfold SL
  rw [ey, peer_back]
  exact congrArg (PV m c) ez

def stripPre (c : Dev nD) (t : Fin 4) (r : Fin 15) : sProp 𝕄 :=
  iprop(partP m c (peerP c r) t ∗ landP (peerP c r) t r ∗ dutyTok ER (bsCell c t r) 0 (0 : Fin 15) ∗ dutyTok ER (brCell (peerP c r) t r) 0 (0 : Fin 15))
def bsCr (c : Dev nD) (t : Fin 4) (r : Fin 15) : sProp 𝕄 := cred (tallyAt (bsCell c t r) () (bN t r))

theorem strip_step (c : Dev nD) (Q : PUnit → sProp 𝕄) (t : Fin 4) (O : CellTallies nD τ sig Unit) (r : Fin 15) (l : List (Fin 15)) (κ : Pg F) :
    iprop((env m K ∗ own c (addT (r :: l) (brT c t) O)) ∗ stripPre m c t r)
      ⊢ iprop((((env m K ∗ own c (addT l (brT c t) O)) ∗ bsCr c t r) -∗ WP c κ Q) -∗ WP c (strip c t r κ) Q) := by
  unfold strip own stripPre partP agr landP bsCr
  iintro ⟨⟨#He, ⟨%W, Ho⟩⟩, ⟨%f, %hf, Hs⟩, ⟨%fd, Hd⟩, Ht0, Ht1⟩ HK
  ihave #H := (env_cell m K c (iBs t r)) $$ He
  icases H with ⟨#Hi0, #Hr0⟩
  ihave #H := (env_cell m K (peerP c r) (iBr t r)) $$ He
  icases H with ⟨#Hi1, #Hr1⟩
  iapply (Rounds.wp_send_pointsTo 𝒱₀ ER (Rd m) (c : Thread nD τ) none (c' := (peerP c r : Thread nD τ)) (src := srcV c t r) (dst := slotV t r)
      (q := fullShare) (fs := f) (fd := fd) (κ₁ := K (bsCell c t r)) (κ₂ := K (brCell (peerP c r) t r))
      (r₁ := 0) (r₂ := 0) (d₁ := (0 : Fin 15)) (d₂ := (0 : Fin 15))
      (by rw [duties_dma m c _ (by rw [use_bs]; exact fun e => by cases e)]; exact Finset.mem_singleton_self _)
      (by rw [duties_dma m (peerP c r) _ (by rw [use_br]; exact fun e => by cases e)]; exact Finset.mem_singleton_self _)
      () () (bN t r) (View.amount_dma _ _) (by rw [amount_dma, use_bs]; rfl) (by rw [amount_dma, use_br]; rfl)
      (addT l (brT c t) O) (addT_cons r l (brT c t) O) (W := W)
      (by rw [payload_dma, use_bs, srcV_set]; exact agr_intro f hf)
      (by rw [payload_dma, use_br]; exact slot_land m c t r fd f hf)) $$ [Hs Hd Ho Ht0 Ht1]
  · isplitr; · iexact Hi0
    isplitr; · iexact Hi1
    isplitl [Hs]; · rw [srcV_set]; iexact Hs
    isplitl [Hd]; · rw [slotV_set]; iexact Hd
    isplitl [Ho]; · iexact Ho
    isplitl [Ht0]; · iexact Ht0
    isplitr; · iexact Hr0
    isplitl [Ht1]; · iexact Ht1
    iexact Hr1
  iintro ⟨Hc, Ho⟩
  iapply HK
  isplitl [Ho]
  · isplitr; · iexact He
    iexists _; iexact Ho
  iexact Hc

def brPre (c : Dev nD) (t : Fin 4) (r : Fin 15) : sProp 𝕄 :=
  iprop(cred (tallyAt (brCell c t r) () (bN t r)) ∗ atPos ER (brCell c t r) 0 ∅ 0)
def brPost (c : Dev nD) (t : Fin 4) (r : Fin 15) : sProp 𝕄 := iprop(slotP m c t r ∗ semVal (brCell c t r) 0)

theorem stripWait_step (c : Dev nD) (Q : PUnit → sProp 𝕄) (t : Fin 4) (O : CellTallies nD τ sig Unit) (hO : Above 2 O) (r : Fin 15) (κ : Pg F) :
    iprop((env m K ∗ own c O) ∗ brPre c t r) ⊢ iprop((((env m K ∗ own c O) ∗ brPost m c t r) -∗ WP c κ Q) -∗ WP c (stripWait t r κ) Q) := by
  unfold stripWait brPre brPost
  iintro ⟨⟨#He, Ho⟩, Hc, Hat⟩ HK
  iapply (wait_dma m K c Q (iBr t r) (brSem t r) rfl (by rw [use_br]; exact fun e => by cases e) (wpE_waitDma2_eq 𝒱₀ (c : Thread nD τ) none Set.univ) (by rw [use_br]; rfl) (O := O)
    (by rw [lv_br]; exact hO)) $$ [Ho Hc Hat]
  · isplitr; · iexact He
    isplitl [Ho]; · iexact Ho
    isplitl [Hc] <;> iassumption
  rw [use_br]; dsimp only [usePay]
  iintro ⟨Ho, Hp, Hz⟩
  iapply HK
  isplitl [Ho]
  · isplitr; · iexact He
    iexact Ho
  isplitl [Hp]; · iexact Hp
  iexact Hz

def bsPre (c : Dev nD) (t : Fin 4) (r : Fin 15) : sProp 𝕄 := iprop(bsCr c t r ∗ atPos ER (bsCell c t r) 0 ∅ 0)
def bsPost (c : Dev nD) (t : Fin 4) (r : Fin 15) : sProp 𝕄 := iprop(partP m c (peerP c r) t ∗ semVal (bsCell c t r) 0)

theorem lv_bs (c : Dev nD) (t r) : lv (bsCell c t r) () = 0 := by dsimp only [lv]; rw [use_bs]
theorem lv_ds (c : Dev nD) (r) : lv (dsCell c r) () = 0 := by dsimp only [lv]; rw [use_ds]
theorem lv_kv (c : Dev nD) (j h) : lv (kvCell c j h) () = 0 := by dsimp only [lv]; rw [use_kv]

theorem stripDone_step (c : Dev nD) (Q : PUnit → sProp 𝕄) (t : Fin 4) (O : CellTallies nD τ sig Unit) (hO : Above 0 O) (r : Fin 15) (κ : Pg F) :
    iprop((env m K ∗ own c O) ∗ bsPre c t r) ⊢ iprop((((env m K ∗ own c O) ∗ bsPost m c t r) -∗ WP c κ Q) -∗ WP c (stripDone t r κ) Q) := by
  unfold stripDone bsPre bsPost bsCr
  iintro ⟨⟨#He, Ho⟩, Hc, Hat⟩ HK
  iapply (wait_dma m K c Q (iBs t r) (bsSem t r) rfl (by rw [use_bs]; exact fun e => by cases e) (wpE_waitDma2_eq 𝒱₀ (c : Thread nD τ) none Set.univ) (by rw [use_bs]; rfl) (O := O)
    (by rw [lv_bs]; exact hO)) $$ [Ho Hc Hat]
  · isplitr; · iexact He
    isplitl [Ho]; · iexact Ho
    isplitl [Hc] <;> iassumption
  rw [use_bs]; dsimp only [usePay]
  iintro ⟨Ho, Hp, Hz⟩
  iapply HK
  isplitl [Ho]
  · isplitr; · iexact He
    iexact Ho
  isplitl [Hp]; · iexact Hp
  iexact Hz

/-! ## The finished rows -/

theorem isl_land (c : Dev nD) (r : Fin 15) (fd : Buf (Elt F) (islL (peerP c r))) :
    ((islV r).view.loc (peerP c r : Thread nD τ) ↦[(islV r).view.set]{fullShare} (islV r).view.write (Elt F) fd ((oslotR).view.read (Elt F) (RV m c)) Finset.univ : sProp 𝕄)
      = islP m (peerP c r) r := by
  unfold islP
  rw [← islV_set r]
  refine pointsTo_congr fun i hi => ?_
  obtain ⟨x, rfl⟩ := View.exists_emb_of_mem_set _ hi
  rw [View.write_emb_of_mem _ _ (Finset.mem_univ x), isl_emb]
  show RV m c x = RV m (peerP (peerP c r) (Fin.rev r)) (ix2 (x 0) (x 1))
  rw [peer_back]
  exact congrArg _ (eq_ix2 x)

theorem oslot_set : (oslotR).view.set = Finset.univ := View.set_whole _

def outPre (c : Dev nD) (r : Fin 15) : sProp 𝕄 :=
  iprop(oslotP m c r ∗ rlandP (peerP c r) r ∗ dutyTok ER (dsCell c r) 0 (0 : Fin 15) ∗ dutyTok ER (drCell (peerP c r) r) 0 (0 : Fin 15))
def dsCr (c : Dev nD) (r : Fin 15) : sProp 𝕄 := cred (tallyAt (dsCell c r) () (dN r))

theorem outSend_step (c : Dev nD) (Q : PUnit → sProp 𝕄) (O : CellTallies nD τ sig Unit) (r : Fin 15) (l : List (Fin 15)) (κ : Pg F) :
    iprop((env m K ∗ own c (addT (r :: l) (drT c) O)) ∗ outPre m c r)
      ⊢ iprop((((env m K ∗ own c (addT l (drT c) O)) ∗ dsCr c r) -∗ WP c κ Q) -∗ WP c (outSend c r κ) Q) := by
  unfold outSend own outPre oslotP rlandP dsCr
  iintro ⟨⟨#He, ⟨%W, Ho⟩⟩, Hs, ⟨%fd, Hd⟩, Ht0, Ht1⟩ HK
  ihave #H := (env_cell m K c (iDs r)) $$ He
  icases H with ⟨#Hi0, #Hr0⟩
  ihave #H := (env_cell m K (peerP c r) (iDr r)) $$ He
  icases H with ⟨#Hi1, #Hr1⟩
  iapply (Rounds.wp_send_pointsTo 𝒱₀ ER (Rd m) (c : Thread nD τ) none (c' := (peerP c r : Thread nD τ)) (src := oslotR) (dst := islV r)
      (q := oshare r) (fs := RV m c) (fd := fd) (κ₁ := K (dsCell c r)) (κ₂ := K (drCell (peerP c r) r))
      (r₁ := 0) (r₂ := 0) (d₁ := (0 : Fin 15)) (d₂ := (0 : Fin 15))
      (by rw [duties_dma m c _ (by rw [use_ds]; exact fun e => by cases e)]; exact Finset.mem_singleton_self _)
      (by rw [duties_dma m (peerP c r) _ (by rw [use_dr]; exact fun e => by cases e)]; exact Finset.mem_singleton_self _)
      () () (dN r) (View.amount_dma _ _) (by rw [amount_dma, use_ds]; rfl) (by rw [amount_dma, use_dr]; rfl)
      (addT l (drT c) O) (addT_cons r l (drT c) O) (W := W)
      (by rw [payload_dma, use_ds, oslot_set]; exact BI.Entails.refl _)
      (by rw [payload_dma, use_dr, isl_land]; exact BI.Entails.refl _)) $$ [Hs Hd Ho Ht0 Ht1]
  · isplitr; · iexact Hi0
    isplitr; · iexact Hi1
    isplitl [Hs]; · rw [oslot_set]; iexact Hs
    isplitl [Hd]; · rw [islV_set]; iexact Hd
    isplitl [Ho]; · iexact Ho
    isplitl [Ht0]; · iexact Ht0
    isplitr; · iexact Hr0
    isplitl [Ht1]; · iexact Ht1
    iexact Hr1
  iintro ⟨Hc, Ho⟩
  iapply HK
  isplitl [Ho]
  · isplitr; · iexact He
    iexists _; iexact Ho
  iexact Hc

theorem oN_eq : ∀ r : Fin 15, oslotR.view.dmaCredit = dN r := fun r => rfl

def dsPre (c : Dev nD) (r : Fin 15) : sProp 𝕄 := iprop(dsCr c r ∗ atPos ER (dsCell c r) 0 ∅ 0)
def dsPost (c : Dev nD) (r : Fin 15) : sProp 𝕄 := iprop(oslotP m c r ∗ semVal (dsCell c r) 0)

theorem outDone_step (c : Dev nD) (Q : PUnit → sProp 𝕄) (O : CellTallies nD τ sig Unit) (hO : Above 0 O) (r : Fin 15) (κ : Pg F) :
    iprop((env m K ∗ own c O) ∗ dsPre c r) ⊢ iprop((((env m K ∗ own c O) ∗ dsPost m c r) -∗ WP c κ Q) -∗ WP c (outDone r κ) Q) := by
  unfold outDone dsPre dsPost dsCr
  iintro ⟨⟨#He, Ho⟩, Hc, Hat⟩ HK
  rw [← oN_eq]
  iapply (wait_dma m K c Q (iDs r) (dsSem r) rfl (by rw [use_ds]; exact fun e => by cases e) (wpE_waitDma2_eq 𝒱₀ (c : Thread nD τ) none Set.univ) (by rw [use_ds]; exact oN_eq r) (O := O)
    (by rw [lv_ds]; exact hO)) $$ [Ho Hc Hat]
  · isplitr; · iexact He
    isplitl [Ho]; · iexact Ho
    isplitl [Hc] <;> iassumption
  rw [use_ds]; dsimp only [usePay]
  iintro ⟨Ho, Hp, Hz⟩
  iapply HK
  isplitl [Ho]
  · isplitr; · iexact He
    iexact Ho
  isplitl [Hp]; · iexact Hp
  iexact Hz

end Cert.KernelIdeal.Attn

end
-- ==== Proof.Work.lean ====
/-
The computing parts of the body, as steps: a head, the total, the context, the projection, and the rows received.
-/
module

public import proofs.«01_k».proof.Proof.Steps

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## Stores into memory with known contents -/

theorem write_known {sp : Space} {s : Shape} {e : EltTy} (v : View sig .tc sp s e) {S : Finset v.ty.Idx} {P P' : v.ty.Idx → Prop}
    {f g : v.ty.Contents (Elt F)} {w : s.Idx → Elt F e} (hf : ∀ i ∈ S, P i → f i = g i)
    (hin : ∀ x, P' (v.emb x) → _root_.cast (congrArg (Elt F) v.elt_eq.symm) (w x) = g (v.emb x))
    (hout : ∀ i ∈ S, i ∉ v.set → P' i → P i) : ∀ i ∈ S, P' i → v.write (Elt F) f w Finset.univ i = g i := by
  intro i hi hp
  by_cases hm : i ∈ v.set
  · obtain ⟨x, rfl⟩ := View.exists_emb_of_mem_set _ hm
    rw [View.write_emb_of_mem _ _ (Finset.mem_univ x)]
    exact hin x hp
  · rw [View.write_of_not_mem _ _ _ (by rw [View.setOn_univ]; exact hm)]
    exact hf i hi (hout i hi hm hp)

/-! ## A head -/

/-- The columns stored once the heads below `n` are done. -/
def Done (n : ℕ) (i : S256x1152.Idx) : Prop := (i 1).val < 128 * n ∨ (1024 ≤ (i 1).val ∧ (i 1).val < 1024 + n)

/-- The strips of the partial sums not yet sent, the heads below `n` stored. -/
def partPts (c : Dev nD) (t n : ℕ) : sProp 𝕄 := agr (partL c) (restS t) (Done n) (PV m c)

theorem PV_acc (c : Dev nD) (h : Fin 8) (a : Fin 256) (b : Fin 1152) (j : Fin 128) (hb : b.val = 128 * h.val + j.val) :
    PV m c (ix2 a b) = accOf (Q m c) h (KL m c h) (VL m c h) (ix2 a j) := by
  unfold PV
  have h8 := h.isLt; have hj := j.isLt
  have hlt : ((ix2 a b : S256x1152.Idx) 1).val < 1024 := by show b.val < 1024; omega
  rw [dif_pos hlt]
  have e1 : (⟨((ix2 a b : S256x1152.Idx) 1).val / 128, by omega⟩ : Fin 8) = h := Fin.ext (by show b.val / 128 = h.val; omega)
  have e2 : (⟨((ix2 a b : S256x1152.Idx) 1).val % 128, Nat.mod_lt _ (by decide)⟩ : Fin 128) = j := Fin.ext (by show b.val % 128 = j.val; omega)
  rw [e1, e2]

theorem PV_den (c : Dev nD) (h : Fin 8) (a : Fin 256) (b : Fin 1152) (hb : b.val = 1024 + h.val) :
    PV m c (ix2 a b) = denOf (Q m c) h (KL m c h) (ix2 a 0) := by
  unfold PV
  have h8 := h.isLt
  have hlt : ¬ ((ix2 a b : S256x1152.Idx) 1).val < 1024 := by show ¬ b.val < 1024; omega
  rw [dif_neg hlt]
  have e1 : (⟨(((ix2 a b : S256x1152.Idx) 1).val - 1024) % 8, Nat.mod_lt _ (by decide)⟩ : Fin 8) = h := Fin.ext (by show (b.val - 1024) % 8 = h.val; omega)
  rw [e1]

theorem read_kst (c : Dev nD) (h : Fin 8) : (kstR.access (stgRect h)).read (Elt F) (KST m c) = KL m c h := by
  funext x
  show KST m c ((stgRect h).emb x) = _
  unfold KST KL
  have e0 : ((stgRect h).emb x) 0 = h := Fin.ext (by show h.val + 1 * (x 0).val = h.val; have : (x 0).val < 1 := (x 0).isLt; omega)
  have e1 : ((stgRect h).emb x) 1 = x 1 := Fin.ext (by show 0 + 1 * (x 1).val = (x 1).val; omega)
  have e2 : ((stgRect h).emb x) 2 = x 2 := Fin.ext (by show 0 + 1 * (x 2).val = (x 2).val; omega)
  rw [e0, e1, e2]

theorem read_vst (c : Dev nD) (h : Fin 8) : (vstR.access (stgRect h)).read (Elt F) (VST m c) = VL m c h := by
  funext x
  show VST m c ((stgRect h).emb x) = _
  unfold VST VL
  have e0 : ((stgRect h).emb x) 0 = h := Fin.ext (by show h.val + 1 * (x 0).val = h.val; have : (x 0).val < 1 := (x 0).isLt; omega)
  have e1 : ((stgRect h).emb x) 1 = x 1 := Fin.ext (by show 0 + 1 * (x 1).val = (x 1).val; omega)
  have e2 : ((stgRect h).emb x) 2 = x 2 := Fin.ext (by show 0 + 1 * (x 2).val = (x 2).val; omega)
  rw [e0, e1, e2]

theorem acc_mem (h : Fin 8) (i : S256x1152.Idx) :
    i ∈ (partR.access (accRect h)).set ↔ 128 * h.val ≤ (i 1).val ∧ (i 1).val < 128 * h.val + 128 := by
  rw [show (partR.access (accRect h)).set = (accRect h).set from View.set_slice_whole _ _]
  refine Rect.mem_set_unit.trans (Fin.forall_fin_two.trans ⟨fun q => q.2, fun q => ⟨?_, q⟩⟩)
  have : (i 0).val < 256 := (i 0).isLt
  show 0 ≤ (i 0).val ∧ (i 0).val < 0 + 256
  omega

theorem den_mem (h : Fin 8) (i : S256x1152.Idx) :
    i ∈ (partR.access (denRect h)).set ↔ (i 1).val = 1024 + h.val := by
  rw [show (partR.access (denRect h)).set = (denRect h).set from View.set_slice_whole _ _]
  refine Rect.mem_set_unit.trans (Fin.forall_fin_two.trans ⟨fun q => ?_, fun q => ⟨?_, ?_⟩⟩)
  · have h1 : 1024 + h.val ≤ (i 1).val ∧ (i 1).val < 1024 + h.val + 1 := q.2
    omega
  · have : (i 0).val < 256 := (i 0).isLt
    show 0 ≤ (i 0).val ∧ (i 0).val < 0 + 256
    omega
  · show 1024 + h.val ≤ (i 1).val ∧ (i 1).val < 1024 + h.val + 1; omega

theorem lo_val (t : ℕ) (ht : t < 4) : lo t = 256 * t := if_pos ht

/-- After a head's first store. -/
def DoneA (n : ℕ) (i : S256x1152.Idx) : Prop := (i 1).val < 128 * (n + 1) ∨ (1024 ≤ (i 1).val ∧ (i 1).val < 1024 + n)

theorem acc_val (c : Dev nD) (h : Fin 8) (x : S256x128.Idx) :
    accOf (Q m c) h (KL m c h) (VL m c h) x = PV m c ((accRect h).emb x) := by
  obtain ⟨a, j, rfl⟩ : ∃ (a : Fin 256) (j : Fin 128), x = ix2 a j := ⟨_, _, eq_ix2 x⟩
  have h8 := h.isLt; have hj := j.isLt
  have e : (accRect h).emb (ix2 a j) = (ix2 a ⟨128 * h.val + j.val, by omega⟩ : S256x1152.Idx) := by
    funext q
    match q with
    | ⟨0, _⟩ => exact Fin.ext (by show 0 + 1 * a.val = a.val; omega)
    | ⟨1, _⟩ => exact Fin.ext (by show 128 * h.val + 1 * j.val = 128 * h.val + j.val; omega)
  rw [e]
  exact (PV_acc m c h a _ j rfl).symm

theorem den_val (c : Dev nD) (h : Fin 8) (x : S256x1.Idx) :
    denOf (Q m c) h (KL m c h) x = PV m c ((denRect h).emb x) := by
  obtain ⟨a, j, rfl⟩ : ∃ (a : Fin 256) (j : Fin 1), x = ix2 a j := ⟨_, _, eq_ix2 x⟩
  have h8 := h.isLt
  obtain rfl : j = 0 := Fin.ext (by omega)
  have e : (denRect h).emb (ix2 a 0) = (ix2 a ⟨1024 + h.val, by omega⟩ : S256x1152.Idx) := by
    funext q
    match q with
    | ⟨0, _⟩ => exact Fin.ext (by show 0 + 1 * a.val = a.val; omega)
    | ⟨1, _⟩ => exact Fin.ext (by show 1024 + h.val + 1 * 0 = 1024 + h.val; omega)
  rw [e]
  exact (PV_den m c h a _ rfl).symm

theorem store_acc (c : Dev nD) (h : Fin 8) (t : ℕ) (f : Buf (Elt F) (partL c)) (hf : ∀ i ∈ restS t, Done h.val i → f i = PV m c i) :
    ∀ i ∈ restS t, DoneA h.val i →
      (partR.access (accRect h)).write (Elt F) f (accOf (Q m c) h (KL m c h) (VL m c h)) Finset.univ i = PV m c i := by
  refine write_known (F := F) (partR.access (accRect h)) (P := Done h.val) hf (fun x _ => ?_) (fun i _ hm hp => ?_)
  · exact acc_val m c h x
  · have hm' : ¬ (128 * h.val ≤ (i 1).val ∧ (i 1).val < 128 * h.val + 128) := fun q => hm ((acc_mem h i).mpr q)
    unfold DoneA at hp; unfold Done
    rcases hp with q | q
    · left; omega
    · exact Or.inr q

theorem store_den (c : Dev nD) (h : Fin 8) (t : ℕ) (f : Buf (Elt F) (partL c)) (hf : ∀ i ∈ restS t, DoneA h.val i → f i = PV m c i) :
    ∀ i ∈ restS t, Done (h.val + 1) i →
      (partR.access (denRect h)).write (Elt F) f (denOf (Q m c) h (KL m c h)) Finset.univ i = PV m c i := by
  refine write_known (F := F) (partR.access (denRect h)) (P := DoneA h.val) hf (fun x _ => ?_) (fun i _ hm hp => ?_)
  · exact den_val m c h x
  · have hm' : ¬ ((i 1).val = 1024 + h.val) := fun q => hm ((den_mem h i).mpr q)
    unfold Done at hp; unfold DoneA
    rcases hp with q | q
    · exact Or.inl q
    · right; omega

def headPre (c : Dev nD) (h : Fin 8) : sProp 𝕄 :=
  iprop(kvCr c h ∗ atPos ER (kvCell c 0 h) 0 ∅ 0 ∗ atPos ER (kvCell c 1 h) 0 ∅ 0)
def headPost (c : Dev nD) (h : Fin 8) : sProp 𝕄 :=
  iprop(kstP m c h ∗ kP m c h ∗ vstP m c h ∗ vP m c h ∗ semVal (kvCell c 0 h) 0 ∗ semVal (kvCell c 1 h) 0)

theorem head_step (c : Dev nD) (Q' : PUnit → sProp 𝕄) (h : Fin 8) (t : ℕ) (ht : t < 4 ∧ 2 * t ≤ h.val) (O : CellTallies nD τ sig Unit) (hO : Above 0 O) (κ : Pg F) :
    iprop(env m K ∗ own c O ∗ partPts m c t h.val ∗ headPre c h)
      ⊢ iprop(((own c O ∗ partPts m c t (h.val + 1) ∗ headPost m c h) -∗ WP c κ Q') -∗ WP c (head (Q m c) h κ) Q') := by
  have h8 := h.isLt
  have hlo := lo_val t ht.1
  have hacc : (partR.access (accRect h)).set ⊆ (restS t : Finset (Idx (partL c))) := fun i hi => by
    have := (acc_mem h i).mp hi
    unfold restS; rw [Finset.mem_filter]; exact ⟨Finset.mem_univ _, by omega⟩
  have hden : (partR.access (denRect h)).set ⊆ (restS t : Finset (Idx (partL c))) := fun i hi => by
    have := (den_mem h i).mp hi
    unfold restS; rw [Finset.mem_filter]; exact ⟨Finset.mem_univ _, by omega⟩
  have hst : ((kstR.access (stgRect h)).set : Finset (Idx (kstL c))) ⊆ stgS h := fun i hi => by
    rw [show (kstR.access (stgRect h)).set = (stgRect h).set from View.set_slice_whole _ _] at hi
    exact (stgRect_mem h i).mp hi
  unfold head headPre headPost kvCr
  iintro ⟨#He, Ho, Hp, ⟨Hc0, Hc1⟩, Ha0, Ha1⟩ HK
  iapply (wait_dma m K c Q' (iKv 0 h) (kvSem 0 h) rfl (by rw [use_kv]; exact fun e => by cases e) (wpE_waitDma2_eq 𝒱₀ (c : Thread nD τ) none Set.univ) (by rw [use_kv]; rfl) (O := O)
    (by rw [lv_kv]; exact hO)) $$ [Ho Hc0 Ha0]
  · isplitr; · iexact He
    isplitl [Ho]; · iexact Ho
    isplitl [Hc0] <;> iassumption
  rw [use_kv, show usePay m c (.kv 0 h) = iprop(kstP m c h ∗ kP m c h) from rfl]
  iintro ⟨Ho, ⟨Hks, Hk⟩, Hz0⟩
  iapply (wait_dma m K c Q' (iKv 1 h) (kvSem 1 h) rfl (by rw [use_kv]; exact fun e => by cases e) (wpE_waitDma2_eq 𝒱₀ (c : Thread nD τ) none Set.univ) (by rw [use_kv]; rfl) (O := O)
    (by rw [lv_kv]; exact hO)) $$ [Ho Hc1 Ha1]
  · isplitr; · iexact He
    isplitl [Ho]; · iexact Ho
    isplitl [Hc1] <;> iassumption
  rw [use_kv, show usePay m c (.kv 1 h) = iprop(vstP m c h ∗ vP m c h) from rfl]
  iintro ⟨Ho, ⟨Hvs, Hv⟩, Hz1⟩
  unfold kstP vstP partPts agr
  iapply (wp_load_rect 𝒱₀ (c : Thread nD τ) none Set.univ (m := kstR) (r := stgRect h) (f := KST m c) hst) $$ Hks; iintro Hks
  iapply (wp_load_rect 𝒱₀ (c : Thread nD τ) none Set.univ (m := vstR) (r := stgRect h) (f := VST m c) hst) $$ Hvs; iintro Hvs
  rw [read_kst, read_vst]
  icases Hp with ⟨%f, %hf, Hp⟩
  iapply (wp_load_rect 𝒱₀ (c : Thread nD τ) none Set.univ (m := partR) (r := accRect h) (f := f) hacc) $$ Hp; iintro Hp
  iapply (wp_store 𝒱₀ (c : Thread nD τ) none Set.univ (m := partR) (r := accRect h) (Mk := Finset.univ) (f := f) (by rw [View.setOn_univ]; exact hacc)) $$ Hp; iintro Hp
  have hf1 := store_acc m c h t f hf
  generalize (partR.access (accRect h)).write (Elt F) f (accOf (Q m c) h (KL m c h) (VL m c h)) Finset.univ = f1 at *
  iapply (wp_load_rect 𝒱₀ (c : Thread nD τ) none Set.univ (m := partR) (r := denRect h) (f := f1) hden) $$ Hp; iintro Hp
  iapply (wp_store 𝒱₀ (c : Thread nD τ) none Set.univ (m := partR) (r := denRect h) (Mk := Finset.univ) (f := f1) (by rw [View.setOn_univ]; exact hden)) $$ Hp; iintro Hp
  have hf2 := store_den m c h t f1 hf1
  iapply HK
  isplitl [Ho]; · iexact Ho
  isplitl [Hp]
  · iexists _; isplitr
    · ipureintro; exact hf2
    iexact Hp
  isplitl [Hks]; · iexact Hks
  isplitl [Hk]; · iexact Hk
  isplitl [Hvs]; · iexact Hvs
  isplitl [Hv]; · iexact Hv
  isplitl [Hz0]; · iexact Hz0
  iexact Hz1

/-! ## The total -/

/-- Two totals agreeing on the columns that carry sums. -/
def AgTot (a b : FVec F S16x1152 .f32) : Prop := ∀ i : S16x1152.Idx, (i 1).val < 1032 → a i = b i

theorem addSlot_congr {acc acc' : FVec F S16x1152 .f32} {x x' : Vec F S1x16x1152 .bf16} (h : AgTot acc acc')
    (hx : ∀ (a : Fin 16) (b : Fin 1152), b.val < 1032 → x (ix3 0 a b) = x' (ix3 0 a b)) : AgTot (addSlot acc x) (addSlot acc' x') := by
  intro i hi
  obtain ⟨a, b, rfl⟩ : ∃ (a : Fin 16) (b : Fin 1152), i = ix2 a b := ⟨_, _, eq_ix2 i⟩
  have e (y : Vec F S1x16x1152 .bf16) : shapeCast S16x1152 y shapeCasts_S1x16x1152_S16x1152 (ix2 a b) = y (ix3 0 a b) :=
    shapeCast_apply _ _ _ _ (by
      rw [Shape.rowMajor_val_three, Shape.rowMajor_val_two]
      show (0 * 16 + a.val) * 1152 + b.val = a.val * 1152 + b.val
      omega)
  show FloatOps.addf (acc _) (FloatOps.extf _ _ (shapeCast S16x1152 x shapeCasts_S1x16x1152_S16x1152 (ix2 a b)))
    = FloatOps.addf (acc' _) (FloatOps.extf _ _ (shapeCast S16x1152 x' shapeCasts_S1x16x1152_S16x1152 (ix2 a b)))
  rw [e, e, h _ hi, hx a b hi]

/-- A slot, all strips. -/
def slotRP (c : Dev nD) (r : Fin 15) : sProp 𝕄 := agr (slotsL c) (slotRS r) SCol (SL m c)

theorem slotRect_set (r : Fin 15) : (slotsR.access (slotRect r)).set = slotRS r := by
  rw [show (slotsR.access (slotRect r)).set = (slotRect r).set from View.set_slice_whole _ _]
  ext i
  refine Rect.mem_set_unit.trans ?_
  simp only [slotRS, Finset.mem_filter, Finset.mem_univ, true_and]
  have h1 : (i 1).val < 16 := (i 1).isLt
  have h2 : (i 2).val < 1152 := (i 2).isLt
  constructor
  · intro h
    have h0 : r.val ≤ (i 0).val ∧ (i 0).val < r.val + 1 := h 0
    omega
  · intro h0 a
    match a with
    | ⟨0, _⟩ => show r.val ≤ (i 0).val ∧ (i 0).val < r.val + 1; omega
    | ⟨1, _⟩ => show 0 ≤ (i 1).val ∧ (i 1).val < 0 + 16; omega
    | ⟨2, _⟩ => show 0 ≤ (i 2).val ∧ (i 2).val < 0 + 1152; omega

theorem slot_read (c : Dev nD) (r : Fin 15) (f : Buf (Elt F) (slotsL c)) (hf : ∀ i ∈ slotRS r, SCol i → f i = SL m c i) (a : Fin 16) (b : Fin 1152) (hb : b.val < 1032) :
    (slotsR.access (slotRect r)).read (Elt F) f (ix3 0 a b) = SLv m c r (ix3 0 a b) := by
  show f ((slotRect r).emb (ix3 0 a b)) = SL m c (ix3 r a b)
  have e : (slotRect r).emb (ix3 0 a b) = (ix3 r a b : S15x16x1152.Idx) := by
    funext q
    match q with
    | ⟨0, _⟩ => exact Fin.ext (by show r.val + 1 * 0 = r.val; omega)
    | ⟨1, _⟩ => exact Fin.ext (by show 0 + 1 * a.val = a.val; omega)
    | ⟨2, _⟩ => exact Fin.ext (by show 0 + 1 * b.val = b.val; omega)
  rw [e]
  exact hf _ (by unfold slotRS; rw [Finset.mem_filter]; exact ⟨Finset.mem_univ _, rfl⟩) hb

theorem addSlots_cons (r : Fin 15) (l : List (Fin 15)) (κ : FVec F S16x1152 .f32 → Pg F) (acc : FVec F S16x1152 .f32) :
    addSlots (r :: l) κ acc
      = .op (.load slotsR (slotRect r).toLoadRect (View.loadsAt_vmem h_S1x16x1152)) fun x => addSlots l κ (addSlot acc x) := rfl

theorem addSlots_step (c : Dev nD) (Q' : PUnit → sProp 𝕄) (κ : FVec F S16x1152 .f32 → Pg F) : ∀ (l : List (Fin 15)) (acc acc' : FVec F S16x1152 .f32), AgTot acc acc' →
    (sepL l (slotRP m c)
      ⊢ iprop((∀ tot, ⌜AgTot tot (l.foldl (fun acc r => addSlot acc (SLv m c r)) acc')⌝ -∗ sepL l (slotRP m c) -∗ WP c (κ tot) Q') -∗ WP c (addSlots l κ acc) Q'))
  | [], acc, acc', h => by
    show iprop(emp) ⊢ iprop((∀ tot, ⌜AgTot tot acc'⌝ -∗ emp -∗ WP c (κ tot) Q') -∗ WP c (κ acc) Q')
    iintro - HK
    iapply HK
    · ipureintro; exact h
    iempintro
  | r :: l, acc, acc', h => by
    rw [sepL_cons, List.foldl_cons, addSlots_cons]
    conv => lhs; unfold slotRP agr
    iintro ⟨⟨%f, %hf, Hs⟩, Hl⟩ HK
    iapply (wp_load_rect 𝒱₀ (c : Thread nD τ) none Set.univ (m := slotsR) (r := slotRect r) (f := f) (by rw [slotRect_set])) $$ Hs; iintro Hs
    iapply (addSlots_step c Q' κ l _ (addSlot acc' (SLv m c r)) (addSlot_congr h (slot_read m c r f hf))) $$ [Hl]
    · unfold slotRP agr; iexact Hl
    iintro %tot %ht Hl
    iapply HK
    · ipureintro; exact ht
    isplitl [Hs]
    · unfold slotRP agr; iexists f; isplitr
      · ipureintro; exact hf
      iexact Hs
    iexact Hl

theorem own_set (c : Dev nD) : (partR.access (Rect.unit (s := S256x1152) (k0_off5 c) S16x1152.size (Gen.k0_off5_inb c))).set = rowsS c := by
  rw [show (partR.access (Rect.unit (s := S256x1152) (k0_off5 c) S16x1152.size (Gen.k0_off5_inb c))).set = (Rect.unit (s := S256x1152) (k0_off5 c) S16x1152.size (Gen.k0_off5_inb c)).set from View.set_slice_whole _ _]
  ext i
  refine Rect.mem_set_unit.trans ?_
  rw [off5_eq]
  simp only [rowsS, Finset.mem_filter, Finset.mem_univ, true_and]
  refine Fin.forall_fin_two.trans ⟨fun q => q.1, fun q => ⟨q, ?_⟩⟩
  have : (i 1).val < 1152 := (i 1).isLt
  show 0 ≤ (i 1).val ∧ (i 1).val < 0 + 1152
  omega

theorem own_read (c : Dev nD) (f : Buf (Elt F) (partL c)) (hf : ∀ i ∈ rowsS c, Col i → f i = PV m c i) :
    AgTot (extf .f32 ((partR.access (Rect.unit (s := S256x1152) (k0_off5 c) S16x1152.size (Gen.k0_off5_inb c))).read (Elt F) f : Vec F S16x1152 .bf16) bitsLt_bf16_f32)
      (extf .f32 (OWN m c) bitsLt_bf16_f32) := by
  intro i hi
  refine congrArg (FloatOps.extf .f32 bitsLt_bf16_f32) ?_
  show f ((Rect.unit (s := S256x1152) (k0_off5 c) S16x1152.size (Gen.k0_off5_inb c)).emb i) = PV m c (ix2 (rowOf c (i 0)) (i 1))
  have e : (Rect.unit (s := S256x1152) (k0_off5 c) S16x1152.size (Gen.k0_off5_inb c)).emb i = (ix2 (rowOf c (i 0)) (i 1) : S256x1152.Idx) := by
    funext q
    match q with
    | ⟨0, _⟩ => exact Fin.ext (by show k0_off5 c 0 + 1 * (i 0).val = 16 * c.val + (i 0).val; rw [off5_eq]; show 16 * c.val + 1 * (i 0).val = _; omega)
    | ⟨1, _⟩ => exact Fin.ext (by show k0_off5 c 1 + 1 * (i 1).val = (i 1).val; rw [off5_eq]; show 0 + 1 * (i 1).val = _; omega)
  rw [e]
  refine hf _ ?_ hi
  unfold rowsS; rw [Finset.mem_filter]
  have : (i 0).val < 16 := (i 0).isLt
  exact ⟨Finset.mem_univ _, by show 16 * c.val ≤ 16 * c.val + (i 0).val; omega, by show 16 * c.val + (i 0).val < _; omega⟩

/-- The device's own rows of its partial sums. -/
def ownRows (c : Dev nD) : sProp 𝕄 := agr (partL c) (rowsS c) Col (PV m c)

theorem total_step (c : Dev nD) (Q' : PUnit → sProp 𝕄) (κ : FVec F S16x1152 .f32 → Pg F) :
    iprop(ownRows m c ∗ sepL peers (slotRP m c))
      ⊢ iprop((∀ tot, ⌜AgTot tot (TOT m c)⌝ -∗ (ownRows m c ∗ sepL peers (slotRP m c)) -∗ WP c (κ tot) Q') -∗ WP c (total c κ) Q') := by
  unfold total
  conv => lhs; unfold ownRows agr
  iintro ⟨⟨%f, %hf, Hp⟩, Hl⟩ HK
  iapply (wp_load_rect 𝒱₀ (c : Thread nD τ) none Set.univ (m := partR) (r := Rect.unit (s := S256x1152) (k0_off5 c) S16x1152.size (Gen.k0_off5_inb c)) (f := f) (by rw [own_set])) $$ Hp; iintro Hp
  iapply (addSlots_step m c Q' κ peers _ _ (own_read m c f hf)) $$ [Hl]
  · iexact Hl
  iintro %tot %ht Hl
  iapply HK
  · ipureintro; exact ht
  isplitl [Hp]
  · unfold ownRows agr; iexists f; isplitr
    · ipureintro; exact hf
    iexact Hp
  iexact Hl

/-! ## The context -/

theorem ctxOf_congr {a b : FVec F S16x1152 .f32} (h : AgTot a b) (hd : Fin 8) : ctxOf a hd = ctxOf b hd := by
  have h8 := hd.isLt
  have e1 : extractStridedSlice S16x128 ![0, 128 * hd.val] a (slices_num hd) = extractStridedSlice S16x128 ![0, 128 * hd.val] b (slices_num hd) :=
    funext fun j => h _ (by have : (j 1).val < 128 := (j 1).isLt; show 128 * hd.val + (j 1).val < 1032; omega)
  have e2 : extractStridedSlice S16x1 ![0, 1024 + hd.val] a (slices_den hd) = extractStridedSlice S16x1 ![0, 1024 + hd.val] b (slices_den hd) :=
    funext fun j => h _ (by have : (j 1).val < 1 := (j 1).isLt; show 1024 + hd.val + (j 1).val < 1032; omega)
  unfold ctxOf
  rw [e1, e2]

/-- The context buffer, the heads listed still to be stored. -/
def ctxP (c : Dev nD) (l : List (Fin 8)) : sProp 𝕄 := agr (ctxL c) Finset.univ (fun i : S16x1024.Idx => ∀ h ∈ l, (i 1).val / 128 ≠ h.val) (CTX m c)

theorem ctx_mem (h : Fin 8) (i : S16x1024.Idx) :
    i ∈ (ctxR.access (ctxRect h)).set ↔ (i 1).val / 128 = h.val := by
  rw [show (ctxR.access (ctxRect h)).set = (ctxRect h).set from View.set_slice_whole _ _]
  refine Rect.mem_set_unit.trans (Fin.forall_fin_two.trans ⟨fun q => ?_, fun q => ⟨?_, ?_⟩⟩)
  · have h1 : 128 * h.val ≤ (i 1).val ∧ (i 1).val < 128 * h.val + 128 := q.2
    omega
  · have : (i 0).val < 16 := (i 0).isLt
    show 0 ≤ (i 0).val ∧ (i 0).val < 0 + 16
    omega
  · show 128 * h.val ≤ (i 1).val ∧ (i 1).val < 128 * h.val + 128; omega

theorem CTX_at (c : Dev nD) (h : Fin 8) (a : Fin 16) (b : Fin 1024) (j : Fin 128) (hb : b.val = 128 * h.val + j.val) :
    CTX m c (ix2 a b) = ctxOf (TOT m c) h (ix2 a j) := by
  unfold CTX
  have hj := j.isLt
  have hlt : ((ix2 a b : S16x1024.Idx) 1).val < 1024 := b.isLt
  have e1 : (⟨((ix2 a b : S16x1024.Idx) 1).val / 128, by omega⟩ : Fin 8) = h := Fin.ext (by show b.val / 128 = h.val; omega)
  have e2 : (⟨((ix2 a b : S16x1024.Idx) 1).val % 128, Nat.mod_lt _ (by decide)⟩ : Fin 128) = j := Fin.ext (by show b.val % 128 = j.val; omega)
  rw [e1, e2]

theorem ctx_val (c : Dev nD) (h : Fin 8) (x : S16x128.Idx) : ctxOf (TOT m c) h x = CTX m c ((ctxRect h).emb x) := by
  obtain ⟨a, j, rfl⟩ : ∃ (a : Fin 16) (j : Fin 128), x = ix2 a j := ⟨_, _, eq_ix2 x⟩
  have h8 := h.isLt; have hj := j.isLt
  have e : (ctxRect h).emb (ix2 a j) = (ix2 a ⟨128 * h.val + j.val, by omega⟩ : S16x1024.Idx) := by
    funext q
    match q with
    | ⟨0, _⟩ => exact Fin.ext (by show 0 + 1 * a.val = a.val; omega)
    | ⟨1, _⟩ => exact Fin.ext (by show 128 * h.val + 1 * j.val = 128 * h.val + j.val; omega)
  rw [e]
  exact (CTX_at m c h a _ j rfl).symm

theorem ctx_step (c : Dev nD) (Q' : PUnit → sProp 𝕄) (tot : FVec F S16x1152 .f32) (ht : AgTot tot (TOT m c)) (h : Fin 8) (l : List (Fin 8)) (κ : Pg F) :
    iprop(ctxP m c (h :: l) ∗ emp) ⊢ iprop(((ctxP m c l ∗ emp) -∗ WP c κ Q') -∗ WP c (ctxStore tot h κ) Q') := by
  unfold ctxStore ctxP agr
  rw [ctxOf_congr ht h]
  iintro ⟨⟨%f, %hf, Hx⟩, -⟩ HK
  iapply (wp_load_rect 𝒱₀ (c : Thread nD τ) none Set.univ (m := ctxR) (r := ctxRect h) (f := f) (Finset.subset_univ _)) $$ Hx; iintro Hx
  iapply (wp_store 𝒱₀ (c : Thread nD τ) none Set.univ (m := ctxR) (r := ctxRect h) (Mk := Finset.univ) (f := f) (Finset.subset_univ _)) $$ Hx; iintro Hx
  have hf' : ∀ i ∈ (Finset.univ : Finset (Idx (ctxL c))), (∀ h ∈ l, ((i : S16x1024.Idx) 1).val / 128 ≠ h.val) →
      (ctxR.access (ctxRect h)).write (Elt F) f (ctxOf (TOT m c) h) Finset.univ i = CTX m c i := by
    refine write_known (F := F) (ctxR.access (ctxRect h)) (P := fun i : S16x1024.Idx => ∀ h' ∈ h :: l, (i 1).val / 128 ≠ h'.val) hf (fun x _ => ?_) (fun i _ hm hp => ?_)
    · exact ctx_val m c h x
    · intro h' hh
      rcases List.mem_cons.mp hh with rfl | hh
      · exact fun q => hm ((ctx_mem _ i).mpr q)
      · exact hp h' hh
  iapply HK
  isplitl [Hx]
  · iexists _; isplitr
    · ipureintro; exact hf'
    iexact Hx
  iempintro

theorem ctx_start (c : Dev nD) (f : Buf (Elt F) (ctxL c)) : (ctxL c ↦[Finset.univ]{fullShare} f : sProp 𝕄) ⊢ ctxP m c heads :=
  agr_intro f fun i _ hp => by
    exfalso
    have hi : ((i : S16x1024.Idx) 1).val < 1024 := ((i : S16x1024.Idx) 1).isLt
    have : ∀ k : Fin 8, k ∈ heads := by decide
    exact hp ⟨((i : S16x1024.Idx) 1).val / 128, by omega⟩ (this _) rfl

/-! ## The projection -/

abbrev woL (c : Dev nD) : Loc nD τ sig := (c : Thread nD τ).loc cc0_stg2_0
abbrev outL (c : Dev nD) : Loc nD τ sig := (c : Thread nD τ).loc cc0_stg3_0

/-- The output block, the rows of the peers listed still to be stored. -/
def outP (c : Dev nD) (l : List (Fin 15)) : sProp 𝕄 :=
  agr (outL c) Finset.univ (fun i : S1x256x1024.Idx => ∀ r ∈ l, (i 1).val / 16 ≠ (peerP c (Fin.rev r)).val) (OUT m c)

theorem off6_eq : ∀ d : Dev nD, k0_off6 d = ![0, 16 * d.val, 0] := by decide +kernel

abbrev ownRect (c : Dev nD) : Rect S1x256x1024 := Rect.unit (s := S1x256x1024) (k0_off6 c) S1x16x1024.size (Gen.k0_off6_inb c)

theorem rows_mem (e : Dev nD) {off : Fin 3 → ℕ} (h : off = ![0, 16 * e.val, 0]) (hb) (i : S1x256x1024.Idx) :
    i ∈ (outR.access (Rect.unit (s := S1x256x1024) off S1x16x1024.size hb)).set ↔ (i 1).val / 16 = e.val := by
  subst h
  rw [show (outR.access (Rect.unit (s := S1x256x1024) ![0, 16 * e.val, 0] S1x16x1024.size hb)).set = (Rect.unit (s := S1x256x1024) ![0, 16 * e.val, 0] S1x16x1024.size hb).set from View.set_slice_whole _ _]
  refine Rect.mem_set_unit.trans ?_
  have h0 : (i 0).val < 1 := (i 0).isLt
  have h2 : (i 2).val < 1024 := (i 2).isLt
  constructor
  · intro q
    have h1 : 16 * e.val ≤ (i 1).val ∧ (i 1).val < 16 * e.val + 16 := q 1
    omega
  · intro q a
    match a with
    | ⟨0, _⟩ => show 0 ≤ (i 0).val ∧ (i 0).val < 0 + 1; omega
    | ⟨1, _⟩ => show 16 * e.val ≤ (i 1).val ∧ (i 1).val < 16 * e.val + 16; omega
    | ⟨2, _⟩ => show 0 ≤ (i 2).val ∧ (i 2).val < 0 + 1024; omega

theorem rows_emb (e : Dev nD) {off : Fin 3 → ℕ} (h : off = ![0, 16 * e.val, 0]) (hb) (x : S1x16x1024.Idx) :
    (Rect.unit (s := S1x256x1024) off S1x16x1024.size hb).emb x = (ix3 0 (rowOf e (x 1)) (x 2) : S1x256x1024.Idx) := by
  subst h
  have h0 : (x 0).val < 1 := (x 0).isLt
  funext a
  match a with
  | ⟨0, _⟩ => exact Fin.ext (by show 0 + 1 * (x 0).val = 0; omega)
  | ⟨1, _⟩ => exact Fin.ext (by show 16 * e.val + 1 * (x 1).val = 16 * e.val + (x 1).val; omega)
  | ⟨2, _⟩ => exact Fin.ext (by show 0 + 1 * (x 2).val = (x 2).val; omega)

theorem rowsOf_at (r : FVec F S16x1024 .f32) (x : S1x16x1024.Idx) : rowsOf r x = r (ix2 (x 1) (x 2)) := by
  unfold rowsOf
  obtain ⟨z, a, b, rfl⟩ : ∃ (z : Fin 1) (a : Fin 16) (b : Fin 1024), x = ix3 z a b := ⟨_, _, _, eq_ix3 x⟩
  refine shapeCast_apply _ _ _ _ ?_
  rw [Shape.rowMajor_val_three, Shape.rowMajor_val_two]
  have := z.isLt
  show a.val * 1024 + b.val = (z.val * 16 + a.val) * 1024 + b.val
  omega

theorem OUT_own (c : Dev nD) (a : Fin 16) (b : Fin 1024) : OUT m c (ix3 0 (rowOf c a) b) = RES m c (ix2 a b) := by
  unfold OUT
  have ha := a.isLt
  have e1 : ((ix3 0 (rowOf c a) b : S1x256x1024.Idx) 1).val / 16 = c.val := by show (16 * c.val + a.val) / 16 = c.val; omega
  have e2 : (⟨((ix3 0 (rowOf c a) b : S1x256x1024.Idx) 1).val % 16, Nat.mod_lt _ (by decide)⟩ : Fin 16) = a :=
    Fin.ext (by show (16 * c.val + a.val) % 16 = a.val; omega)
  rw [if_pos e1, e2]

theorem OUT_peer (c e : Dev nD) (he : e ≠ c) (a : Fin 16) (b : Fin 1024) :
    OUT m c (ix3 0 (rowOf e a) b) = (extf .f32 (RV m e : FVec F S16x1024 .bf16) bitsLt_bf16_f32 : FVec F S16x1024 .f32) (ix2 a b) := by
  unfold OUT
  have ha := a.isLt
  have e0 : ((ix3 0 (rowOf e a) b : S1x256x1024.Idx) 1).val / 16 = e.val := by show (16 * e.val + a.val) / 16 = e.val; omega
  have e1 : ¬ ((ix3 0 (rowOf e a) b : S1x256x1024.Idx) 1).val / 16 = c.val := fun q => he (Fin.ext (e0.symm.trans q))
  have e2 : (⟨((ix3 0 (rowOf e a) b : S1x256x1024.Idx) 1).val % 16, Nat.mod_lt _ (by decide)⟩ : Fin 16) = a :=
    Fin.ext (by show (16 * e.val + a.val) % 16 = a.val; omega)
  have e3 : (⟨((ix3 0 (rowOf e a) b : S1x256x1024.Idx) 1).val / 16, dev_lt _⟩ : Dev nD) = e := Fin.ext e0
  rw [if_neg e1, e2, e3]

theorem own_val (c : Dev nD) (x : S1x16x1024.Idx) : rowsOf (resOf (CTX m c) (wostg m c)) x = OUT m c ((ownRect c).emb x) := by
  rw [rows_emb c (off6_eq c) (Gen.k0_off6_inb c) x, rowsOf_at]
  exact (OUT_own m c (x 1) (x 2)).symm

theorem hz2 : (![0, 0] : Fin 2 → ℕ) = fun _ => 0 := funext fun a => by fin_cases a <;> rfl

theorem project_step (c : Dev nD) (Q' : PUnit → sProp 𝕄) (κ : Pg F) :
    iprop(ctxP m c [] ∗ (woL c ↦[Finset.univ]{fullShare} wostg m c) ∗ (∃ f, outL c ↦[Finset.univ]{fullShare} f) ∗ (∃ f, oslotL c ↦[Finset.univ]{fullShare} f))
      ⊢ iprop(((ctxP m c [] ∗ (woL c ↦[Finset.univ]{fullShare} wostg m c) ∗ outP m c peers ∗ (oslotL c ↦[Finset.univ]{fullShare} RV m c)) -∗ WP c κ Q') -∗ WP c (project c κ) Q') := by
  unfold project
  iintro ⟨Hx, Hw, ⟨%fo, Hout⟩, ⟨%fs, Hs⟩⟩ HK
  ihave Hx := (show ctxP m c [] ⊢ (ctxL c ↦[Finset.univ]{fullShare} CTX m c : sProp 𝕄) from agr_exact fun i _ h hh => absurd hh (List.not_mem_nil)) $$ Hx
  iapply (wp_load 𝒱₀ (c : Thread nD τ) none Set.univ (m := ctxR) (f := CTX m c) (Finset.subset_univ _)) $$ Hx; iintro Hx
  iapply (wp_load 𝒱₀ (c : Thread nD τ) none Set.univ (m := woR) (f := wostg m c) (Finset.subset_univ _)) $$ Hw; iintro Hw
  rw [show ctxR.view.readAt (Elt F) allRect.toLoadRect (CTX m c) = CTX m c from Memref.readAt_unit_zero (Elt F) cc0_scratch2 hz2 _ _]
  rw [show woR.view.readAt (Elt F) (Rect.unit (s := S1024x1024) ![0, 0] S1024x1024.size inb_S1024x1024_S1024x1024_0_0).toLoadRect (wostg m c) = wostg m c from
    Memref.readAt_unit_zero (Elt F) cc0_stg2_0 hz2 _ _]
  iapply (wp_load 𝒱₀ (c : Thread nD τ) none Set.univ (m := outR) (f := fo) (Finset.subset_univ _)) $$ Hout; iintro Hout
  iapply (wp_store 𝒱₀ (c : Thread nD τ) none Set.univ (m := outR) (r := ownRect c) (Mk := Finset.univ) (f := fo) (Finset.subset_univ _)) $$ Hout; iintro Hout
  iapply (wp_load 𝒱₀ (c : Thread nD τ) none Set.univ (m := oslotR) (f := fs) (Finset.subset_univ _)) $$ Hs; iintro Hs
  iapply (wp_store 𝒱₀ (c : Thread nD τ) none Set.univ (m := oslotR) (r := allRect) (Mk := Finset.univ) (f := fs) (Finset.subset_univ _)) $$ Hs; iintro Hs
  rw [show (oslotR.access allRect).write (Elt F) fs (sendOf (resOf (CTX m c) (wostg m c))) Finset.univ = RV m c from
    Memref.write_access_unit_zero_univ (Elt F) cc0_scratch3 hz2 _ fs _]
  iapply HK
  isplitl [Hx]
  · iapply (show (ctxL c ↦[Finset.univ]{fullShare} CTX m c : sProp 𝕄) ⊢ ctxP m c [] from agr_intro _ fun i _ _ => rfl); iexact Hx
  isplitl [Hw]; · iexact Hw
  isplitl [Hout]
  · iapply (show (outL c ↦[Finset.univ]{fullShare} (outR.access (ownRect c)).write (Elt F) fo (rowsOf (resOf (CTX m c) (wostg m c))) Finset.univ : sProp 𝕄) ⊢ outP m c peers from
      agr_intro _ (write_known (F := F) (outR.access (ownRect c)) (P := fun _ => False) (fun i _ h => h.elim)
        (fun x _ => own_val m c x)
        (fun i _ hm hp => by
          rcases peer_cover c ⟨((i : S1x256x1024.Idx) 1).val / 16, dev_lt i⟩ with e | ⟨r, e⟩
          · exact hm ((rows_mem c (off6_eq c) _ i).mpr (congrArg Fin.val e))
          · have hr : ∀ k : Fin 15, k ∈ peers := by decide
            exact hp (Fin.rev r) (hr _) (by rw [Fin.rev_rev]; exact congrArg Fin.val e))))
    iexact Hout
  iexact Hs

/-! ## The rows received -/

theorem islRect_set (r : Fin 15) : (islotsR.access (islRect r)).set = islS r := by
  rw [show (islotsR.access (islRect r)).set = (islRect r).set from View.set_slice_whole _ _]
  ext i
  refine Rect.mem_set_unit.trans ?_
  simp only [islS, Finset.mem_filter, Finset.mem_univ, true_and]
  have h1 : (i 1).val < 16 := (i 1).isLt
  have h2 : (i 2).val < 1024 := (i 2).isLt
  constructor
  · intro h
    have h0 : r.val ≤ (i 0).val ∧ (i 0).val < r.val + 1 := h 0
    omega
  · intro h0 a
    match a with
    | ⟨0, _⟩ => show r.val ≤ (i 0).val ∧ (i 0).val < r.val + 1; omega
    | ⟨1, _⟩ => show 0 ≤ (i 1).val ∧ (i 1).val < 0 + 16; omega
    | ⟨2, _⟩ => show 0 ≤ (i 2).val ∧ (i 2).val < 0 + 1024; omega

theorem recv_at (c : Dev nD) (r : Fin 15) (a : Fin 16) (b : Fin 1024) :
    recvOf ((islotsR.access (islRect r)).read (Elt F) (ISL m c)) (ix2 a b)
      = (extf .f32 (RV m (peerP c (Fin.rev r)) : FVec F S16x1024 .bf16) bitsLt_bf16_f32 : FVec F S16x1024 .f32) (ix2 a b) := by
  refine congrArg (FloatOps.extf .f32 bitsLt_bf16_f32) ?_
  refine (shapeCast_apply _ _ _ (ix3 0 a b) ?_).trans ?_
  · rw [Shape.rowMajor_val_three, Shape.rowMajor_val_two]
    show (0 * 16 + a.val) * 1024 + b.val = a.val * 1024 + b.val
    omega
  · show ISL m c ((islRect r).emb (ix3 0 a b)) = _
    have e : (islRect r).emb (ix3 0 a b) = (ix3 r a b : S15x16x1024.Idx) := by
      funext q
      match q with
      | ⟨0, _⟩ => exact Fin.ext (by show r.val + 1 * 0 = r.val; omega)
      | ⟨1, _⟩ => exact Fin.ext (by show 0 + 1 * a.val = a.val; omega)
      | ⟨2, _⟩ => exact Fin.ext (by show 0 + 1 * b.val = b.val; omega)
    rw [e]
    rfl

theorem recv_val (c : Dev nD) (r : Fin 15) (x : S1x16x1024.Idx) :
    rowsOf (recvOf ((islotsR.access (islRect r)).read (Elt F) (ISL m c))) x = OUT m c ((rowRect c r).emb x) := by
  rw [rows_emb (peerP c (Fin.rev r)) (off7_eq c r) (Gen.k0_off7_inb c r) x, rowsOf_at]
  exact (recv_at m c r (x 1) (x 2)).trans (OUT_peer m c _ (peer_ne c _) (x 1) (x 2)).symm

def drPre (c : Dev nD) (r : Fin 15) : sProp 𝕄 := iprop(cred (tallyAt (drCell c r) () (dN r)) ∗ atPos ER (drCell c r) 0 ∅ 0)
def drPost (c : Dev nD) (r : Fin 15) : sProp 𝕄 := iprop(islP m c r ∗ semVal (drCell c r) 0)

theorem outRecv_step (c : Dev nD) (Q' : PUnit → sProp 𝕄) (r : Fin 15) (l : List (Fin 15)) (κ : Pg F) :
    iprop((env m K ∗ own c 0 ∗ outP m c (r :: l)) ∗ drPre c r)
      ⊢ iprop((((env m K ∗ own c 0 ∗ outP m c l) ∗ drPost m c r) -∗ WP c κ Q') -∗ WP c (outRecv c r κ) Q') := by
  unfold outRecv drPre drPost
  iintro ⟨⟨#He, Ho, Hout⟩, Hc, Hat⟩ HK
  iapply (wait_dma m K c Q' (iDr r) (drSem r) rfl (by rw [use_dr]; exact fun e => by cases e) (wpE_waitDma2_eq 𝒱₀ (c : Thread nD τ) none Set.univ) (by rw [use_dr]; rfl) (O := 0)
    (above_zero _)) $$ [Ho Hc Hat]
  · isplitr; · iexact He
    isplitl [Ho]; · iexact Ho
    isplitl [Hc] <;> iassumption
  rw [use_dr, show usePay m c (.dr r) = islP m c r from rfl]
  unfold islP outP agr
  iintro ⟨Ho, Hi, Hz⟩
  icases Hout with ⟨%f, %hf, Hout⟩
  iapply (wp_load_rect 𝒱₀ (c : Thread nD τ) none Set.univ (m := islotsR) (r := islRect r) (f := ISL m c) (by rw [islRect_set])) $$ Hi; iintro Hi
  iapply (wp_load 𝒱₀ (c : Thread nD τ) none Set.univ (m := outR) (f := f) (Finset.subset_univ _)) $$ Hout; iintro Hout
  iapply (wp_store 𝒱₀ (c : Thread nD τ) none Set.univ (m := outR) (r := rowRect c r) (Mk := Finset.univ) (f := f) (Finset.subset_univ _)) $$ Hout; iintro Hout
  have hf' : ∀ i ∈ (Finset.univ : Finset (Idx (outL c))), (∀ r' ∈ l, ((i : S1x256x1024.Idx) 1).val / 16 ≠ (peerP c (Fin.rev r')).val) →
      (outR.access (rowRect c r)).write (Elt F) f (rowsOf (recvOf ((islotsR.access (islRect r)).read (Elt F) (ISL m c)))) Finset.univ i = OUT m c i := by
    refine write_known (F := F) (outR.access (rowRect c r)) (P := fun i : S1x256x1024.Idx => ∀ r' ∈ r :: l, (i 1).val / 16 ≠ (peerP c (Fin.rev r')).val) hf (fun x _ => ?_) (fun i _ hm hp => ?_)
    · exact recv_val m c r x
    · intro r' hh
      rcases List.mem_cons.mp hh with rfl | hh
      · exact fun q => hm ((rows_mem _ (off7_eq c _) _ i).mpr q)
      · exact hp r' hh
  iapply HK
  isplitl [Ho Hout]
  · isplitr; · iexact He
    isplitl [Ho]; · iexact Ho
    iexists _; isplitr
    · ipureintro; exact hf'
    iexact Hout
  isplitl [Hi]; · iexact Hi
  iexact Hz

end Cert.KernelIdeal.Attn

end
-- ==== Proof.Pieces.lean ====
/-
How the buffers split into the pieces that the copies move, and how the pieces join again.
-/
module

public import proofs.«01_k».proof.Proof.Work

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_fin2 (Φ : Fin 2 → sProp 𝕄) : bigSep Finset.univ Φ = iprop(Φ 0 ∗ Φ 1) := bigSep_univ_eq_bigSepL [0, 1] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem sepL_sep (l : List (Fin 15)) (Φ Ψ : Fin 15 → sProp 𝕄) (h : l = peers) : iprop(sepL l Φ ∗ sepL l Ψ) = sepL l fun r => iprop(Φ r ∗ Ψ r) := by
  subst h; rw [sepL_peers, sepL_peers, sepL_peers, bigSep_sep']
theorem sepP (Φ Ψ : Fin 15 → sProp 𝕄) : (sepL peers fun r => iprop(Φ r ∗ Ψ r)) = iprop(sepL peers Φ ∗ sepL peers Ψ) := (sepL_sep peers Φ Ψ rfl).symm
theorem sepH (Φ Ψ : Fin 8 → sProp 𝕄) : (sepL heads fun h => iprop(Φ h ∗ Ψ h)) = iprop(sepL heads Φ ∗ sepL heads Ψ) := by
  rw [sepL_heads, sepL_heads, sepL_heads, bigSep_sep']

theorem sepP_mono {Φ Ψ : Fin 15 → sProp 𝕄} (h : ∀ r, Φ r ⊢ Ψ r) : sepL peers Φ ⊢ sepL peers Ψ := by
  rw [sepL_peers, sepL_peers]; exact bigSep_mono fun r _ => h r
theorem sepH_mono {Φ Ψ : Fin 8 → sProp 𝕄} (h : ∀ r, Φ r ⊢ Ψ r) : sepL heads Φ ⊢ sepL heads Ψ := by
  rw [sepL_heads, sepL_heads]; exact bigSep_mono fun r _ => h r

/-- Something for each of a device's cells, kind by kind. -/
theorem bigSep_CI (Φ : CI → sProp 𝕄) : bigSep Finset.univ Φ
    = iprop(Φ iBar ∗ (sepL heads fun h => iprop(Φ (iKv 0 h) ∗ Φ (iKv 1 h)))
      ∗ ((sepL peers fun r => Φ (iBs 0 r)) ∗ (sepL peers fun r => Φ (iBs 1 r)) ∗ (sepL peers fun r => Φ (iBs 2 r)) ∗ (sepL peers fun r => Φ (iBs 3 r)))
      ∗ ((sepL peers fun r => Φ (iBr 0 r)) ∗ (sepL peers fun r => Φ (iBr 1 r)) ∗ (sepL peers fun r => Φ (iBr 2 r)) ∗ (sepL peers fun r => Φ (iBr 3 r)))
      ∗ (sepL peers fun r => Φ (iDs r)) ∗ (sepL peers fun r => Φ (iDr r))) := by
  have hu (Ψ : Unit → sProp 𝕄) : bigSep Finset.univ Ψ = Ψ () := by rw [show (Finset.univ : Finset Unit) = {()} from rfl, bigSep_singleton]
  rw [sepH]
  simp only [sepL_peers, sepL_heads]
  rw [bigSep_univ_sum, bigSep_univ_sum, bigSep_univ_sum, bigSep_univ_sum, bigSep_univ_sum, hu, bigSep_univ_prod, bigSep_univ_prod, bigSep_univ_prod,
    bigSep_fin2, bigSep_fin4, bigSep_fin4]
  rfl

/-! ## Memory at unknown contents -/

/-- The elements `I` of a buffer, whatever they hold. -/
def someP (ℓ : Loc nD τ sig) (I : Finset (Idx ℓ)) : sProp 𝕄 := iprop(∃ f : Buf (Elt F) ℓ, ℓ ↦[I]{fullShare} f)

theorem agr_some {ℓ : Loc nD τ sig} {I : Finset (Idx ℓ)} {P : Idx ℓ → Prop} {g : Buf (Elt F) ℓ} : (agr ℓ I P g : sProp 𝕄) ⊢ someP ℓ I := by
  unfold agr someP
  iintro ⟨%f, -, H⟩
  iexists f; iexact H

theorem some_agr {ℓ : Loc nD τ sig} {I : Finset (Idx ℓ)} {P : Idx ℓ → Prop} (h : ∀ i ∈ I, ¬ P i) (g : Buf (Elt F) ℓ) : (someP ℓ I : sProp 𝕄) ⊢ agr ℓ I P g := by
  unfold someP
  iintro ⟨%f, H⟩
  iapply (show (ℓ ↦[I]{fullShare} f : sProp 𝕄) ⊢ agr ℓ I P g from agr_intro f fun i hi hp => absurd hp (h i hi))
  iexact H

theorem pts_some {ℓ : Loc nD τ sig} {I : Finset (Idx ℓ)} (f : Buf (Elt F) ℓ) : (ℓ ↦[I]{fullShare} f : sProp 𝕄) ⊢ someP ℓ I := by
  unfold someP
  iintro H
  iexists f; iexact H

theorem some_split {ℓ : Loc nD τ sig} {T : Type} [DecidableEq T] (S : Finset T) (K : T → Finset (Idx ℓ))
    (h : ∀ t ∈ S, ∀ t' ∈ S, t ≠ t' → Disjoint (K t) (K t')) : (someP ℓ (S.biUnion K) : sProp 𝕄) ⊢ bigSep S fun t => someP ℓ (K t) := by
  conv => lhs; unfold someP
  iintro ⟨%f, H⟩
  iapply (show (ℓ ↦[S.biUnion K]{fullShare} f : sProp 𝕄) ⊢ bigSep S fun t => someP ℓ (K t) from by
    rw [pointsTo_biUnion S K h]; exact bigSep_mono fun t _ => pts_some f)
  iexact H

theorem some_join {ℓ : Loc nD τ sig} {T : Type} [DecidableEq T] (S : Finset T) (K : T → Finset (Idx ℓ)) (g : Buf (Elt F) ℓ)
    (h : ∀ t ∈ S, ∀ t' ∈ S, t ≠ t' → Disjoint (K t) (K t')) : bigSep S (fun t => someP ℓ (K t)) ⊢ (someP ℓ (S.biUnion K) : sProp 𝕄) := by
  have h1 : bigSep S (fun t => someP ℓ (K t)) ⊢ (bigSep S fun t => agr ℓ (K t) (fun _ => False) g : sProp 𝕄) :=
    bigSep_mono fun t _ => some_agr (fun _ _ h => h) g
  exact (h1.trans (agr_biUnion_join S K h)).trans agr_some

/-! ## The index sets -/

theorem disj_filter {α : Type} [Fintype α] [DecidableEq α] {p q : α → Prop} [DecidablePred p] [DecidablePred q] (h : ∀ i, p i → q i → False) :
    Disjoint (Finset.univ.filter p) (Finset.univ.filter q) :=
  Finset.disjoint_filter.mpr fun i _ hp hq => h i hp hq

theorem stgS_disj : ∀ h ∈ (Finset.univ : Finset (Fin 8)), ∀ h' ∈ Finset.univ, h ≠ h' → Disjoint (stgS h) (stgS h') :=
  fun h _ h' _ ne => disj_filter fun i e e' => ne (Fin.ext (e.symm.trans e'))
theorem kvS_disj : ∀ h ∈ (Finset.univ : Finset (Fin 8)), ∀ h' ∈ Finset.univ, h ≠ h' → Disjoint (kvS h) (kvS h') :=
  fun h _ h' _ ne => disj_filter fun i e e' => ne (Fin.ext (e.symm.trans e'))
theorem slotRS_disj : ∀ h ∈ (Finset.univ : Finset (Fin 15)), ∀ h' ∈ Finset.univ, h ≠ h' → Disjoint (slotRS h) (slotRS h') :=
  fun h _ h' _ ne => disj_filter fun i e e' => ne (Fin.ext (e.symm.trans e'))
theorem islS_disj : ∀ h ∈ (Finset.univ : Finset (Fin 15)), ∀ h' ∈ Finset.univ, h ≠ h' → Disjoint (islS h) (islS h') :=
  fun h _ h' _ ne => disj_filter fun i e e' => ne (Fin.ext (e.symm.trans e'))
theorem rowsS_disj : ∀ h ∈ (Finset.univ : Finset (Dev nD)), ∀ h' ∈ Finset.univ, h ≠ h' → Disjoint (rowsS h) (rowsS h') :=
  fun h _ h' _ ne => disj_filter fun i e e' => ne (Fin.ext (by omega))
theorem cell_disj (t : Fin 4) : ∀ h ∈ (Finset.univ : Finset (Dev nD)), ∀ h' ∈ Finset.univ, h ≠ h' → Disjoint (cellS h t) (cellS h' t) :=
  fun h _ h' _ ne => disj_filter fun i e e' => ne (Fin.ext (by omega))

/-- Different strips do not meet. -/
theorem col_disj : ∀ t t' : Fin 4, t ≠ t' → ∀ k : Fin 1152, ¬ ((col0 t ≤ k.val ∧ k.val < col0 t + wid t) ∧ (col0 t' ≤ k.val ∧ k.val < col0 t' + wid t')) := by
  intro t t' ne k
  fin_cases t <;> fin_cases t' <;> first | exact absurd rfl ne | (simp [col0, wid] <;> omega)
/-- Every column lies in a strip. -/
theorem col_cover (k : ℕ) (hk : k < 1152) : ∃ t : Fin 4, col0 t ≤ k ∧ k < col0 t + wid t := by
  rcases Nat.lt_or_ge k 256 with h | h
  · exact ⟨0, by simp [col0], by simp [col0, wid]; omega⟩
  rcases Nat.lt_or_ge k 512 with h2 | h2
  · exact ⟨1, by simp [col0]; omega, by simp [col0, wid]; omega⟩
  rcases Nat.lt_or_ge k 768 with h3 | h3
  · exact ⟨2, by simp [col0]; omega, by simp [col0, wid]; omega⟩
  · exact ⟨3, by simp [col0]; omega, by simp [col0, wid]; omega⟩

theorem cellT_disj (e : Dev nD) : ∀ t ∈ (Finset.univ : Finset (Fin 4)), ∀ t' ∈ Finset.univ, t ≠ t' → Disjoint (cellS e t) (cellS e t') :=
  fun t _ t' _ ne => disj_filter fun i h h' => col_disj t t' ne (i 1) ⟨h.2, h'.2⟩
theorem slotT_disj (r : Fin 15) : ∀ t ∈ (Finset.univ : Finset (Fin 4)), ∀ t' ∈ Finset.univ, t ≠ t' → Disjoint (slotS t r) (slotS t' r) :=
  fun t _ t' _ ne => disj_filter fun i h h' => col_disj t t' ne (i 2) ⟨h.2, h'.2⟩

theorem stgS_cover : (Finset.univ : Finset (Fin 8)).biUnion stgS = Finset.univ := by
  ext i; simp only [Finset.mem_biUnion, Finset.mem_univ, true_and, iff_true, stgS, Finset.mem_filter]
  exact ⟨i 0, rfl⟩
theorem kvS_cover : (Finset.univ : Finset (Fin 8)).biUnion kvS = Finset.univ := by
  ext i; simp only [Finset.mem_biUnion, Finset.mem_univ, true_and, iff_true, kvS, Finset.mem_filter]
  exact ⟨i 2, rfl⟩
theorem slotRS_cover : (Finset.univ : Finset (Fin 15)).biUnion slotRS = Finset.univ := by
  ext i; simp only [Finset.mem_biUnion, Finset.mem_univ, true_and, iff_true, slotRS, Finset.mem_filter]
  exact ⟨i 0, rfl⟩
theorem islS_cover : (Finset.univ : Finset (Fin 15)).biUnion islS = Finset.univ := by
  ext i; simp only [Finset.mem_biUnion, Finset.mem_univ, true_and, iff_true, islS, Finset.mem_filter]
  exact ⟨i 0, rfl⟩
theorem rowsS_cover : (Finset.univ : Finset (Dev nD)).biUnion rowsS = Finset.univ := by
  ext i; simp only [Finset.mem_biUnion, Finset.mem_univ, true_and, iff_true, rowsS, Finset.mem_filter]
  have hi : (i 0).val < 256 := (i 0).isLt
  exact ⟨⟨(i 0).val / 16, by show _ < 16; omega⟩, by show 16 * ((i 0).val / 16) ≤ _; omega, by show _ < 16 * ((i 0).val / 16) + 16; omega⟩
theorem slotT_cover (r : Fin 15) : (Finset.univ : Finset (Fin 4)).biUnion (fun t => slotS t r) = slotRS r := by
  ext i; simp only [Finset.mem_biUnion, Finset.mem_univ, true_and, slotS, slotRS, Finset.mem_filter]
  constructor
  · rintro ⟨t, h, -⟩; exact h
  · intro h
    obtain ⟨t, ht⟩ := col_cover (i 2).val (i 2).isLt
    exact ⟨t, h, ht⟩
theorem cellT_cover (e : Dev nD) : (Finset.univ : Finset (Fin 4)).biUnion (fun t => cellS e t) = rowsS e := by
  ext i; simp only [Finset.mem_biUnion, Finset.mem_univ, true_and, cellS, rowsS, Finset.mem_filter]
  constructor
  · rintro ⟨t, h, -⟩; exact h
  · intro h
    obtain ⟨t, ht⟩ := col_cover (i 1).val (i 1).isLt
    exact ⟨t, h, ht⟩
theorem rest_cover (t : Fin 4) : restS t.val = (Finset.univ : Finset (Dev nD)).biUnion (fun e => cellS e t) ∪ restS (t.val + 1) := by
  have h1 := wid_eq t; have h2 := lo_mono t; have h3 := col0_eq t
  ext i; simp only [Finset.mem_biUnion, Finset.mem_univ, true_and, cellS, restS, Finset.mem_filter, Finset.mem_union]
  have hi : (i 0).val < 256 := (i 0).isLt
  constructor
  · intro h
    rcases Nat.lt_or_ge (i 1).val (lo (t.val + 1)) with h' | h'
    · exact Or.inl ⟨⟨(i 0).val / 16, by show _ < 16; omega⟩, ⟨by show 16 * ((i 0).val / 16) ≤ _; omega, by show _ < 16 * ((i 0).val / 16) + 16; omega⟩, by omega, by omega⟩
    · exact Or.inr h'
  · rintro (⟨e, -, h, -⟩ | h) <;> omega
theorem rest_disj (t : Fin 4) : Disjoint ((Finset.univ : Finset (Dev nD)).biUnion (fun e => cellS e t)) (restS (t.val + 1)) := by
  have h1 := wid_eq t
  refine (Finset.disjoint_biUnion_left _ _ _).mpr fun e _ => disj_filter fun i h h' => ?_
  omega

/-! ## Splitting and joining -/

/-- A strip's rows, device by device. -/
theorem strip_split (c : Dev nD) (t : Fin 4) : (partPts m c t.val (2 * t.val + 2))
    ⊢ iprop(partP m c c t ∗ (sepL peers fun r => partP m c (peerP c r) t) ∗ partPts m c (t.val + 1) (2 * t.val + 2)) := by
  have h1 : (agr (partL c) ((Finset.univ : Finset (Dev nD)).biUnion fun e => cellS e t) (Done (2 * t.val + 2)) (PV m c) : sProp 𝕄)
      ⊢ agr (partL c) ((Finset.univ : Finset (Dev nD)).biUnion fun e => cellS e t) Col (PV m c) := agr_mono fun i hi hp => by
    refine ⟨?_, rfl⟩
    obtain ⟨e, -, he⟩ := Finset.mem_biUnion.mp hi
    have hm := (Finset.mem_filter.mp he).2.2
    have hw := wid_eq t
    have ht := t.isLt
    have hp' : ((i : S256x1152.Idx) 1).val < 1032 := hp
    have hl : lo (t.val + 1) = if t.val + 1 < 4 then 256 * (t.val + 1) else 1152 := rfl
    unfold Done
    by_cases h3 : t.val + 1 < 4
    · rw [if_pos h3] at hl; left; omega
    · rw [if_neg h3] at hl
      by_cases h4 : ((i : S256x1152.Idx) 1).val < 1024
      · left; omega
      · right; omega
  unfold partPts
  rw [rest_cover t]
  refine (agr_union (rest_disj t)).trans ?_
  refine (sep_mono_left (h1.trans (agr_biUnion _ _ (cell_disj t)))).trans ?_
  rw [bigSep_peers c (fun e => (agr (partL c) (cellS e t) Col (PV m c) : sProp 𝕄)), sepL_peers]
  unfold partP
  iintro ⟨⟨H1, H2⟩, H3⟩
  isplitl [H1]; · iexact H1
  isplitl [H2] <;> iassumption

theorem rows_join (c e : Dev nD) : iprop(partP m c e 0 ∗ partP m c e 1 ∗ partP m c e 2 ∗ partP m c e 3) ⊢ (agr (partL c) (rowsS e) Col (PV m c) : sProp 𝕄) := by
  rw [← bigSep_fin4 (fun t => partP m c e t), ← cellT_cover e]
  exact agr_biUnion_join _ _ (cellT_disj e)

/-- The partial sums' buffer is whole again. -/
theorem part_join (c : Dev nD) :
    iprop(ownRows m c ∗ (sepL peers fun r => partP m c (peerP c r) 0) ∗ (sepL peers fun r => partP m c (peerP c r) 1)
      ∗ (sepL peers fun r => partP m c (peerP c r) 2) ∗ (sepL peers fun r => partP m c (peerP c r) 3)) ⊢ (someP (partL c) Finset.univ : sProp 𝕄) := by
  rw [← sepP, ← sepP, ← sepP]
  refine (sep_mono_right (sepP_mono fun r => rows_join m c (peerP c r))).trans ?_
  unfold ownRows
  rw [sepL_peers, ← bigSep_peers c (fun e => (agr (partL c) (rowsS e) Col (PV m c) : sProp 𝕄))]
  refine (agr_biUnion_join _ _ rowsS_disj).trans ?_
  rw [rowsS_cover]
  exact agr_some

theorem slot_join (c : Dev nD) :
    iprop((sepL peers fun r => slotP m c 0 r) ∗ (sepL peers fun r => slotP m c 1 r) ∗ (sepL peers fun r => slotP m c 2 r) ∗ (sepL peers fun r => slotP m c 3 r))
      ⊢ sepL peers (slotRP m c) := by
  rw [← sepP, ← sepP, ← sepP]
  refine sepP_mono fun r => ?_
  rw [← bigSep_fin4 (fun t => slotP m c t r)]
  unfold slotRP
  rw [← slotT_cover r]
  exact agr_biUnion_join _ _ (slotT_disj r)

theorem slots_join (c : Dev nD) : sepL peers (slotRP m c) ⊢ (someP (slotsL c) Finset.univ : sProp 𝕄) := by
  rw [sepL_peers, ← slotRS_cover]
  exact (agr_biUnion_join _ _ slotRS_disj).trans agr_some

theorem isl_join (c : Dev nD) : (sepL peers fun r => islP m c r) ⊢ (someP (islL c) Finset.univ : sProp 𝕄) := by
  rw [sepL_peers, ← islS_cover]
  exact (bigSep_mono fun r _ => pts_some _).trans (some_join _ _ (ISL m c) islS_disj)

/-- What a device lends its peers: its slots and its rows to come. -/
theorem lend_split (c : Dev nD) : iprop(someP (slotsL c) Finset.univ ∗ someP (islL c) Finset.univ) ⊢ (sepL peers fun r => lendP (F := F) c (Fin.rev r)) := by
  have h1 : (someP (slotsL c) Finset.univ : sProp 𝕄) ⊢ bigSep Finset.univ fun r => iprop(landP (F := F) c 0 r ∗ landP c 1 r ∗ landP c 2 r ∗ landP c 3 r) := by
    rw [← slotRS_cover]
    refine (some_split _ _ slotRS_disj).trans (bigSep_mono fun r _ => ?_)
    rw [← slotT_cover r, ← bigSep_fin4 (fun t => landP (F := F) c t r)]
    exact some_split _ _ (slotT_disj r)
  have h2 : (someP (islL c) Finset.univ : sProp 𝕄) ⊢ bigSep Finset.univ fun r => rlandP (F := F) c r := by
    rw [← islS_cover]
    exact some_split _ _ islS_disj
  have h3 : iprop(someP (slotsL c) Finset.univ ∗ someP (islL c) Finset.univ) ⊢ bigSep Finset.univ fun r => lendP (F := F) c r := by
    refine (BI.sep_mono h1 h2).trans ?_
    refine (show iprop((bigSep Finset.univ fun r => iprop(landP (F := F) c 0 r ∗ landP c 1 r ∗ landP c 2 r ∗ landP c 3 r)) ∗ bigSep Finset.univ fun r => rlandP (F := F) c r) ⊢ _ from ?_)
    rw [← bigSep_sep']
    refine bigSep_mono fun r _ => ?_
    show iprop((landP (F := F) c 0 r ∗ landP c 1 r ∗ landP c 2 r ∗ landP c 3 r) ∗ rlandP (F := F) c r) ⊢ lendP (F := F) c r
    unfold lendP
    iintro ⟨⟨H0, H1, H2, H3⟩, H4⟩
    isplitl [H0]; · iexact H0
    isplitl [H1]; · iexact H1
    isplitl [H2]; · iexact H2
    isplitl [H3] <;> iassumption
  refine h3.trans ?_
  rw [sepL_peers]
  have e := bigSep_univ_equiv Fin.revPerm (fun r => lendP (F := F) c r)
  first | exact (by rw [e]; exact BI.Entails.refl _) | (rw [← e]; exact BI.Entails.refl _)

/-- What the peers lend it, sorted by use. -/
theorem lend_open (c : Dev nD) : (bigSep Finset.univ fun r => lendP (F := F) (peerP c r) r)
    ⊢ iprop((sepL peers fun r => landP (F := F) (peerP c r) 0 r) ∗ (sepL peers fun r => landP (F := F) (peerP c r) 1 r) ∗ (sepL peers fun r => landP (F := F) (peerP c r) 2 r)
      ∗ (sepL peers fun r => landP (F := F) (peerP c r) 3 r) ∗ (sepL peers fun r => rlandP (F := F) (peerP c r) r)) := by
  rw [← sepP, ← sepP, ← sepP, ← sepP, sepL_peers]
  exact BI.Entails.refl _

theorem kL_split (c : Dev nD) : (kL c ↦[Finset.univ]{fullShare} m (kL c) : sProp 𝕄) = sepL heads (kP m c) := by
  rw [sepL_heads, ← kvS_cover, pointsTo_biUnion _ _ kvS_disj]; rfl
theorem vL_split (c : Dev nD) : (vL c ↦[Finset.univ]{fullShare} m (vL c) : sProp 𝕄) = sepL heads (vP m c) := by
  rw [sepL_heads, ← kvS_cover, pointsTo_biUnion _ _ kvS_disj]; rfl
theorem kst_split (c : Dev nD) : (someP (kstL c) Finset.univ : sProp 𝕄) ⊢ sepL heads fun h => someP (kstL c) (stgS h) := by
  rw [sepL_heads, ← stgS_cover]; exact some_split _ _ stgS_disj
theorem vst_split (c : Dev nD) : (someP (vstL c) Finset.univ : sProp 𝕄) ⊢ sepL heads fun h => someP (vstL c) (stgS h) := by
  rw [sepL_heads, ← stgS_cover]; exact some_split _ _ stgS_disj
theorem kst_join (c : Dev nD) : sepL heads (kstP m c) ⊢ (someP (kstL c) Finset.univ : sProp 𝕄) := by
  rw [sepL_heads, ← stgS_cover]
  exact (bigSep_mono fun h _ => pts_some _).trans (some_join _ _ (KST m c) stgS_disj)
theorem vst_join (c : Dev nD) : sepL heads (vstP m c) ⊢ (someP (vstL c) Finset.univ : sProp 𝕄) := by
  rw [sepL_heads, ← stgS_cover]
  exact (bigSep_mono fun h _ => pts_some _).trans (some_join _ _ (VST m c) stgS_disj)

theorem oslot_split (c : Dev nD) : (oslotL c ↦[Finset.univ]{fullShare} RV m c : sProp 𝕄) = sepL peers (oslotP m c) := by
  rw [sepL_peers]; exact Transfers.pointsTo_deal Finset.univ ⟨0, Finset.mem_univ _⟩ fullShare

end Cert.KernelIdeal.Attn

end
-- ==== Proof.BodyEq.lean ====
/-
The printed body, called with the buffers the launch gives it, is the body of Body.lean: the two unfold to one term.
-/
module
public import proofs.«01_k».proof.Proof.Body
@[expose] public section
noncomputable section
namespace Cert.KernelIdeal.Attn
open Cert.KernelIdeal Cert.KernelIdeal.Gen
open Idealize.ShloMosaic Idealize.SL.Sem
variable {F : FTy → Type} [FloatOps F]
set_option maxRecDepth 100000
set_option maxHeartbeats 0
theorem bodyAt_eq (t : Fin cfg0.N) : bodyAt0 (F := F) t = body := rfl
end Cert.KernelIdeal.Attn
end
-- ==== Proof.Run.lean ====
/-
The body from start to end, on a device named only by a variable.
-/
module

public import proofs.«01_k».proof.Proof.Pieces
public import proofs.«01_k».proof.Proof.BodyEq

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev xL (c : Dev nD) : Loc nD τ sig := (c : Thread nD τ).loc cc0_stg0_0
abbrev wqL (c : Dev nD) : Loc nD τ sig := (c : Thread nD τ).loc cc0_stg1_0

/-! ## The tokens, the credits and the positions of a device -/

def kvTok (c : Dev nD) (h : Fin 8) : sProp 𝕄 := iprop(dutyTok ER (kvCell c 0 h) 0 (0 : DU) ∗ dutyTok ER (kvCell c 1 h) 0 (0 : DU))
def barTok (c : Dev nD) (r : Fin 15) : sProp 𝕄 := dutyTok ER (barCell (peerP c r)) 0 (Fin.rev r)
def bTok (c : Dev nD) (t : Fin 4) (r : Fin 15) : sProp 𝕄 := iprop(dutyTok ER (bsCell c t r) 0 (0 : DU) ∗ dutyTok ER (brCell (peerP c r) t r) 0 (0 : DU))
def dTok (c : Dev nD) (r : Fin 15) : sProp 𝕄 := iprop(dutyTok ER (dsCell c r) 0 (0 : DU) ∗ dutyTok ER (drCell (peerP c r) r) 0 (0 : DU))

/-- The duties a device pays: those of its own copies and those it pays its peers. -/
def toks (c : Dev nD) : sProp 𝕄 :=
  iprop(sepL heads (kvTok c) ∗ sepL peers (barTok c) ∗ (sepL peers (bTok c 0) ∗ sepL peers (bTok c 1) ∗ sepL peers (bTok c 2) ∗ sepL peers (bTok c 3)) ∗ sepL peers (dTok c))

def brCred (c : Dev nD) (t : Fin 4) (r : Fin 15) : sProp 𝕄 := cred (tallyAt (brCell c t r) () (bN t r))
def drCred (c : Dev nD) (r : Fin 15) : sProp 𝕄 := cred (tallyAt (drCell c r) () (dN r))

/-- The credits a device waits with for what its peers send. -/
def creds (c : Dev nD) : sProp 𝕄 :=
  iprop(cred (tallyAt (barCell c) () 15) ∗ (sepL peers (brCred c 0) ∗ sepL peers (brCred c 1) ∗ sepL peers (brCred c 2) ∗ sepL peers (brCred c 3)) ∗ sepL peers (drCred c))

def posns (c : Dev nD) : sProp 𝕄 := bigSep Finset.univ fun k : CI => atPos ER (kcell (c, k)) 0 ∅ 0
def zeros (c : Dev nD) : sProp 𝕄 := bigSep Finset.univ fun k : CI => semVal (kcell (c, k)) 0

def scratch (c : Dev nD) : sProp 𝕄 :=
  iprop(someP (partL c) Finset.univ ∗ someP (slotsL c) Finset.univ ∗ someP (ctxL c) Finset.univ ∗ someP (oslotL c) Finset.univ ∗ someP (islL c) Finset.univ
    ∗ someP (kstL c) Finset.univ ∗ someP (vstL c) Finset.univ)

def kvPts (c : Dev nD) : sProp 𝕄 := iprop((kL c ↦[Finset.univ]{fullShare} m (kL c)) ∗ (vL c ↦[Finset.univ]{fullShare} m (vL c)))

/-! ## The phases -/

section Phases

theorem kv_phase (K : GSem nD τ sig → ℕ) (c : Dev nD) (Q' : PUnit → sProp 𝕄) (κ : Pg F) :
    iprop(env m K ∗ kvPts m c ∗ someP (kstL c) Finset.univ ∗ someP (vstL c) Finset.univ ∗ sepL heads (kvTok c))
      ⊢ iprop((sepL heads (kvCr c) -∗ WP c κ Q') -∗ WP c (heads.foldr kvStart κ) Q') := by
  have h : iprop(sepL heads (kP m c) ∗ sepL heads (vP m c) ∗ (sepL heads fun h => someP (kstL c) (stgS h)) ∗ (sepL heads fun h => someP (vstL c) (stgS h)) ∗ sepL heads (kvTok c))
      ⊢ sepL heads (kvPre m c) := by
    rw [← sepH, ← sepH, ← sepH, ← sepH]
    exact sepH_mono fun h => BI.Entails.refl _
  unfold kvPts
  rw [kL_split, vL_split]
  iintro ⟨#He, ⟨Hk, Hv⟩, Hks, Hvs, Ht⟩ HK
  ihave Hks := (kst_split c) $$ Hks
  ihave Hvs := (vst_split c) $$ Hvs
  iapply (wp_loop c Q' kvStart (kvPre m c) (kvCr c) (fun _ => env m K) (fun h l κ => kv_step m K c Q' h κ) heads κ) $$ [Hk Hv Hks Hvs Ht]
  · isplitr; · iexact He
    iapply h
    isplitl [Hk]; · iexact Hk
    isplitl [Hv]; · iexact Hv
    isplitl [Hks]; · iexact Hks
    isplitl [Hvs]; · iexact Hvs
    iexact Ht
  iintro ⟨-, H⟩
  iapply HK; iexact H

theorem bar_phase (K : GSem nD τ sig → ℕ) (c : Dev nD) (Q' : PUnit → sProp 𝕄) (O : CellTallies nD τ sig Unit) (κ : Pg F) :
    iprop(env m K ∗ own c (addT peers (barT c) O) ∗ someP (slotsL c) Finset.univ ∗ someP (islL c) Finset.univ ∗ sepL peers (barTok c))
      ⊢ iprop((own c O -∗ WP c κ Q') -∗ WP c (peers.foldr (barSignal c) κ) Q') := by
  iintro ⟨#He, Ho, Hs, Hi, Ht⟩ HK
  iapply (wp_loop c Q' (barSignal c) (fun r => iprop(lendP c (Fin.rev r) ∗ barTok c r)) (fun _ => iprop(emp)) (fun l => iprop(env m K ∗ own c (addT l (barT c) O)))
    (fun r l κ => bar_step m K c Q' O r l κ) peers κ) $$ [Ho Hs Hi Ht]
  · isplitl [Ho]
    · isplitr; · iexact He
      iexact Ho
    iapply (show iprop((sepL peers fun r => lendP (F := F) c (Fin.rev r)) ∗ sepL peers (barTok c)) ⊢ sepL peers (fun r => iprop(lendP c (Fin.rev r) ∗ barTok c r)) from
      Entails.of_eq (sepP _ _).symm)
    isplitr [Ht]
    · iapply (lend_split c)
      isplitl [Hs] <;> iassumption
    iexact Ht
  iintro ⟨⟨-, Ho⟩, -⟩
  iapply HK; iexact Ho

theorem hz3 : (![0, 0, 0] : Fin 3 → ℕ) = fun _ => 0 := funext fun a => by fin_cases a <;> rfl

theorem read_xR (f : (cc0_stg0_0 : Ref sig .tc).ty.Contents (Elt F)) :
    xR.view.readAt (Elt F) (Rect.unit (s := S1x256x1024) ![0, 0, 0] S1x256x1024.size inb_S1x256x1024_S1x256x1024_0_0_0).toLoadRect f = f :=
  Memref.readAt_unit_zero (Elt F) cc0_stg0_0 hz3 _ f
theorem read_wqR (f : (cc0_stg1_0 : Ref sig .tc).ty.Contents (Elt F)) :
    wqR.view.readAt (Elt F) (Rect.unit (s := S1024x1024) ![0, 0] S1024x1024.size inb_S1024x1024_S1024x1024_0_0).toLoadRect f = f :=
  Memref.readAt_unit_zero (Elt F) cc0_stg1_0 hz2 _ f

theorem q_phase (c : Dev nD) (Q' : PUnit → sProp 𝕄) (κ : FVec F S256x1024 .f32 → Pg F) :
    iprop((xL c ↦[Finset.univ]{fullShare} xstg m c) ∗ (wqL c ↦[Finset.univ]{fullShare} wqstg m c))
      ⊢ iprop((((xL c ↦[Finset.univ]{fullShare} xstg m c) ∗ (wqL c ↦[Finset.univ]{fullShare} wqstg m c)) -∗ WP c (κ (Q m c)) Q') -∗ WP c (qRead κ) Q') := by
  unfold qRead
  iintro ⟨Hx, Hw⟩ HK
  iapply (wp_load 𝒱₀ (c : Thread nD τ) none Set.univ (m := xR) (Finset.subset_univ _)) $$ Hx; iintro Hx
  rw [read_xR]
  iapply (wp_load 𝒱₀ (c : Thread nD τ) none Set.univ (m := wqR) (Finset.subset_univ _)) $$ Hw; iintro Hw
  rw [read_wqR]
  iapply HK
  isplitl [Hx] <;> iassumption

theorem strip_phase (K : GSem nD τ sig → ℕ) (c : Dev nD) (Q' : PUnit → sProp 𝕄) (t : Fin 4) (O : CellTallies nD τ sig Unit) (κ : Pg F) :
    iprop(env m K ∗ own c (addT peers (brT c t) O) ∗ partPts m c t.val (2 * t.val + 2) ∗ (sepL peers fun r => landP (peerP c r) t r) ∗ sepL peers (bTok c t))
      ⊢ iprop(((own c O ∗ partP m c c t ∗ partPts m c (t.val + 1) (2 * t.val + 2) ∗ sepL peers (bsCr c t)) -∗ WP c κ Q') -∗ WP c (strips c t κ) Q') := by
  have h : iprop((sepL peers fun r => partP m c (peerP c r) t) ∗ (sepL peers fun r => landP (peerP c r) t r) ∗ sepL peers (bTok c t)) ⊢ sepL peers (stripPre m c t) := by
    rw [← sepP, ← sepP]
    exact sepP_mono fun r => BI.Entails.refl _
  iintro ⟨#He, Ho, Hp, Hl, Ht⟩ HK
  ihave Hp := (strip_split m c t) $$ Hp
  icases Hp with ⟨H1, H2, H3⟩
  iapply (wp_loop c Q' (strip c t) (stripPre m c t) (bsCr c t) (fun l => iprop(env m K ∗ own c (addT l (brT c t) O)))
    (fun r l κ => strip_step m K c Q' t O r l κ) peers κ) $$ [Ho H2 Hl Ht]
  · isplitl [Ho]
    · isplitr; · iexact He
      iexact Ho
    iapply h
    isplitl [H2]; · iexact H2
    isplitl [Hl] <;> iassumption
  iintro ⟨⟨-, Ho⟩, Hc⟩
  iapply HK
  isplitl [Ho]; · iexact Ho
  isplitl [H1]; · iexact H1
  isplitl [H3] <;> iassumption

theorem stripWait_phase (K : GSem nD τ sig → ℕ) (c : Dev nD) (Q' : PUnit → sProp 𝕄) (t : Fin 4) (O : CellTallies nD τ sig Unit) (hO : Above 2 O) (κ : Pg F) :
    iprop(env m K ∗ own c O ∗ sepL peers (brCred c t) ∗ sepL peers fun r => atPos ER (brCell c t r) 0 ∅ 0)
      ⊢ iprop(((own c O ∗ (sepL peers fun r => slotP m c t r) ∗ sepL peers fun r => semVal (brCell c t r) 0) -∗ WP c κ Q') -∗ WP c (peers.foldr (stripWait t) κ) Q') := by
  iintro ⟨#He, Ho, Hc, Ha⟩ HK
  iapply (wp_loop c Q' (stripWait t) (brPre c t) (brPost m c t) (fun l => iprop(env m K ∗ own c O))
    (fun r l κ => stripWait_step m K c Q' t O hO r κ) peers κ) $$ [Ho Hc Ha]
  · isplitl [Ho]
    · isplitr; · iexact He
      iexact Ho
    iapply (show iprop(sepL peers (brCred c t) ∗ sepL peers fun r => atPos ER (brCell c t r) 0 ∅ 0) ⊢ sepL peers (brPre (F := F) c t) from by
      rw [← sepP]; exact BI.Entails.refl _)
    isplitl [Hc] <;> iassumption
  iintro ⟨⟨-, Ho⟩, Hp⟩
  ihave Hp := (show sepL peers (brPost m c t) ⊢ iprop((sepL peers fun r => slotP m c t r) ∗ sepL peers fun r => semVal (brCell c t r) 0) from by
    rw [← sepP]; exact BI.Entails.refl _) $$ Hp
  iapply HK
  isplitl [Ho] <;> iassumption

theorem stripDone_phase (K : GSem nD τ sig → ℕ) (c : Dev nD) (Q' : PUnit → sProp 𝕄) (t : Fin 4) (O : CellTallies nD τ sig Unit) (hO : Above 0 O) (κ : Pg F) :
    iprop(env m K ∗ own c O ∗ sepL peers (bsCr c t) ∗ sepL peers fun r => atPos ER (bsCell c t r) 0 ∅ 0)
      ⊢ iprop(((own c O ∗ (sepL peers fun r => partP m c (peerP c r) t) ∗ sepL peers fun r => semVal (bsCell c t r) 0) -∗ WP c κ Q') -∗ WP c (peers.foldr (stripDone t) κ) Q') := by
  iintro ⟨#He, Ho, Hc, Ha⟩ HK
  iapply (wp_loop c Q' (stripDone t) (bsPre c t) (bsPost m c t) (fun l => iprop(env m K ∗ own c O))
    (fun r l κ => stripDone_step m K c Q' t O hO r κ) peers κ) $$ [Ho Hc Ha]
  · isplitl [Ho]
    · isplitr; · iexact He
      iexact Ho
    iapply (show iprop(sepL peers (bsCr c t) ∗ sepL peers fun r => atPos ER (bsCell c t r) 0 ∅ 0) ⊢ sepL peers (bsPre (F := F) c t) from by
      rw [← sepP]; exact BI.Entails.refl _)
    isplitl [Hc] <;> iassumption
  iintro ⟨⟨-, Ho⟩, Hp⟩
  ihave Hp := (show sepL peers (bsPost m c t) ⊢ iprop((sepL peers fun r => partP m c (peerP c r) t) ∗ sepL peers fun r => semVal (bsCell c t r) 0) from by
    rw [← sepP]; exact BI.Entails.refl _) $$ Hp
  iapply HK
  isplitl [Ho] <;> iassumption

theorem outDone_phase (K : GSem nD τ sig → ℕ) (c : Dev nD) (Q' : PUnit → sProp 𝕄) (O : CellTallies nD τ sig Unit) (hO : Above 0 O) (κ : Pg F) :
    iprop(env m K ∗ own c O ∗ sepL peers (dsCr c) ∗ sepL peers fun r => atPos ER (dsCell c r) 0 ∅ 0)
      ⊢ iprop(((own c O ∗ sepL peers (oslotP m c) ∗ sepL peers fun r => semVal (dsCell c r) 0) -∗ WP c κ Q') -∗ WP c (peers.foldr outDone κ) Q') := by
  iintro ⟨#He, Ho, Hc, Ha⟩ HK
  iapply (wp_loop c Q' outDone (dsPre c) (dsPost m c) (fun l => iprop(env m K ∗ own c O))
    (fun r l κ => outDone_step m K c Q' O hO r κ) peers κ) $$ [Ho Hc Ha]
  · isplitl [Ho]
    · isplitr; · iexact He
      iexact Ho
    iapply (show iprop(sepL peers (dsCr c) ∗ sepL peers fun r => atPos ER (dsCell c r) 0 ∅ 0) ⊢ sepL peers (dsPre (F := F) c) from by
      rw [← sepP]; exact BI.Entails.refl _)
    isplitl [Hc] <;> iassumption
  iintro ⟨⟨-, Ho⟩, Hp⟩
  ihave Hp := (show sepL peers (dsPost m c) ⊢ iprop(sepL peers (oslotP m c) ∗ sepL peers fun r => semVal (dsCell c r) 0) from by
    rw [← sepP]; exact BI.Entails.refl _) $$ Hp
  iapply HK
  isplitl [Ho] <;> iassumption

theorem outSend_phase (K : GSem nD τ sig → ℕ) (c : Dev nD) (Q' : PUnit → sProp 𝕄) (O : CellTallies nD τ sig Unit) (κ : Pg F) :
    iprop(env m K ∗ own c (addT peers (drT c) O) ∗ (oslotL c ↦[Finset.univ]{fullShare} RV m c) ∗ (sepL peers fun r => rlandP (peerP c r) r) ∗ sepL peers (dTok c))
      ⊢ iprop(((own c O ∗ sepL peers (dsCr c)) -∗ WP c κ Q') -∗ WP c (peers.foldr (outSend c) κ) Q') := by
  have h : iprop(sepL peers (oslotP m c) ∗ (sepL peers fun r => rlandP (peerP c r) r) ∗ sepL peers (dTok c)) ⊢ sepL peers (outPre m c) := by
    rw [← sepP, ← sepP]
    exact sepP_mono fun r => BI.Entails.refl _
  rw [oslot_split]
  iintro ⟨#He, Ho, Hp, Hl, Ht⟩ HK
  iapply (wp_loop c Q' (outSend c) (outPre m c) (dsCr c) (fun l => iprop(env m K ∗ own c (addT l (drT c) O)))
    (fun r l κ => outSend_step m K c Q' O r l κ) peers κ) $$ [Ho Hp Hl Ht]
  · isplitl [Ho]
    · isplitr; · iexact He
      iexact Ho
    iapply h
    isplitl [Hp]; · iexact Hp
    isplitl [Hl] <;> iassumption
  iintro ⟨⟨-, Ho⟩, Hc⟩
  iapply HK
  isplitl [Ho]; · iexact Ho
  iexact Hc

theorem outRecv_phase (K : GSem nD τ sig → ℕ) (c : Dev nD) (Q' : PUnit → sProp 𝕄) (κ : Pg F) :
    iprop(env m K ∗ own c 0 ∗ outP m c peers ∗ sepL peers (drCred c) ∗ sepL peers fun r => atPos ER (drCell c r) 0 ∅ 0)
      ⊢ iprop(((own c 0 ∗ outP m c [] ∗ (sepL peers fun r => islP m c r) ∗ sepL peers fun r => semVal (drCell c r) 0) -∗ WP c κ Q') -∗ WP c (peers.foldr (outRecv c) κ) Q') := by
  iintro ⟨#He, Ho, Hout, Hc, Ha⟩ HK
  iapply (wp_loop c Q' (outRecv c) (drPre c) (drPost m c) (fun l => iprop(env m K ∗ own c 0 ∗ outP m c l))
    (fun r l κ => outRecv_step m K c Q' r l κ) peers κ) $$ [Ho Hout Hc Ha]
  · isplitl [Ho Hout]
    · isplitr; · iexact He
      isplitl [Ho] <;> iassumption
    iapply (show iprop(sepL peers (drCred c) ∗ sepL peers fun r => atPos ER (drCell c r) 0 ∅ 0) ⊢ sepL peers (drPre (F := F) c) from by
      rw [← sepP]; exact BI.Entails.refl _)
    isplitl [Hc] <;> iassumption
  iintro ⟨⟨-, Ho, Hout⟩, Hp⟩
  ihave Hp := (show sepL peers (drPost m c) ⊢ iprop((sepL peers fun r => islP m c r) ∗ sepL peers fun r => semVal (drCell c r) 0) from by
    rw [← sepP]; exact BI.Entails.refl _) $$ Hp
  iapply HK
  isplitl [Ho]; · iexact Ho
  isplitl [Hout] <;> iassumption

theorem ctx_phase (c : Dev nD) (Q' : PUnit → sProp 𝕄) (tot : FVec F S16x1152 .f32) (ht : AgTot tot (TOT m c)) (κ : Pg F) :
    someP (ctxL c) Finset.univ ⊢ iprop((ctxP m c [] -∗ WP c κ Q') -∗ WP c (heads.foldr (ctxStore tot) κ) Q') := by
  unfold someP
  iintro ⟨%f, Hx⟩ HK
  ihave Hx := (ctx_start m c f) $$ Hx
  iapply (wp_loop c Q' (ctxStore tot) (fun _ => iprop(emp)) (fun _ => iprop(emp)) (ctxP m c) (fun h l κ => ctx_step m c Q' tot ht h l κ) heads κ) $$ [Hx]
  · isplitl [Hx]; · iexact Hx
    iapply (show (BI.emp : sProp 𝕄) ⊢ sepL heads (fun _ => (BI.emp : sProp 𝕄)) from by
      rw [sepL_heads]; exact Entails.of_eq (bigSep_emp_const _).symm)
    iempintro
  iintro ⟨Hx, -⟩
  iapply HK; iexact Hx

theorem head_at (K : GSem nD τ sig → ℕ) (c : Dev nD) (Q' : PUnit → sProp 𝕄) (h : Fin 8) (t n n' : ℕ) (hn : h.val = n) (hn' : h.val + 1 = n') (ht : t < 4 ∧ 2 * t ≤ n)
    (O : CellTallies nD τ sig Unit) (hO : Above 0 O) (κ : Pg F) :
    iprop(env m K ∗ own c O ∗ partPts m c t n ∗ headPre c h)
      ⊢ iprop(((own c O ∗ partPts m c t n' ∗ headPost m c h) -∗ WP c κ Q') -∗ WP c (head (Q m c) h κ) Q') := by
  subst hn; subst hn'; exact head_step m K c Q' h t ht O hO κ

theorem strip_at (K : GSem nD τ sig → ℕ) (c : Dev nD) (Q' : PUnit → sProp 𝕄) (t : Fin 4) (k k' n : ℕ) (hk : t.val = k) (hk' : t.val + 1 = k') (hn : 2 * t.val + 2 = n)
    (O : CellTallies nD τ sig Unit) (κ : Pg F) :
    iprop(env m K ∗ own c (addT peers (brT c t) O) ∗ partPts m c k n ∗ (sepL peers fun r => landP (peerP c r) t r) ∗ sepL peers (bTok c t))
      ⊢ iprop(((own c O ∗ partP m c c t ∗ partPts m c k' n ∗ sepL peers (bsCr c t)) -∗ WP c κ Q') -∗ WP c (strips c t κ) Q') := by
  subst hk; subst hk'; subst hn; exact strip_phase m K c Q' t O κ

end Phases

/-! ## The body -/

def headPos (c : Dev nD) (h : Fin 8) : sProp 𝕄 := iprop(atPos ER (kvCell c 0 h) 0 ∅ 0 ∗ atPos ER (kvCell c 1 h) 0 ∅ 0)

theorem posns_open (c : Dev nD) : posns c
    ⊢ (iprop(atPos ER (barCell c) 0 ∅ 0 ∗ sepL heads (headPos c)
      ∗ ((sepL peers fun r => atPos ER (bsCell c 0 r) 0 ∅ 0) ∗ (sepL peers fun r => atPos ER (bsCell c 1 r) 0 ∅ 0) ∗ (sepL peers fun r => atPos ER (bsCell c 2 r) 0 ∅ 0)
        ∗ (sepL peers fun r => atPos ER (bsCell c 3 r) 0 ∅ 0))
      ∗ ((sepL peers fun r => atPos ER (brCell c 0 r) 0 ∅ 0) ∗ (sepL peers fun r => atPos ER (brCell c 1 r) 0 ∅ 0) ∗ (sepL peers fun r => atPos ER (brCell c 2 r) 0 ∅ 0)
        ∗ (sepL peers fun r => atPos ER (brCell c 3 r) 0 ∅ 0))
      ∗ (sepL peers fun r => atPos ER (dsCell c r) 0 ∅ 0) ∗ (sepL peers fun r => atPos ER (drCell c r) 0 ∅ 0)) : sProp 𝕄) := by
  unfold posns; rw [bigSep_CI]; exact BI.Entails.refl _

def headZero (c : Dev nD) (h : Fin 8) : sProp 𝕄 := iprop(semVal (kvCell c 0 h) 0 ∗ semVal (kvCell c 1 h) 0)

theorem zeros_close (c : Dev nD) :
    (iprop(semVal (barCell c) 0 ∗ sepL heads (headZero c)
      ∗ ((sepL peers fun r => semVal (bsCell c 0 r) 0) ∗ (sepL peers fun r => semVal (bsCell c 1 r) 0) ∗ (sepL peers fun r => semVal (bsCell c 2 r) 0)
        ∗ (sepL peers fun r => semVal (bsCell c 3 r) 0))
      ∗ ((sepL peers fun r => semVal (brCell c 0 r) 0) ∗ (sepL peers fun r => semVal (brCell c 1 r) 0) ∗ (sepL peers fun r => semVal (brCell c 2 r) 0)
        ∗ (sepL peers fun r => semVal (brCell c 3 r) 0))
      ∗ (sepL peers fun r => semVal (dsCell c r) 0) ∗ (sepL peers fun r => semVal (drCell c r) 0)) : sProp 𝕄) ⊢ zeros c := by
  unfold zeros; rw [bigSep_CI]; exact BI.Entails.refl _

theorem heads_open (c : Dev nD) : iprop(sepL heads (kvCr c) ∗ sepL heads (headPos c))
    ⊢ (iprop(headPre c 0 ∗ headPre c 1 ∗ headPre c 2 ∗ headPre c 3 ∗ headPre c 4 ∗ headPre c 5 ∗ headPre c 6 ∗ headPre c 7) : sProp 𝕄) := by
  rw [← sepH]
  show iprop(headPre c 0 ∗ headPre c 1 ∗ headPre c 2 ∗ headPre c 3 ∗ headPre c 4 ∗ headPre c 5 ∗ headPre c 6 ∗ headPre c 7 ∗ emp) ⊢ _
  iintro ⟨H0, H1, H2, H3, H4, H5, H6, H7, -⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem heads_close (c : Dev nD) :
    iprop(headPost m c 0 ∗ headPost m c 1 ∗ headPost m c 2 ∗ headPost m c 3 ∗ headPost m c 4 ∗ headPost m c 5 ∗ headPost m c 6 ∗ headPost m c 7)
      ⊢ iprop(someP (kstL c) Finset.univ ∗ someP (vstL c) Finset.univ ∗ kvPts m c ∗ sepL heads (headZero c)) := by
  have h : sepL heads (headPost m c) ⊢ iprop(someP (kstL c) Finset.univ ∗ someP (vstL c) Finset.univ ∗ kvPts m c ∗ sepL heads (headZero c)) := by
    have h1 : sepL heads (headPost m c) = iprop(sepL heads (kstP m c) ∗ sepL heads (kP m c) ∗ sepL heads (vstP m c) ∗ sepL heads (vP m c) ∗ sepL heads (headZero c)) := by
      rw [← sepH, ← sepH, ← sepH, ← sepH]; rfl
    rw [h1]; unfold kvPts; rw [kL_split, vL_split]
    iintro ⟨H1, H2, H3, H4, H5⟩
    isplitl [H1]; · iapply (kst_join m c); iexact H1
    isplitl [H3]; · iapply (vst_join m c); iexact H3
    isplitl [H2 H4]; · isplitl [H2] <;> iassumption
    iexact H5
  have h' : iprop(headPost m c 0 ∗ headPost m c 1 ∗ headPost m c 2 ∗ headPost m c 3 ∗ headPost m c 4 ∗ headPost m c 5 ∗ headPost m c 6 ∗ headPost m c 7 ∗ emp)
      ⊢ iprop(someP (kstL c) Finset.univ ∗ someP (vstL c) Finset.univ ∗ kvPts m c ∗ sepL heads (headZero c)) := h
  iintro ⟨H0, H1, H2, H3, H4, H5, H6, H7⟩
  iapply h'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

/-- What the body starts from. -/
def runPre (K : GSem nD τ sig → ℕ) (c : Dev nD) : sProp 𝕄 :=
  iprop(env m K ∗ own c (O₀ c) ∗ posns c ∗ toks c ∗ creds c ∗ kvPts m c ∗ scratch c
    ∗ ((xL c ↦[Finset.univ]{fullShare} xstg m c) ∗ (wqL c ↦[Finset.univ]{fullShare} wqstg m c)) ∗ (woL c ↦[Finset.univ]{fullShare} wostg m c) ∗ someP (outL c) Finset.univ)

/-- What it ends in. -/
def runPost (c : Dev nD) : sProp 𝕄 :=
  iprop(own c 0 ∗ zeros c ∗ kvPts m c ∗ scratch c
    ∗ ((xL c ↦[Finset.univ]{fullShare} xstg m c) ∗ (wqL c ↦[Finset.univ]{fullShare} wqstg m c)) ∗ (woL c ↦[Finset.univ]{fullShare} wostg m c)
    ∗ (outL c ↦[Finset.univ]{fullShare} OUT m c))

theorem part_start (c : Dev nD) : (someP (partL c) Finset.univ : sProp 𝕄) ⊢ partPts m c 0 0 := by
  have h : restS 0 = (Finset.univ : Finset S256x1152.Idx) := by
    ext i; simp [restS, lo]
  have h' : (someP (partL c) (Finset.univ : Finset S256x1152.Idx) : sProp 𝕄) ⊢ agr (partL c) (Finset.univ : Finset S256x1152.Idx) (Done 0) (PV m c) :=
    some_agr (ℓ := partL c) (fun i _ hd => by
      have hd' : Done 0 i := hd
      unfold Done at hd'
      omega) (PV m c)
  unfold partPts
  rw [h]
  exact h'

theorem out_end (c : Dev nD) : outP m c [] ⊢ (outL c ↦[Finset.univ]{fullShare} OUT m c : sProp 𝕄) :=
  agr_exact fun i _ r hr => absurd hr (by simp)

theorem wp_dev (c : Dev nD) (Q : PUnit → sProp 𝕄) (f : Dev nD → Pg F) : WP c (.op .deviceId f) Q = WP c (f c) Q := by
  unfold WP; rw [wp_deviceId]

theorem wp_end (c : Dev nD) (Q : PUnit → sProp 𝕄) : WP (F := F) c (.ret ⟨⟩) Q = iprop(|={Set.univ}=> Q ⟨⟩) := by
  unfold WP; rw [wp_ret]

set_option maxHeartbeats 4000000 in
/-- The body, from `runPre` to `runPost`. -/
theorem sound_body (K : GSem nD τ sig → ℕ) (c : Dev nD) (Kt : PUnit → sProp 𝕄) :
    iprop(runPre m K c ∗ (runPost m c -∗ Kt ⟨⟩)) ⊢ WP c body Kt := by
  unfold body
  rw [wp_dev]
  unfold runPre toks creds scratch
  iintro ⟨⟨#He, Ho, Hpos, ⟨Htk, Htb, ⟨Ht0, Ht1, Ht2, Ht3⟩, Htd⟩, ⟨Hcb, ⟨Hc0, Hc1, Hc2, Hc3⟩, Hcd⟩, Hkv, ⟨Hpart, Hslots, Hctx, Hoslot, Hisl, Hkst, Hvst⟩, Hxq, Hwo, Hout⟩, HK⟩
  ihave Hpos := (posns_open c) $$ Hpos
  icases Hpos with ⟨Hpb, Hph, ⟨Hs0, Hs1, Hs2, Hs3⟩, ⟨Hr0, Hr1, Hr2, Hr3⟩, Hpd, Hpr⟩
  ihave Hpart := (part_start m c) $$ Hpart
  -- the copies of the keys and the values
  iapply (kv_phase m K c Kt _) $$ [Hkv Hkst Hvst Htk]
  · isplitr; · iexact He
    isplitl [Hkv]; · iexact Hkv
    isplitl [Hkst]; · iexact Hkst
    isplitl [Hvst] <;> iassumption
  iintro Hkc
  ihave Hh := (heads_open c) $$ [Hkc Hph]
  · isplitl [Hkc] <;> iassumption
  icases Hh with ⟨Hh0, Hh1, Hh2, Hh3, Hh4, Hh5, Hh6, Hh7⟩
  -- the barrier's signals
  iapply (bar_phase m K c Kt (OB c) _) $$ [Ho Hslots Hisl Htb]
  · isplitr; · iexact He
    isplitl [Ho]; · iexact Ho
    isplitl [Hslots]; · iexact Hslots
    isplitl [Hisl] <;> iassumption
  iintro Ho
  -- the queries, the first two heads, the barrier's wait
  iapply (q_phase m c Kt _) $$ Hxq
  iintro Hxq
  have hB : Above 0 (OB c) := above_mono (above_B c) (by decide)
  iapply (head_at m K c Kt 0 0 0 1 rfl rfl ⟨by omega, by omega⟩ (OB c) hB _) $$ [Ho Hpart Hh0]
  · isplitr; · iexact He
    isplitl [Ho]; · iexact Ho
    isplitl [Hpart] <;> iassumption
  iintro ⟨Ho, Hpart, Hh0⟩
  iapply (head_at m K c Kt 1 0 1 2 rfl rfl ⟨by omega, by omega⟩ (OB c) hB _) $$ [Ho Hpart Hh1]
  · isplitr; · iexact He
    isplitl [Ho]; · iexact Ho
    isplitl [Hpart] <;> iassumption
  iintro ⟨Ho, Hpart, Hh1⟩
  iapply (barWait_step m K c Kt (OB c) (above_B c) _) $$ [Ho Hcb Hpb]
  · isplitr; · iexact He
    isplitl [Ho]; · iexact Ho
    isplitl [Hcb] <;> iassumption
  iintro ⟨Ho, Hlend, Hzb⟩
  ihave Hlend := (lend_open c) $$ Hlend
  icases Hlend with ⟨Hl0, Hl1, Hl2, Hl3, Hlr⟩
  -- strip 0
  iapply (strip_at m K c Kt 0 0 1 2 rfl rfl rfl (O1 c) _) $$ [Ho Hpart Hl0 Ht0]
  · isplitr; · iexact He
    isplitl [Ho]; · iexact Ho
    isplitl [Hpart]; · iexact Hpart
    isplitl [Hl0] <;> iassumption
  iintro ⟨Ho, Hown0, Hpart, Hb0⟩
  have h1 : Above 0 (O1 c) := above_mono (above_1 c) (by decide)
  iapply (head_at m K c Kt 2 1 2 3 rfl rfl ⟨by omega, by omega⟩ (O1 c) h1 _) $$ [Ho Hpart Hh2]
  · isplitr; · iexact He
    isplitl [Ho]; · iexact Ho
    isplitl [Hpart] <;> iassumption
  iintro ⟨Ho, Hpart, Hh2⟩
  iapply (head_at m K c Kt 3 1 3 4 rfl rfl ⟨by omega, by omega⟩ (O1 c) h1 _) $$ [Ho Hpart Hh3]
  · isplitr; · iexact He
    isplitl [Ho]; · iexact Ho
    isplitl [Hpart] <;> iassumption
  iintro ⟨Ho, Hpart, Hh3⟩
  -- strip 1
  iapply (strip_at m K c Kt 1 1 2 4 rfl rfl rfl (O2 c) _) $$ [Ho Hpart Hl1 Ht1]
  · isplitr; · iexact He
    isplitl [Ho]; · iexact Ho
    isplitl [Hpart]; · iexact Hpart
    isplitl [Hl1] <;> iassumption
  iintro ⟨Ho, Hown1, Hpart, Hb1⟩
  have h2 : Above 0 (O2 c) := above_mono (above_2 c) (by decide)
  iapply (head_at m K c Kt 4 2 4 5 rfl rfl ⟨by omega, by omega⟩ (O2 c) h2 _) $$ [Ho Hpart Hh4]
  · isplitr; · iexact He
    isplitl [Ho]; · iexact Ho
    isplitl [Hpart] <;> iassumption
  iintro ⟨Ho, Hpart, Hh4⟩
  iapply (head_at m K c Kt 5 2 5 6 rfl rfl ⟨by omega, by omega⟩ (O2 c) h2 _) $$ [Ho Hpart Hh5]
  · isplitr; · iexact He
    isplitl [Ho]; · iexact Ho
    isplitl [Hpart] <;> iassumption
  iintro ⟨Ho, Hpart, Hh5⟩
  -- strip 2
  iapply (strip_at m K c Kt 2 2 3 6 rfl rfl rfl (O3 c) _) $$ [Ho Hpart Hl2 Ht2]
  · isplitr; · iexact He
    isplitl [Ho]; · iexact Ho
    isplitl [Hpart]; · iexact Hpart
    isplitl [Hl2] <;> iassumption
  iintro ⟨Ho, Hown2, Hpart, Hb2⟩
  have h3 : Above 0 (O3 c) := above_mono (above_3 c) (by decide)
  iapply (head_at m K c Kt 6 3 6 7 rfl rfl ⟨by omega, by omega⟩ (O3 c) h3 _) $$ [Ho Hpart Hh6]
  · isplitr; · iexact He
    isplitl [Ho]; · iexact Ho
    isplitl [Hpart] <;> iassumption
  iintro ⟨Ho, Hpart, Hh6⟩
  iapply (head_at m K c Kt 7 3 7 8 rfl rfl ⟨by omega, by omega⟩ (O3 c) h3 _) $$ [Ho Hpart Hh7]
  · isplitr; · iexact He
    isplitl [Ho]; · iexact Ho
    isplitl [Hpart] <;> iassumption
  iintro ⟨Ho, Hpart, Hh7⟩
  -- strip 3
  iapply (strip_at m K c Kt 3 3 4 8 rfl rfl rfl (O4 c) _) $$ [Ho Hpart Hl3 Ht3]
  · isplitr; · iexact He
    isplitl [Ho]; · iexact Ho
    isplitl [Hpart]; · iexact Hpart
    isplitl [Hl3] <;> iassumption
  iintro ⟨Ho, Hown3, -, Hb3⟩
  -- the peers' strips
  iapply (stripWait_phase m K c Kt 0 (O4 c) (above_4 c) _) $$ [Ho Hc0 Hr0]
  · isplitr; · iexact He
    isplitl [Ho]; · iexact Ho
    isplitl [Hc0] <;> iassumption
  iintro ⟨Ho, Hsl0, Hr0⟩
  iapply (stripWait_phase m K c Kt 1 (O4 c) (above_4 c) _) $$ [Ho Hc1 Hr1]
  · isplitr; · iexact He
    isplitl [Ho]; · iexact Ho
    isplitl [Hc1] <;> iassumption
  iintro ⟨Ho, Hsl1, Hr1⟩
  iapply (stripWait_phase m K c Kt 2 (O4 c) (above_4 c) _) $$ [Ho Hc2 Hr2]
  · isplitr; · iexact He
    isplitl [Ho]; · iexact Ho
    isplitl [Hc2] <;> iassumption
  iintro ⟨Ho, Hsl2, Hr2⟩
  iapply (stripWait_phase m K c Kt 3 (O4 c) (above_4 c) _) $$ [Ho Hc3 Hr3]
  · isplitr; · iexact He
    isplitl [Ho]; · iexact Ho
    isplitl [Hc3] <;> iassumption
  iintro ⟨Ho, Hsl3, Hr3⟩
  -- the total, the contexts, the projection
  ihave Hown := (show _ ⊢ ownRows m c from rows_join m c c) $$ [Hown0 Hown1 Hown2 Hown3]
  · isplitl [Hown0]; · iexact Hown0
    isplitl [Hown1]; · iexact Hown1
    isplitl [Hown2] <;> iassumption
  ihave Hslots := (slot_join m c) $$ [Hsl0 Hsl1 Hsl2 Hsl3]
  · isplitl [Hsl0]; · iexact Hsl0
    isplitl [Hsl1]; · iexact Hsl1
    isplitl [Hsl2] <;> iassumption
  iapply (total_step m c Kt _) $$ [Hown Hslots]
  · isplitl [Hown]; · iexact Hown
    iexact Hslots
  iintro %tot %htot ⟨Hown, Hslots⟩
  iapply (ctx_phase m c Kt tot htot _) $$ Hctx
  iintro Hctx
  iapply (project_step m c Kt _) $$ [Hctx Hwo Hout Hoslot]
  · isplitl [Hctx]; · iexact Hctx
    isplitl [Hwo]; · iexact Hwo
    unfold someP
    isplitl [Hout] <;> iassumption
  iintro ⟨Hctx, Hwo, Hout, Hoslot⟩
  -- the finished rows
  iapply (outSend_phase m K c Kt 0 _) $$ [Ho Hoslot Hlr Htd]
  · isplitr; · iexact He
    isplitl [Ho]; · iexact Ho
    isplitl [Hoslot]; · iexact Hoslot
    isplitl [Hlr] <;> iassumption
  iintro ⟨Ho, Hds⟩
  iapply (outRecv_phase m K c Kt _) $$ [Ho Hout Hcd Hpr]
  · isplitr; · iexact He
    isplitl [Ho]; · iexact Ho
    isplitl [Hout]; · iexact Hout
    isplitl [Hcd] <;> iassumption
  iintro ⟨Ho, Hout, Hisl, Hpr⟩
  -- the sends are done
  iapply (stripDone_phase m K c Kt 0 0 (above_zero 0) _) $$ [Ho Hb0 Hs0]
  · isplitr; · iexact He
    isplitl [Ho]; · iexact Ho
    isplitl [Hb0] <;> iassumption
  iintro ⟨Ho, Hq0, Hs0⟩
  iapply (stripDone_phase m K c Kt 1 0 (above_zero 0) _) $$ [Ho Hb1 Hs1]
  · isplitr; · iexact He
    isplitl [Ho]; · iexact Ho
    isplitl [Hb1] <;> iassumption
  iintro ⟨Ho, Hq1, Hs1⟩
  iapply (stripDone_phase m K c Kt 2 0 (above_zero 0) _) $$ [Ho Hb2 Hs2]
  · isplitr; · iexact He
    isplitl [Ho]; · iexact Ho
    isplitl [Hb2] <;> iassumption
  iintro ⟨Ho, Hq2, Hs2⟩
  iapply (stripDone_phase m K c Kt 3 0 (above_zero 0) _) $$ [Ho Hb3 Hs3]
  · isplitr; · iexact He
    isplitl [Ho]; · iexact Ho
    isplitl [Hb3] <;> iassumption
  iintro ⟨Ho, Hq3, Hs3⟩
  iapply (outDone_phase m K c Kt 0 (above_zero 0) _) $$ [Ho Hds Hpd]
  · isplitr; · iexact He
    isplitl [Ho]; · iexact Ho
    isplitl [Hds] <;> iassumption
  iintro ⟨Ho, Hoslot, Hpd⟩
  rw [wp_end]; imodintro
  -- everything is put back
  ihave Hh := (heads_close m c) $$ [Hh0 Hh1 Hh2 Hh3 Hh4 Hh5 Hh6 Hh7]
  · isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6] <;> iassumption
  icases Hh with ⟨Hkst, Hvst, Hkv, Hzh⟩
  iapply HK
  unfold runPost
  isplitl [Ho]; · iexact Ho
  isplitl [Hzb Hzh Hs0 Hs1 Hs2 Hs3 Hr0 Hr1 Hr2 Hr3 Hpd Hpr]
  · iapply (zeros_close c)
    isplitl [Hzb]; · iexact Hzb
    isplitl [Hzh]; · iexact Hzh
    isplitl [Hs0 Hs1 Hs2 Hs3]
    · isplitl [Hs0]; · iexact Hs0
      isplitl [Hs1]; · iexact Hs1
      isplitl [Hs2] <;> iassumption
    isplitl [Hr0 Hr1 Hr2 Hr3]
    · isplitl [Hr0]; · iexact Hr0
      isplitl [Hr1]; · iexact Hr1
      isplitl [Hr2] <;> iassumption
    isplitl [Hpd] <;> iassumption
  isplitl [Hkv]; · iexact Hkv
  isplitl [Hown Hq0 Hq1 Hq2 Hq3 Hslots Hctx Hoslot Hisl Hkst Hvst]
  · unfold scratch
    isplitl [Hown Hq0 Hq1 Hq2 Hq3]
    · iapply (part_join m c)
      isplitl [Hown]; · iexact Hown
      isplitl [Hq0]; · iexact Hq0
      isplitl [Hq1]; · iexact Hq1
      isplitl [Hq2] <;> iassumption
    isplitl [Hslots]; · iapply (slots_join m c); iexact Hslots
    isplitl [Hctx]
    · iapply (show ctxP m c [] ⊢ (someP (ctxL c) Finset.univ : sProp 𝕄) from agr_some); iexact Hctx
    isplitl [Hoslot]
    · iapply (show sepL peers (oslotP m c) ⊢ (someP (oslotL c) Finset.univ : sProp 𝕄) from by rw [← oslot_split]; exact pts_some _); iexact Hoslot
    isplitl [Hisl]; · iapply (isl_join m c); iexact Hisl
    isplitl [Hkst] <;> iassumption
  isplitl [Hxq]; · iexact Hxq
  isplitl [Hwo]; · iexact Hwo
  iapply (show outP m c [] ⊢ (outL c ↦[Finset.univ]{fullShare} OUT m c : sProp 𝕄) from out_end m c)
  iexact Hout

end Cert.KernelIdeal.Attn

end
-- ==== Proof.Start.lean ====
/-
The launch: what every device is handed before the body runs, and the run of the whole program.
-/
module

public import proofs.«01_k».proof.Proof.Run

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one point -/

/-- A device's share of the protocol: every cell's record, its own positions, the duties it pays. -/
def share (c : Dev nD) : sProp 𝕄 := iprop(∃ K, recs m K ∗ posns c ∗ toks c)

def start (c : Dev nD) : sProp 𝕄 := iprop(share m c ∗ levAts L lv ∗ creds c ∗ kvPts m c)
def Φ₀ (c : Dev nD) : sProp 𝕄 := iprop(start m c ∗ scratch c)
def Φ₁ (c : Dev nD) : sProp 𝕄 := iprop(zeros c ∗ kvPts m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ m c ∗ (dats m 0 c).owesAt () t₀.succ ∗ stg c cc0_stg0_0 (xstg m c) ∗ stg c cc0_stg1_0 (wqstg m c) ∗ stg c cc0_stg2_0 (wostg m c)
    ∗ stg c cc0_stg3_0 (OUT m c))

theorem before_0 (c : Dev nD) (d) : (dats m 0 c).before (0 : Fin 4) t₀ d = xstg m c := by
  unfold Dat.before; rw [if_pos (fetch0_0 t₀)]; rfl
theorem before_1 (c : Dev nD) (d) : (dats m 0 c).before (1 : Fin 4) t₀ d = wqstg m c := by
  unfold Dat.before; rw [if_pos (fetch0_1 t₀)]; rfl
theorem before_2 (c : Dev nD) (d) : (dats m 0 c).before (2 : Fin 4) t₀ d = wostg m c := by
  unfold Dat.before; rw [if_pos (fetch0_2 t₀)]; rfl

theorem body_run (c : Dev nD) : bodyPre m c ⊢ WP c body (fun _ => bodyPost m c) := by
  unfold bodyPre Φ₀ start share Dat.owesAt Pipeline.owesWithin
  rw [show (dats m 0 c).owed t₀.castSucc = O₀ c from rfl]
  iintro ⟨⟨⟨⟨%K, Hrec, Hpos, Htok⟩, Hlev, Hcr, Hkv⟩, Hscr⟩, ⟨%W, %hW, Ho⟩, ⟨%d0, %f0, %h0, Hx⟩, ⟨%d1, %f1, %h1, Hwq⟩, ⟨%d2, %f2, %h2, Hwo⟩, ⟨%d3, %f3, %h3, Hout⟩⟩
  rw [before_0] at h0; rw [before_1] at h1; rw [before_2] at h2
  subst h0; subst h1; subst h2
  iapply (sound_body m K c fun _ => bodyPost m c)
  isplitr []
  · unfold runPre env own
    isplitl [Hrec Hlev]
    · isplitl [Hrec] <;> iassumption
    isplitl [Ho]; · iexists W; iexact Ho
    isplitl [Hpos]; · iexact Hpos
    isplitl [Htok]; · iexact Htok
    isplitl [Hcr]; · iexact Hcr
    isplitl [Hkv]; · iexact Hkv
    isplitl [Hscr]; · iexact Hscr
    isplitl [Hx Hwq]
    · isplitl [Hx] <;> iassumption
    isplitl [Hwo]; · iexact Hwo
    iapply (pts_some f3); iexact Hout
  unfold runPost own bodyPost Φ₁ Dat.owesAt Pipeline.owesWithin
  rw [show (dats m 0 c).owed t₀.succ = 0 from rfl]
  iintro ⟨⟨%W', Ho⟩, Hz, Hkv, Hscr, ⟨Hx, Hwq⟩, Hwo, Hout⟩
  isplitl [Hz Hkv Hscr]
  · isplitl [Hz]; · iexact Hz
    isplitl [Hkv] <;> iassumption
  isplitl [Ho]
  · iexists W'
    isplitr; · ipureintro; exact fun _ _ => Or.inl trivial
    iexact Ho
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 100000 in
set_option maxHeartbeats 0 in
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ WP c (bodyAt0 (F := F) t₀) (fun _ => bodyPost m c)
  rw [bodyAt_eq]
  exact body_run m c

/-! ## The cells and their duties -/

/-- The cells of a device that are its copies'. -/
abbrev CD : Type := (Fin 2 × Fin 8) ⊕ (Fin 4 × Fin 15) ⊕ (Fin 4 × Fin 15) ⊕ Fin 15 ⊕ Fin 15

abbrev osem (k : CD) : SemLoc sig := csem (.inr k)

theorem use_some (k : CD) (q : DmaSem sig) (h : osem k = .dma q) : use q ≠ .none := by
  have h1 := useL_csem (.inr k)
  rw [show csem (.inr k) = .dma q from h] at h1
  intro h2
  have h3 : (Sum.inr Use.none : Unit ⊕ Use) = useC (.inr k) := by rw [← h1, ← h2]; rfl
  rcases k with ⟨j, h⟩ | ⟨t, r⟩ | ⟨t, r⟩ | r | r <;> cases h3

theorem use_stage : ∀ (w : Fin 4) (s : Fin (spec0 w).nbuf), use ((spec0 w).sem s) = .none := by decide

theorem scoped_dma : ∀ q : DmaSem sig, (SemLoc.dma q).isScoped .tc = true := by decide +kernel

theorem ownSemFacts : Pipeline.OwnSemFacts cfg0.spec osem where
  isScoped k := by
    rcases k with ⟨j, h⟩ | ⟨t, r⟩ | ⟨t, r⟩ | r | r <;> exact scoped_dma _
  inj a b h := Sum.inr.inj (csem_injective h)
  disj k w s h := use_some k _ h (use_stage w s)

theorem share_eq (c : Dev nD) (w : Fin cfg0.W) : (dats m 0 c).share w = fullShare := by unfold Dat.share; split <;> rfl

/-- The duties: the fifteen of the barrier, and one of each copy. -/
abbrev tokOf (ck : Dev nD × (Fin 15 ⊕ CD)) : GSem nD τ sig × ℕ × DU :=
  match ck.2 with
  | .inl r => (barCell ck.1, 0, r)
  | .inr k => (kcell (ck.1, .inr k), 0, 0)

theorem tokOf_injective : Function.Injective tokOf := by
  rintro ⟨c, r | k⟩ ⟨c', r' | k'⟩ h
  · have h1 : kcell (c, iBar) = kcell (c', iBar) := congrArg Prod.fst h
    have h2 : r = r' := congrArg (fun x => x.2.2) h
    rw [(Prod.mk.inj (kcell_injective h1)).1, h2]
  · have h1 : kcell (c, iBar) = kcell (c', .inr k') := congrArg Prod.fst h
    cases (Prod.mk.inj (kcell_injective h1)).2
  · have h1 : kcell (c, .inr k) = kcell (c', iBar) := congrArg Prod.fst h
    cases (Prod.mk.inj (kcell_injective h1)).2
  · have h1 : kcell (c, .inr k) = kcell (c', .inr k') := congrArg Prod.fst h
    have h2 := Prod.mk.inj (kcell_injective h1)
    rw [h2.1, Sum.inr.inj h2.2]

def ringToks : Finset (GSem nD τ sig × ℕ × DU) := Finset.univ.map ⟨tokOf, tokOf_injective⟩

def u₀ : UU := (initOf (Pipeline.cells cfgs cellOf_inj) (Pipeline.launchToks cfgs cellOf_inj), initOf ringCells ringToks)

/-- The duties of a device's own cells. -/
def ownToks (c : Dev nD) : sProp 𝕄 :=
  iprop((sepL peers fun r => dutyTok ER (barCell c) 0 r) ∗ sepL heads (kvTok c)
    ∗ ((sepL peers fun r => dutyTok ER (bsCell c 0 r) 0 (0 : DU)) ∗ (sepL peers fun r => dutyTok ER (bsCell c 1 r) 0 (0 : DU))
      ∗ (sepL peers fun r => dutyTok ER (bsCell c 2 r) 0 (0 : DU)) ∗ (sepL peers fun r => dutyTok ER (bsCell c 3 r) 0 (0 : DU)))
    ∗ ((sepL peers fun r => dutyTok ER (brCell c 0 r) 0 (0 : DU)) ∗ (sepL peers fun r => dutyTok ER (brCell c 1 r) 0 (0 : DU))
      ∗ (sepL peers fun r => dutyTok ER (brCell c 2 r) 0 (0 : DU)) ∗ (sepL peers fun r => dutyTok ER (brCell c 3 r) 0 (0 : DU)))
    ∗ (sepL peers fun r => dutyTok ER (dsCell c r) 0 (0 : DU)) ∗ (sepL peers fun r => dutyTok ER (drCell c r) 0 (0 : DU)))

theorem ownToks_eq (c : Dev nD) : bigSep Finset.univ (fun k : Fin 15 ⊕ CD => (dutyTok ER (tokOf (c, k)).1 (tokOf (c, k)).2.1 (tokOf (c, k)).2.2 : sProp 𝕄)) = ownToks c := by
  unfold ownToks kvTok
  rw [sepH]
  simp only [sepL_peers, sepL_heads]
  rw [bigSep_univ_sum, bigSep_univ_sum, bigSep_univ_sum, bigSep_univ_sum, bigSep_univ_sum, bigSep_univ_prod, bigSep_univ_prod, bigSep_univ_prod,
    bigSep_fin2, bigSep_fin4, bigSep_fin4]
  rfl

/-- Something of each device and each number, handed to the peer it names. -/
theorem around (Φ : Dev nD → Fin 15 → sProp 𝕄) :
    (bigSep Finset.univ fun c => sepL peers (Φ c)) = bigSep Finset.univ fun c => sepL peers fun r => Φ (peerP c r) r := by
  simp only [sepL_peers]
  rw [bigSep_univ_comm, bigSep_univ_comm (fun c r => Φ (peerP c r) r)]
  exact bigSep_congr fun r _ => bigSep_univ_equiv (peerE r) (fun c => Φ c r)

theorem peers_rev (Φ : Fin 15 → sProp 𝕄) : sepL peers Φ = sepL peers fun r => Φ (Fin.rev r) := by
  rw [sepL_peers, sepL_peers]
  exact bigSep_univ_equiv Fin.revPerm Φ

theorem toks_around : (bigSep Finset.univ fun c : Dev nD => (ownToks c : sProp 𝕄)) ⊢ bigSep Finset.univ fun c : Dev nD => toks c := by
  unfold ownToks toks
  have hB : (bigSep Finset.univ fun c : Dev nD => (sepL peers fun r => dutyTok ER (barCell c) 0 r : sProp 𝕄)) = bigSep Finset.univ fun c => sepL peers (barTok c) := by
    rw [bigSep_congr fun c _ => peers_rev (fun r => (dutyTok ER (barCell c) 0 r : sProp 𝕄))]
    exact around (fun c r => (dutyTok ER (barCell c) 0 (Fin.rev r) : sProp 𝕄))
  have hb (t : Fin 4) := around (fun c r => (dutyTok ER (brCell c t r) 0 (0 : DU) : sProp 𝕄))
  have hd := around (fun c r => (dutyTok ER (drCell c r) 0 (0 : DU) : sProp 𝕄))
  have hbT (t : Fin 4) : (bigSep Finset.univ fun c : Dev nD => (sepL peers (bTok c t) : sProp 𝕄))
      = iprop((bigSep Finset.univ fun c : Dev nD => (sepL peers fun r => dutyTok ER (bsCell c t r) 0 (0 : DU) : sProp 𝕄))
        ∗ bigSep Finset.univ fun c : Dev nD => (sepL peers fun r => dutyTok ER (brCell (peerP c r) t r) 0 (0 : DU) : sProp 𝕄)) := by
    rw [← bigSep_sep']
    exact bigSep_congr fun c _ => sepP _ _
  have hdT : (bigSep Finset.univ fun c : Dev nD => (sepL peers (dTok c) : sProp 𝕄))
      = iprop((bigSep Finset.univ fun c : Dev nD => (sepL peers fun r => dutyTok ER (dsCell c r) 0 (0 : DU) : sProp 𝕄))
        ∗ bigSep Finset.univ fun c : Dev nD => (sepL peers fun r => dutyTok ER (drCell (peerP c r) r) 0 (0 : DU) : sProp 𝕄)) := by
    rw [← bigSep_sep']
    exact bigSep_congr fun c _ => sepP _ _
  simp only [bigSep_sep']
  rw [hB, hb 0, hb 1, hb 2, hb 3, hd, hbT 0, hbT 1, hbT 2, hbT 3, hdT]
  iintro ⟨H1, H2, ⟨Ha0, Ha1, Ha2, Ha3⟩, ⟨Hb0, Hb1, Hb2, Hb3⟩, H3, H4⟩
  isplitl [H2]; · iexact H2
  isplitl [H1]; · iexact H1
  isplitl [Ha0 Ha1 Ha2 Ha3 Hb0 Hb1 Hb2 Hb3]
  · isplitl [Ha0 Hb0]; · isplitl [Ha0] <;> iassumption
    isplitl [Ha1 Hb1]; · isplitl [Ha1] <;> iassumption
    isplitl [Ha2 Hb2]; · isplitl [Ha2] <;> iassumption
    isplitl [Ha3] <;> iassumption
  isplitl [H3] <;> iassumption

/-! ## The ghost state of the launch -/

def G (c : Dev nD) : sProp 𝕄 :=
  iprop((bigSep Finset.univ fun k : CI => roundState ER (Rd m) (kcell (c, k)) 0) ∗ posns c ∗ (bigSep Finset.univ fun k : CI => reached ER (kcell (c, k)) 0) ∗ ownToks c)

theorem cells_eq (Φ : GSem nD τ sig → sProp 𝕄) : bigSep ringCells Φ = bigSep Finset.univ fun c : Dev nD => bigSep Finset.univ fun k : CI => Φ (kcell (c, k)) := by
  unfold ringCells; rw [bigSep_map, bigSep_univ_prod]; rfl

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => ownToks_eq c
  iintro HX
  imod (Rounds.fund ER (Rd m) ringCells ringToks) $$ HX with ⟨Hst, Hr, Hat, Htok⟩
  imodintro
  ihave Hst' := (Entails.of_eq (cells_eq fun g => roundState ER (Rd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq hT) $$ Htok
  unfold G posns; simp only [bigSep_sep']
  isplitl [Hst']; · iexact Hst'
  isplitl [Hat']; · iexact Hat'
  isplitl [Hr'] <;> iassumption

theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  have hu (Ψ : Unit → sProp 𝕄) : bigSep Finset.univ Ψ = Ψ () := by rw [show (Finset.univ : Finset Unit) = {()} from rfl, bigSep_singleton]
  unfold zeros Pipeline.ownSems0
  rw [unscopedSems0_eq, bigSep_univ_sum, hu]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ posns c ∗ (bigSep Finset.univ fun k : CI => reached ER (kcell (c, k)) 0) ∗ ownToks c) := by
  unfold G
  iintro ⟨Hos, Hus, Hst, Hat, Hr, Htok⟩
  ihave Hv := (Entails.of_eq (sems0_eq (F := F) c).symm) $$ [Hos Hus]
  · isplitl [Hus] <;> iassumption
  imod (show iprop(zeros c ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ posns c ∗ (bigSep Finset.univ fun k : CI => reached ER (kcell (c, k)) 0) ∗ ownToks c) : sProp 𝕄)
      ⊢ bigSep Finset.univ (share m) := by
  rw [bigSep_sep', bigSep_sep', bigSep_sep', ← cells_eq (fun g => iprop(∃ κ : ℕ, cellInv ER (Rd m) κ g)), ← cells_eq (fun g => (reached ER g 0 : sProp 𝕄))]
  iintro ⟨HI, Hat, Hr, Htok⟩
  ihave HK := (BI.bigSep_exists_pi ringCells (fun (g : GSem nD τ sig) (κ : ℕ) => (cellInv ER (Rd m) κ g : sProp 𝕄))) $$ HI
  icases HK with ⟨%K, HI⟩
  ihave Htk := (toks_around (F := F)) $$ Htok
  iapply (with_persistent (R := recs m K) (Φ := fun c => iprop(posns c ∗ toks c)) (Ψ := share m) fun c _ => by
    unfold share
    iintro ⟨H1, H2, H3⟩
    iexists K
    isplitl [H1]; · iexact H1
    isplitl [H2] <;> iassumption)
  isplitl [HI Hr]
  · iapply (show iprop((bigSep ringCells fun g => cellInv ER (Rd m) (K g) g) ∗ bigSep ringCells fun g => (reached ER g 0 : sProp 𝕄)) ⊢ recs m K from by
      unfold recs; rw [bigSep_sep'])
    isplitl [HI] <;> iassumption
  · iapply (Entails.of_eq (bigSep_sep' Finset.univ (fun c : Dev nD => (posns c : sProp 𝕄)) toks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (share m) :=
  ((bigSep_mono fun c _ => core_alloc m c).trans (bigSep_fupd _ _)).trans (BI.fupd_mono (regroup m))

/-! ## The credits of the launch -/

theorem addT_at (f : Fin 15 → CellTallies nD τ sig Unit) (O : CellTallies nD τ sig Unit) (g : GSem nD τ sig) :
    addT peers f O g () = (∑ r, f r g ()) + O g () := by
  have h : ∀ l : List (Fin 15), addT l f O g () = (l.map fun r => f r g ()).sum + O g () := by
    intro l
    induction l with
    | nil => simp [addT]
    | cons a l ih =>
      rw [addT_cons, Pi.add_apply, Finsupp.add_apply, ih, List.map_cons, List.sum_cons]
      omega
  rw [h, Fin.sum_univ_def]
  rfl

/-- Over all devices, what is owed a cell by the copies of one kind. -/
theorem owed_at (c : Dev nD) (k k' : CI) (r : Fin 15) (n : ℕ) :
    ∑ d, (tallyAt (kcell (peerP d r, k)) () n : CellTallies nD τ sig Unit) (kcell (c, k')) () = if k = k' then n else 0 := by
  by_cases h : k = k'
  · subst h
    rw [if_pos rfl, ← Equiv.sum_comp (peerE r).symm]
    rw [Finset.sum_eq_single c]
    · have e : peerP ((peerE r).symm c) r = c := (peerE r).apply_symm_apply c
      rw [e, tallyAt_apply, if_pos ⟨rfl, rfl⟩]
    · intro d _ hd
      have e : peerP ((peerE r).symm d) r = d := (peerE r).apply_symm_apply d
      rw [e, tallyAt_apply, if_neg (fun q => hd (Prod.mk.inj (kcell_injective q.1)).1.symm)]
    · exact fun q => absurd (Finset.mem_univ _) q
  · rw [if_neg h]
    refine Finset.sum_eq_zero fun d _ => ?_
    rw [tallyAt_apply, if_neg (fun q => h (Prod.mk.inj (kcell_injective q.1)).2.symm)]

/-- What the copies of one kind owe the cell `k`: those of the numbers whose cell it is. -/
def kindSum (g : Fin 15 → CI) (f : Fin 15 → ℕ) (k : CI) : ℕ := ∑ r, if g r = k then f r else 0

theorem kindSum_none {g : Fin 15 → CI} {f : Fin 15 → ℕ} {k : CI} (h : ∀ r, g r ≠ k) : kindSum g f k = 0 :=
  Finset.sum_eq_zero fun r' _ => if_neg (h r')
theorem kindSum_one {g : Fin 15 → CI} {f : Fin 15 → ℕ} {r : Fin 15} (h : ∀ r', g r' = g r → r' = r) : kindSum g f (g r) = f r := by
  unfold kindSum
  rw [Finset.sum_eq_single r]
  · rw [if_pos rfl]
  · exact fun r' _ ne => if_neg fun q => ne (h r' q)
  · exact fun q => absurd (Finset.mem_univ _) q

def owedN (k : CI) : ℕ :=
  kindSum (fun _ => iBar) (fun _ => 1) k + (kindSum (iBr 0) (bN 0) k + (kindSum (iBr 1) (bN 1) k + (kindSum (iBr 2) (bN 2) k + (kindSum (iBr 3) (bN 3) k + kindSum iDr dN k))))

theorem kind_swap (f : Dev nD → Fin 15 → ℕ) (g : Fin 15 → CI) (n : Fin 15 → ℕ) (k : CI) (h : ∀ r, ∑ d, f d r = if g r = k then n r else 0) :
    ∑ d, ∑ r, f d r = kindSum g n k := by
  unfold kindSum
  rw [Finset.sum_comm]; exact Finset.sum_congr rfl fun r _ => h r

theorem barT_sum (c : Dev nD) (k : CI) : ∑ d, ∑ r, barT d r (kcell (c, k)) () = kindSum (fun _ => iBar) (fun _ => 1) k :=
  kind_swap (fun d r => barT d r (kcell (c, k)) ()) _ _ k fun r => owed_at c iBar k r 1
theorem brT_sum (c : Dev nD) (k : CI) (t : Fin 4) : ∑ d, ∑ r, brT d t r (kcell (c, k)) () = kindSum (iBr t) (bN t) k :=
  kind_swap (fun d r => brT d t r (kcell (c, k)) ()) _ _ k fun r => owed_at c (iBr t r) k r (bN t r)
theorem drT_sum (c : Dev nD) (k : CI) : ∑ d, ∑ r, drT d r (kcell (c, k)) () = kindSum iDr dN k :=
  kind_swap (fun d r => drT d r (kcell (c, k)) ()) _ _ k fun r => owed_at c (iDr r) k r (dN r)

theorem owed_eq (d : Dev nD) (g : GSem nD τ sig) : O₀ d g () = (∑ r, barT d r g ()) + ((∑ r, brT d 0 r g ()) + ((∑ r, brT d 1 r g ())
      + ((∑ r, brT d 2 r g ()) + ((∑ r, brT d 3 r g ()) + ∑ r, drT d r g ())))) := by
  unfold O₀ OB O1 O2 O3 O4
  rw [addT_at, addT_at, addT_at, addT_at, addT_at, addT_at, show (0 : CellTallies nD τ sig Unit) g () = 0 from rfl, Nat.add_zero]

theorem owed_sum (c : Dev nD) (k : CI) : ∑ d, O₀ d (kcell (c, k)) () = owedN k := by
  rw [Finset.sum_congr rfl fun d _ => owed_eq d (kcell (c, k)), Finset.sum_add_distrib, Finset.sum_add_distrib, Finset.sum_add_distrib, Finset.sum_add_distrib,
    Finset.sum_add_distrib, barT_sum, brT_sum, brT_sum, brT_sum, brT_sum, drT_sum]
  rfl

theorem iBr_inj {t t' : Fin 4} {r r' : Fin 15} (h : iBr t r = iBr t' r') : t = t' ∧ r = r' := by
  have h1 := Sum.inl.inj (Sum.inr.inj (Sum.inr.inj (Sum.inr.inj h)))
  exact Prod.mk.inj h1
theorem iDr_inj {r r' : Fin 15} (h : iDr r = iDr r') : r = r' :=
  Sum.inr.inj (Sum.inr.inj (Sum.inr.inj (Sum.inr.inj (Sum.inr.inj h))))

theorem br_bar (t : Fin 4) : kindSum (iBr t) (bN t) iBar = 0 := kindSum_none fun r q => by cases q
theorem br_dr (t : Fin 4) (r : Fin 15) : kindSum (iBr t) (bN t) (iDr r) = 0 := kindSum_none fun r q => by cases q
theorem br_br (t t' : Fin 4) (r : Fin 15) : kindSum (iBr t') (bN t') (iBr t r) = if t' = t then bN t r else 0 := by
  by_cases h : t' = t
  · subst h; rw [if_pos rfl]; exact kindSum_one fun r' q => (iBr_inj q).2
  · rw [if_neg h]; exact kindSum_none fun r' q => h (iBr_inj q).1

theorem owedN_bar : owedN iBar = 15 := by
  unfold owedN
  rw [br_bar, br_bar, br_bar, br_bar, kindSum_none (g := iDr) (fun r q => by cases q)]
  unfold kindSum; simp

theorem owedN_br (t : Fin 4) (r : Fin 15) : owedN (iBr t r) = bN t r := by
  unfold owedN
  rw [br_br, br_br, br_br, br_br, kindSum_none (g := iDr) (fun r q => by cases q), kindSum_none (g := fun _ => iBar) (fun r q => by cases q)]
  generalize bN t r = n
  have h : ∀ t : Fin 4, (0 = t ∨ 1 = t ∨ 2 = t ∨ 3 = t) := by decide
  rcases h t with h | h | h | h <;> subst h <;> simp

theorem owedN_dr (r : Fin 15) : owedN (iDr r) = dN r := by
  unfold owedN
  rw [br_dr, br_dr, br_dr, br_dr, kindSum_one (g := iDr) (fun r' => iDr_inj), kindSum_none (g := fun _ => iBar) (fun r q => by cases q)]
  omega

theorem launch_cell (c : Dev nD) (k : CI) :
    tallyOn (kcell (c, k)) (launchCredit (Pipeline.owing O₀) 0 (kcell (c, k))) = (tallyAt (kcell (c, k)) () (owedN k) : CellTallies nD τ sig Unit) := by
  unfold tallyAt; refine congrArg _ (Finsupp.ext fun u => ?_); cases u
  rw [Pipeline.launchCredit_owing, Finsupp.single_eq_same, owed_sum]

theorem launch_creds (c : Dev nD) : (Pipeline.launchCred O₀ c : sProp 𝕄) ⊢ creds c := by
  have h1 : (Pipeline.launchCred O₀ c : sProp 𝕄) ⊢ bigSep Finset.univ fun k : CI => cred (tallyAt (kcell (c, k)) () (owedN k)) := by
    unfold Pipeline.launchCred
    refine (bigSep_subset (Finset.subset_univ (Finset.univ.map ⟨csem, csem_injective⟩))).trans ?_
    rw [bigSep_map]
    exact bigSep_mono fun k _ => Entails.of_eq (congrArg (fun x => (cred x : sProp 𝕄)) (launch_cell c k))
  refine h1.trans ?_
  rw [bigSep_CI]
  simp only [owedN_bar, owedN_br, owedN_dr]
  unfold creds
  iintro ⟨H1, -, -, H2, -, H3⟩
  isplitl [H1]; · iexact H1
  isplitl [H2]; · iexact H2
  iexact H3

end Cert.KernelIdeal.Attn

end
-- ==== Proof.Whole.lean ====
/-
The run of the whole program, at any float values.
-/
module

public import proofs.«01_k».proof.Proof.Start
public import Idealize.ShloMosaic.Lib.Pipeline.CollectiveSegs

@[expose] public section

noncomputable section

namespace Cert.KernelIdeal.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(start m c ∗ emp) := by
  rw [Pipeline.unscopedRestP_none, show (Pipeline.unscopedRest cfg0.spec c (fun b => m ((c : Thread nD τ).loc b)) : sProp 𝕄) = kvPts m c from
    unscopedRest0_eq c fun b => m ((c : Thread nD τ).loc b)]
  iintro ⟨Hkv, Hlev, Hcr, -, HG⟩
  ihave Hc := (launch_creds (F := F) c) $$ Hcr
  imodintro
  unfold start
  isplitl
  · isplitl [HG]; · iexact HG
    isplitl [Hlev]; · iexact Hlev
    isplitl [Hc] <;> iassumption
  · iempintro

theorem scoped_eq (c : Dev nD) : (Pipeline.scopedRest cfg0.spec c : sProp 𝕄) = scratch c := by
  unfold scratch someP
  exact scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_eq]
  unfold Φ₀
  iintro ⟨Hs, -, Hr⟩
  isplitl [Hs] <;> iassumption

theorem phi1_exit (c : Dev nD) :
    (dats m 0 c).Φ (Fin.last cfg0.N) ⊢ iprop((unscopedSems0 c ∗ kvPts m c) ∗ Pipeline.ownSems0 osem c ∗ Pipeline.scopedRest cfg0.spec c) := by
  rw [show (dats m 0 c).Φ (Fin.last cfg0.N) = Φ₁ m c from rfl, scoped_eq]
  unfold Φ₁
  rw [sems0_eq]
  iintro ⟨⟨Hu, Ho⟩, Hkv, Hr⟩
  isplitl [Hu Hkv]
  · isplitl [Hu] <;> iassumption
  isplitl [Ho] <;> iassumption

theorem lv_stage (c : Dev nD) (w : Fin 4) (s : Fin (spec0 w).nbuf) : lv ((c : Thread nD τ), .dma ((spec0 w).sem s)) () = 0 := by
  show (match use ((spec0 w).sem s) with | .br _ _ => 2 | .dr _ => 3 | _ => 0) = 0
  rw [use_stage]

theorem waits (c : Dev nD) : (levAts L lv : sProp 𝕄) ⊢ Pipeline.cellsWaits cfgs (dats m) () 0 c :=
  Pipeline.cellsWaits_intro cfgs (dats m) () 0 c fun w s t =>
    mayWait_above c _ (by
      have e : lv ((c : Thread nD τ), .dma ((spec0 w).sem s)) () = 0 := lv_stage c w s
      rcases t with ⟨_ | _, ht⟩
      · exact (congrArg (fun n => Above n (O₀ c)) e).mpr (above_0 c)
      · exact above_zero _)

/-! ## The run -/

def finalA (c : Dev nD) (w : Fin cfg0.W) : Buf (Elt F) ((cfg0.win w).arr.view.loc (c : Thread nD τ)) := (dats m 0 c).arrAt w cfg0.N

theorem kv_read (c : Dev nD) (s' : Phys nD τ sig (Elt F)) :
    (iprop(kvPts m c ∗ SI s') : sProp 𝕄) ⊢ iprop(⌜s'.mem.mem (kL c) = m (kL c) ∧ s'.mem.mem (vL c) = m (vL c)⌝ ∗ SI s') := by
  have h : (iprop(kvPts m c ∗ SI s') : sProp 𝕄) ⊢ iprop(⌜s'.mem.mem (kL c) = m (kL c) ∧ s'.mem.mem (vL c) = m (vL c)⌝) := by
    unfold kvPts
    iintro ⟨⟨Hk, Hv⟩, HSI⟩
    ihave %h1 := (SI_pointsTo_agree (st := s') (ℓ := kL c) (I := Finset.univ) (q := fullShare) (f := m (kL c))) $$ [HSI Hk]
    · isplitl [HSI] <;> iassumption
    ihave %h2 := (SI_pointsTo_agree (st := s') (ℓ := vL c) (I := Finset.univ) (q := fullShare) (f := m (vL c))) $$ [HSI Hv]
    · isplitl [HSI] <;> iassumption
    ipureintro
    exact ⟨funext fun i => h1 i (Finset.mem_univ _), funext fun i => h2 i (Finset.mem_univ _)⟩
  iintro ⟨H1, H2⟩
  ihave %hh := h $$ [H1 H2]
  · isplitl [H1] <;> iassumption
  isplitr; · ipureintro; exact hh
  iexact H2

def QC : PUnit × MemSt nD τ sig (Elt F) → Prop := fun r =>
  ∀ c : Dev nD, (∀ w : Fin cfg0.W, r.2.mem ((cfg0.win w).arr.view.loc (c : Thread nD τ)) = finalA m c w) ∧ r.2.mem (kL c) = m (kL c) ∧ r.2.mem (vL c) = m (vL c)

set_option maxRecDepth 100000 in
set_option maxHeartbeats 0 in
/-- From any memory with zero counters every fair execution of the program ends, and every final state has the windows' arrays at their
    final contents, the keys and the values unchanged, and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := share m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ kvPts m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ s.mem (kL c) = m (kL c) ∧ s.mem (vL c) = m (vL c))
    (hY := fun c s' => by
      iintro ⟨⟨Hu, Hkv⟩, -, HSI⟩
      ihave H := (kv_read m c s') $$ [Hkv HSI]
      · isplitl [Hkv] <;> iassumption
      icases H with ⟨%hkv, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hkv⟩
      iexact HSI)
    (hQ := fun _ h hs => ⟨fun c => ⟨fun w => (h c).1 w, (h c).2.2.2⟩, sem_eq_zero hs fun c => (h c).2.2.1⟩)

theorem final_in0 (c : Dev nD) : finalA m c (0 : Fin 4) = m ((c : Thread nD τ).loc main_arg0) := (dats (F := F) m 0 c).arrAt_in (0 : Fin 4) rfl _
theorem final_in1 (c : Dev nD) : finalA m c (1 : Fin 4) = m ((c : Thread nD τ).loc main_arg1) := (dats (F := F) m 0 c).arrAt_in (1 : Fin 4) rfl _
theorem final_in2 (c : Dev nD) : finalA m c (2 : Fin 4) = m ((c : Thread nD τ).loc main_arg4) := (dats (F := F) m 0 c).arrAt_in (2 : Fin 4) rfl _

/-- The arguments end as they began and every counter at zero; the result is `finalA`'s. -/
theorem run_frame : θ_run defs (onTc (τ := τ) (main (F := F))) ⟨m, fun _ => 0, ρ⟩ (fun r =>
    ((∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0)
    ∧ ∀ c : Dev nD, r.2.mem ((c : Thread nD τ).loc main_v1) = finalA m c (3 : Fin 4)) :=
  (θ_run defs _ _).mono (fun r h => ⟨⟨fun c => ⟨((h.1 c).1 (0 : Fin 4)).trans (final_in0 m c), ((h.1 c).1 (1 : Fin 4)).trans (final_in1 m c), (h.1 c).2.1, (h.1 c).2.2,
    ((h.1 c).1 (2 : Fin 4)).trans (final_in2 m c)⟩, h.2⟩, fun c => (h.1 c).1 (3 : Fin 4)⟩) (run_main m ρ)

end Cert.KernelIdeal.Attn

end
-- ==== Proof.Same.lean ====
/-
The printed kernel and its idealization are one text: at the words their body tables are equal. So a run proved of the idealization at
any float values is a run of the kernel.
-/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

attribute [local instance] Cert.Kernel.Gen.facts Cert.KernelIdeal.Gen.facts

set_option maxRecDepth 100000 in
set_option maxHeartbeats 0 in
theorem bodies : (Cert.Kernel.defs₀ (F := Bits)) = Cert.KernelIdeal.defs₀ (F := Bits) := by
  refine congrArg Defs.onTc (funext fun l => ?_)
  match l with
  | 0 =>
    funext ⟨t, s⟩
    rfl
  | ⟨_ + 1, h⟩ => exact absurd h (Nat.not_lt.2 (Nat.le_add_left _ _))

theorem tables : (Cert.Kernel.defs (F := Bits)) = Cert.KernelIdeal.defs (F := Bits) := congrArg (Pipeline.defs Cert.KernelIdeal.pcfgs) bodies

end Cert.Same

end
-- ==== Proof.Ref1.lean ====
/-
The reference's result as a chain of named arrays, and its mask read at an index: query row `i` sees key `J` where the key's block of
sixty-four, modulo four, is the query's block.
-/
module

public import proofs.«01_k».proof.Proof.Gen.ReferenceIdeal.Run
public import Idealize.ShloMosaic.Lib.Pointwise

@[expose] public section

noncomputable section

namespace Cert.ReferenceIdeal.Attn

open Cert.ReferenceIdeal Cert.ReferenceIdeal.Gen
open Idealize.ShloMosaic Idealize.ShloMosaic.TcCoe Idealize.SL.Sem

set_option maxRecDepth 16384

/-! ## The mask -/

/-- The query rows' blocks. -/
def qblk : IVec S256 32 :=
  select (andi (cmpi .ne (signi (iotaInDim S256 32 0)) (broadcastInDim S256 ![] bcast_S_S256 (signi (id (constantI S_ 32 64#32)))))
    (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The keys' blocks. -/
def kblk : IVec S65536 32 :=
  select (andi (cmpi .ne (signi (iotaInDim S65536 32 0)) (broadcastInDim S65536 ![] bcast_S_S65536 (signi (id (constantI S_ 32 64#32)))))
    (cmpi .ne (Host.remsi (iotaInDim S65536 32 0) (broadcastInDim S65536 ![] bcast_S_S65536 (id (constantI S_ 32 64#32)))) (broadcastInDim S65536 ![] bcast_S_S65536 (constantI S_ 32 0#32))))
    (subi (Host.divsi (iotaInDim S65536 32 0) (broadcastInDim S65536 ![] bcast_S_S65536 (id (constantI S_ 32 64#32)))) (broadcastInDim S65536 ![] bcast_S_S65536 (constantI S_ 32 1#32)))
    (Host.divsi (iotaInDim S65536 32 0) (broadcastInDim S65536 ![] bcast_S_S65536 (id (constantI S_ 32 64#32))))

def qcol : IVec S256x1 32 := broadcastInDim S256x1 ![0] bcast_S256_S256x1_0 qblk
def krow : IVec S1x65536 32 := broadcastInDim S1x65536 ![1] bcast_S65536_S1x65536_1 kblk

/-- The divisor four, as the remainder guards it. -/
def four : IVec S_ 32 := select (cmpi .eq (id (constantI S_ 32 4#32)) (constantI S_ 32 0#32)) (constantI S_ 32 1#32) (id (constantI S_ 32 4#32))

def krem : IVec S1x65536 32 :=
  select (andi (cmpi .ne (cmpi .slt (Host.remsi krow (broadcastInDim S1x65536 ![] bcast_S_S1x65536 four)) (broadcastInDim S1x65536 ![] bcast_S_S1x65536 (constantI S_ 32 0#32)))
      (broadcastInDim S1x65536 ![] bcast_S_S1x65536 (cmpi .slt four (constantI S_ 32 0#32))))
    (cmpi .ne (Host.remsi krow (broadcastInDim S1x65536 ![] bcast_S_S1x65536 four)) (broadcastInDim S1x65536 ![] bcast_S_S1x65536 (constantI S_ 32 0#32))))
    (addi (Host.remsi krow (broadcastInDim S1x65536 ![] bcast_S_S1x65536 four)) (broadcastInDim S1x65536 ![] bcast_S_S1x65536 four))
    (Host.remsi krow (broadcastInDim S1x65536 ![] bcast_S_S1x65536 four))

def qrem : IVec S256x1 32 :=
  select (andi (cmpi .ne (cmpi .slt (Host.remsi qcol (broadcastInDim S256x1 ![] bcast_S_S256x1 four)) (broadcastInDim S256x1 ![] bcast_S_S256x1 (constantI S_ 32 0#32)))
      (broadcastInDim S256x1 ![] bcast_S_S256x1 (cmpi .slt four (constantI S_ 32 0#32))))
    (cmpi .ne (Host.remsi qcol (broadcastInDim S256x1 ![] bcast_S_S256x1 four)) (broadcastInDim S256x1 ![] bcast_S_S256x1 (constantI S_ 32 0#32))))
    (addi (Host.remsi qcol (broadcastInDim S256x1 ![] bcast_S_S256x1 four)) (broadcastInDim S256x1 ![] bcast_S_S256x1 four))
    (Host.remsi qcol (broadcastInDim S256x1 ![] bcast_S_S256x1 four))

def MASK : IVec S256x65536 1 :=
  ori (cmpi .eq (broadcastInDim S256x65536 ![0, 1] bcast_S256x1_S256x65536_0_1 qcol) (broadcastInDim S256x65536 ![0, 1] bcast_S1x65536_S256x65536_0_1 krow))
    (cmpi .eq (broadcastInDim S256x65536 ![0, 1] bcast_S1x65536_S256x65536_0_1 krem) (broadcastInDim S256x65536 ![0, 1] bcast_S256x1_S256x65536_0_1 qrem))

/-- Whether a row sees any key. -/
def ANY : IVec S1x1x256x1 1 :=
  broadcastInDim S1x1x256x1 ![2] bcast_S256_S1x1x256x1_2 (Host.reduce IntOp.ori MASK (constantI S_ 1 0#1) reducesTo_S256x65536_S256_d1 h_S_)

/-! ## The chain -/

variable {F : FTy → Type} [FloatOps F]

/-- The scaled scores. -/
def SC (x : FVec F S1x256x1024 .f32) (wq : FVec F S1024x1024 .f32) (k : FVec F S1x65536x8x128 .f32) : FVec F S1x8x256x65536 .f32 :=
  mulf (Host.dotGeneral dot_S1x256x8x128_S1x65536x8x128_S1x8x256x65536_3_3_1_1_02_02 none
      (shapeCast _ (Host.dotGeneral dot_S1x256x1024_S1024x1024_S1x256x1024_2_0_01_1_n_n none x wq) shapeCasts_S1x256x1024_S1x256x8x128) k)
    (broadcastInDim S1x8x256x65536 ![] bcast_S_S1x8x256x65536 (constant S_ .f32 0x3DB504F3#32))

/-- The masked scores. -/
def SM (s : FVec F S1x8x256x65536 .f32) : FVec F S1x8x256x65536 .f32 :=
  select (broadcastInDim S1x8x256x65536 ![0, 1, 2, 3] bcast_S1x1x256x65536_S1x8x256x65536_0_1_2_3
      (broadcastInDim S1x1x256x65536 ![2, 3] bcast_S256x65536_S1x1x256x65536_2_3 MASK)) s
    (broadcastInDim S1x8x256x65536 ![] bcast_S_S1x8x256x65536 (id (constant S_ .f32 0xFF800000#32)))

/-- The rows' maxima. -/
def MX (s : FVec F S1x8x256x65536 .f32) : FVec F S1x8x256 .f32 :=
  Host.reduce FloatOps.maximumf s (constant S_ .f32 0xFF800000#32) reducesTo_S1x8x256x65536_S1x8x256_d3 h_S_

/-- The weights before they are normalised. -/
def EX (s : FVec F S1x8x256x65536 .f32) (mx : FVec F S1x8x256 .f32) : FVec F S1x8x256x65536 .f32 :=
  Host.exp (subf s (broadcastInDim S1x8x256x65536 ![0, 1, 2, 3] bcast_S1x8x256x1_S1x8x256x65536_0_1_2_3
    (broadcastInDim S1x8x256x1 ![0, 1, 2] bcast_S1x8x256_S1x8x256x1_0_1_2 mx)))

/-- Their sums. -/
def SU (e : FVec F S1x8x256x65536 .f32) : FVec F S1x8x256 .f32 :=
  Host.reduceAdd e (constant S_ .f32 0x00000000#32) reducesTo_S1x8x256x65536_S1x8x256_d3 h_S_

/-- The normalised weights. -/
def WN (any : IVec S1x1x256x1 1) (e : FVec F S1x8x256x65536 .f32) (su : FVec F S1x8x256 .f32) : FVec F S1x8x256x65536 .f32 :=
  select (broadcastInDim S1x8x256x65536 ![0, 1, 2, 3] bcast_S1x1x256x1_S1x8x256x65536_0_1_2_3 any)
    (Host.divf e (broadcastInDim S1x8x256x65536 ![0, 1, 2, 3] bcast_S1x8x256x1_S1x8x256x65536_0_1_2_3
      (select (broadcastInDim S1x8x256x1 ![0, 1, 2, 3] bcast_S1x1x256x1_S1x8x256x1_0_1_2_3 any)
        (broadcastInDim S1x8x256x1 ![0, 1, 2] bcast_S1x8x256_S1x8x256x1_0_1_2 su)
        (broadcastInDim S1x8x256x1 ![] bcast_S_S1x8x256x1 (id (constant S_ .f32 0x3F800000#32))))))
    (broadcastInDim S1x8x256x65536 ![] bcast_S_S1x8x256x65536 (id (constant S_ .f32 0x00000000#32)))

/-- The context and its projection. -/
def PR (v : FVec F S1x65536x8x128 .f32) (w : FVec F S1x8x256x65536 .f32) (wo : FVec F S1024x1024 .f32) : FVec F S1x256x1024 .f32 :=
  Host.dotGeneral dot_S1x256x1024_S1024x1024_S1x256x1024_2_0_01_1_n_n none (shapeCast _ (transpose S1x256x8x128 [0, 3, 1, 2]
    (Host.dotGeneral dot_S1x65536x8x128_S1x8x256x65536_S1x8x128x256_1_3_3_2_02_01 none v w)
    transposes_S1x8x128x256_S1x256x8x128_0_3_1_2) shapeCasts_S1x256x8x128_S1x256x1024) wo

def REF (x : FVec F S1x256x1024 .f32) (wq : FVec F S1024x1024 .f32) (k v : FVec F S1x65536x8x128 .f32) (wo : FVec F S1024x1024 .f32) : FVec F S1x256x1024 .f32 :=
  PR v (WN ANY (EX (SM (SC x wq k)) (MX (SM (SC x wq k)))) (SU (EX (SM (SC x wq k)) (MX (SM (SC x wq k)))))) wo

/-- The reference's result is that chain. -/
theorem res_eq (m : (ℓ : Loc nD τ sig) → Buf (Elt F) ℓ) (c : Dev nD) :
    Value.res_main_v39 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v39
  rfl

/-! ## The mask at an index -/

/-- A word's block of sixty-four, as the floor division spells it. -/
def blkW (w : BitVec 32) : BitVec 32 :=
  Scalar.select (IntOp.andi
      (IntOp.cmpi .ne (if w = 0 then 0 else if w.msb = true then -1 else 1 : BitVec 32)
        (if (64#32 : BitVec 32) = 0 then 0 else if (64#32 : BitVec 32).msb = true then -1 else 1 : BitVec 32))
      (IntOp.cmpi .ne (IntOp.remsi .host w 64#32) 0#32))
    (IntOp.subi (IntOp.divsi .host w 64#32) 1#32) (IntOp.divsi .host w 64#32)

theorem blkW_table : ∀ a b : Fin 256, blkW (BitVec.ofNat 32 (256 * a.val + b.val)) = BitVec.ofNat 32 ((256 * a.val + b.val) / 64) := by decide +kernel

theorem blkW_ofNat (n : ℕ) (h : n < 65536) : blkW (BitVec.ofNat 32 n) = BitVec.ofNat 32 (n / 64) := by
  have := blkW_table ⟨n / 256, by omega⟩ ⟨n % 256, by omega⟩
  simpa only [Nat.div_add_mod] using this

/-- A word modulo four, as the remainder spells it. -/
def remW (w f : BitVec 32) : BitVec 32 :=
  Scalar.select (IntOp.andi (IntOp.cmpi .ne (IntOp.cmpi .slt (IntOp.remsi .host w f) 0#32) (IntOp.cmpi .slt f 0#32)) (IntOp.cmpi .ne (IntOp.remsi .host w f) 0#32))
    (IntOp.addi (IntOp.remsi .host w f) f) (IntOp.remsi .host w f)

theorem remW_table : ∀ a : Fin 1024, remW (BitVec.ofNat 32 a.val) (Scalar.select (IntOp.cmpi .eq 4#32 0#32) 1#32 4#32) = BitVec.ofNat 32 (a.val % 4) := by decide +kernel

theorem eq_table : ∀ (b : Fin 1024) (q : Fin 4), IntOp.ori (IntOp.cmpi .eq (BitVec.ofNat 32 q.val) (BitVec.ofNat 32 b.val))
    (IntOp.cmpi .eq (BitVec.ofNat 32 (b.val % 4)) (BitVec.ofNat 32 (q.val % 4))) = if b.val % 4 = q.val then 1#1 else 0#1 := by decide +kernel

theorem qblk_apply (i : Fin 256) : qblk (ix1 i) = BitVec.ofNat 32 (i.val / 64) := by
  unfold qblk
  pointwise
  exact blkW_ofNat i.val (by omega)

theorem kblk_apply (J : Fin 65536) : kblk (ix1 J) = BitVec.ofNat 32 (J.val / 64) := by
  unfold kblk
  pointwise
  exact blkW_ofNat J.val (by omega)

theorem krem_apply (J : Fin 65536) : krem (ix2 0 J) = BitVec.ofNat 32 (J.val / 64 % 4) := by
  unfold krem krow four
  pointwise
  rw [kblk_apply]
  exact remW_table ⟨J.val / 64, by omega⟩

theorem qrem_apply (i : Fin 256) : qrem (ix2 i 0) = BitVec.ofNat 32 (i.val / 64 % 4) := by
  unfold qrem qcol four
  pointwise
  rw [qblk_apply]
  exact remW_table ⟨i.val / 64, by omega⟩

theorem MASK_apply (i : Fin 256) (J : Fin 65536) : MASK (ix2 i J) = if J.val / 64 % 4 = i.val / 64 then 1#1 else 0#1 := by
  unfold MASK qcol krow
  pointwise
  rw [qblk_apply, kblk_apply, krem_apply, qrem_apply]
  exact eq_table ⟨J.val / 64, by omega⟩ ⟨i.val / 64, by omega⟩

end Cert.ReferenceIdeal.Attn

end
-- ==== Proof.Ref2.lean ====
/-
The reference's chain at an index, over the extended reals.
-/
module

public import proofs.«01_k».proof.Proof.Ref1

@[expose] public section

noncomputable section

namespace Cert.ReferenceIdeal.Attn

open Cert.ReferenceIdeal Cert.ReferenceIdeal.Gen
open Idealize.ShloMosaic Idealize.ShloMosaic.TcCoe Idealize.SL.Sem

set_option maxRecDepth 16384

/-- The scale of the scores. -/
def scaleR : EReal := FloatOps.ofBits (F := Ideal) .f32 0x3DB504F3#32

/-- The mask's value is minus infinity. -/
theorem ofBits_bot : Ideal.ofBits .f32 0xFF800000#32 = ⊥ := by simp [Ideal.ofBits, Ideal.ieee]

/-- A pattern whose exponent is not all ones is a real. -/
theorem ieee_real (e n : ℕ) {w : ℕ} (b : BitVec w) (h : (b.extractLsb' n e).toNat ≠ 2 ^ e - 1) : ∃ r : ℝ, Ideal.ieee e n b = (r : EReal) := by
  unfold Ideal.ieee
  rw [if_neg h]
  by_cases h0 : (b.extractLsb' n e).toNat = 0
  · rw [if_pos h0]; exact ⟨_, rfl⟩
  · rw [if_neg h0]; exact ⟨_, rfl⟩

/-- The scale is a real. -/
theorem scaleR_real : ∃ r : ℝ, scaleR = (r : EReal) := ieee_real 8 23 0x3DB504F3#32 (by decide)

theorem ori_one : ∀ w : BitVec 1, IntOp.ori 1#1 w = 1#1 := by decide

theorem SC_apply (x : FVec Ideal S1x256x1024 .f32) (wq : FVec Ideal S1024x1024 .f32) (k : FVec Ideal S1x65536x8x128 .f32)
    (h : Fin 8) (i : Fin 256) (J : Fin 65536) :
    SC x wq k (ix4 0 h i J) = (∑ d : Fin 128, (∑ e : Fin 1024, x (ix3 0 i e) * wq (ix2 e ⟨h.val * 128 + d.val, by omega⟩)) * k (ix4 0 J h d)) * scaleR := by
  unfold SC
  pointwise
  rfl

theorem SM_apply (s : FVec Ideal S1x8x256x65536 .f32) (h : Fin 8) (i : Fin 256) (J : Fin 65536) :
    SM s (ix4 0 h i J) = if J.val / 64 % 4 = i.val / 64 then s (ix4 0 h i J) else ⊥ := by
  unfold SM
  pointwise
  rw [MASK_apply]
  by_cases h : J.val / 64 % 4 = i.val / 64
  · rw [if_pos h, if_pos h]; rfl
  · rw [if_neg h, if_neg h]; exact ofBits_bot

theorem MX_apply (s : FVec Ideal S1x8x256x65536 .f32) (h : Fin 8) (i : Fin 256) :
    MX s (ix3 0 h i) = (Finset.univ : Finset (Fin 65536)).fold max ⊥ (fun J => s (ix4 0 h i J)) := by
  unfold MX
  pointwise
  rw [ofBits_bot]

theorem EX_apply (s : FVec Ideal S1x8x256x65536 .f32) (mx : FVec Ideal S1x8x256 .f32) (h : Fin 8) (i : Fin 256) (J : Fin 65536) :
    EX s mx (ix4 0 h i J) = Ideal.exp (s (ix4 0 h i J) - mx (ix3 0 h i)) := by
  unfold EX
  pointwise

theorem SU_apply (e : FVec Ideal S1x8x256x65536 .f32) (h : Fin 8) (i : Fin 256) :
    SU e (ix3 0 h i) = ∑ J : Fin 65536, e (ix4 0 h i J) := by
  unfold SU
  pointwise

theorem ANY_apply (i : Fin 256) : ANY (ix4 0 0 i 0) = 1#1 := by
  unfold ANY
  pointwise
  have hm : (⟨64 * (i.val / 64), by omega⟩ : Fin 65536) ∈ (Finset.univ : Finset (Fin 65536)) := Finset.mem_univ _
  rw [← Finset.insert_erase hm, Finset.fold_insert (Finset.notMem_erase _ _), MASK_apply,
    if_pos (show 64 * (i.val / 64) / 64 % 4 = i.val / 64 by omega)]
  exact ori_one _

theorem WN_apply (any : IVec S1x1x256x1 1) (e : FVec Ideal S1x8x256x65536 .f32) (su : FVec Ideal S1x8x256 .f32) (h : Fin 8) (i : Fin 256) (J : Fin 65536)
    (ha : any (ix4 0 0 i 0) = 1#1) :
    WN any e su (ix4 0 h i J) = Ideal.div (e (ix4 0 h i J)) (su (ix3 0 h i)) := by
  unfold WN
  pointwise
  rw [ha]
  rfl

theorem PR_apply (v : FVec Ideal S1x65536x8x128 .f32) (w : FVec Ideal S1x8x256x65536 .f32) (wo : FVec Ideal S1024x1024 .f32) (i : Fin 256) (n : Fin 1024) :
    PR v w wo (ix3 0 i n) = ∑ k : Fin 1024, (∑ J : Fin 65536, v (ix4 0 J ⟨k.val / 128, by omega⟩ ⟨k.val % 128, by omega⟩) * w (ix4 0 ⟨k.val / 128, by omega⟩ i J)) * wo (ix2 k n) := by
  unfold PR
  pointwise

end Cert.ReferenceIdeal.Attn

end
-- ==== Proof.Val1.lean ====
/-
What the device's arithmetic computes, read over the extended reals at an index.
-/
module

public import proofs.«01_k».proof.Proof.Body
public import Idealize.ShloMosaic.Lib.Pointwise

@[expose] public section

noncomputable section

namespace Cert.KernelIdeal.Attn

open Cert.KernelIdeal Cert.KernelIdeal.Gen
open Idealize.ShloMosaic Idealize.SL.Sem

set_option maxRecDepth 16384

/-- The scale of the scores, as the real its word is. -/
def scaleC : EReal := FloatOps.ofBits (F := Ideal) .f32 0x3DB504F3#32

theorem qOf_apply (x : Vec Ideal S1x256x1024 .f32) (wq : Vec Ideal S1024x1024 .f32) (i : Fin 256) (n : Fin 1024) :
    qOf (F := Ideal) x wq (ix2 i n) = (∑ k : Fin 1024, x (ix3 0 i k) * wq (ix2 k n)) * scaleC := by
  unfold qOf scaleC
  pointwise

theorem wOf_apply (q : FVec Ideal S256x1024 .f32) (h : Fin 8) (k : Vec Ideal S1x4096x128 .f32) (g : Fin 4) (p : Fin 64) (j : Fin 1024) :
    wOf (F := Ideal) q h k (ix3 g p j) = Ideal.exp (∑ d : Fin 128, q (ix2 ⟨g.val * 64 + p.val, by omega⟩ ⟨128 * h.val + d.val, by omega⟩)
      * k (ix3 0 ⟨j.val / 64 * 256 + g.val * 64 + j.val % 64, by omega⟩ d)) := by
  unfold wOf qgOf grpOf
  pointwise

theorem resOf_apply (ctx : Vec Ideal S16x1024 .bf16) (wo : Vec Ideal S1024x1024 .f32) (a : Fin 16) (n : Fin 1024) :
    resOf (F := Ideal) ctx wo (ix2 a n) = ∑ k : Fin 1024, ctx (ix2 a k) * wo (ix2 k n) := by
  unfold resOf
  pointwise

theorem addSlot_apply (acc : FVec Ideal S16x1152 .f32) (x : Vec Ideal S1x16x1152 .bf16) (a : Fin 16) (n : Fin 1152) :
    addSlot (F := Ideal) acc x (ix2 a n) = acc (ix2 a n) + x (ix3 0 a n) := by
  unfold addSlot
  pointwise

theorem ctxOf_apply (tot : FVec Ideal S16x1152 .f32) (h : Fin 8) (a : Fin 16) (d : Fin 128) :
    ctxOf (F := Ideal) tot h (ix2 a d) = Ideal.div (tot (ix2 a ⟨128 * h.val + d.val, by omega⟩)) (tot (ix2 a ⟨1024 + h.val, by omega⟩)) := by
  unfold ctxOf
  pointwise

theorem accOf_apply (q : FVec Ideal S256x1024 .f32) (h : Fin 8) (k v : Vec Ideal S1x4096x128 .f32) (i : Fin 256) (d : Fin 128) :
    accOf (F := Ideal) q h k v (ix2 i d) = ∑ j : Fin 1024, wOf (F := Ideal) q h k (ix3 ⟨i.val / 64, by omega⟩ ⟨i.val % 64, by omega⟩ j)
      * v (ix3 0 ⟨j.val / 64 * 256 + i.val / 64 * 64 + j.val % 64, by omega⟩ d) := by
  unfold accOf grpOf
  pointwise

theorem denOf_apply (q : FVec Ideal S256x1024 .f32) (h : Fin 8) (k : Vec Ideal S1x4096x128 .f32) (i : Fin 256) :
    denOf (F := Ideal) q h k (ix2 i 0) = ∑ j : Fin 1024, wOf (F := Ideal) q h k (ix3 ⟨i.val / 64, by omega⟩ ⟨i.val % 64, by omega⟩ j) := by
  unfold denOf
  pointwise

end Cert.KernelIdeal.Attn

end
-- ==== Proof.Val2.lean ====
/-
What the launch leaves in the result, as a formula of the arguments over the extended reals.
-/
module

public import proofs.«01_k».proof.Proof.Whole
public import proofs.«01_k».proof.Proof.Val1
public import Idealize.ShloMosaic.Lib.Pipeline.ValueKit

@[expose] public section

noncomputable section

namespace Cert.KernelIdeal.Attn

open Cert.KernelIdeal Cert.KernelIdeal.Gen
open Idealize.ShloMosaic Idealize.SL.Sem
open Idealize.ShloMosaic.TcCoe

set_option maxRecDepth 16384

/-! ## The whole-array blocks -/

section
variable {F : FTy → Type} [FloatOps F] (m : (ℓ : Loc nD τ sig) → Buf (Elt F) ℓ)

theorem blk0_emb (i : S1x256x1024.Idx) : (win0_0.blk (0 : Fin 1)).view.emb i = i := by
  funext a
  match a with
  | ⟨0, _⟩ => exact Fin.ext (show 0 + 1 * (i 0).val = (i 0).val by omega)
  | ⟨1, _⟩ => exact Fin.ext (show 0 + 1 * (i 1).val = (i 1).val by omega)
  | ⟨2, _⟩ => exact Fin.ext (show 0 + 1 * (i 2).val = (i 2).val by omega)

theorem blk1_emb (i : S1024x1024.Idx) : (win0_1.blk (0 : Fin 1)).view.emb i = i := by
  funext a
  match a with
  | ⟨0, _⟩ => exact Fin.ext (show 0 + 1 * (i 0).val = (i 0).val by omega)
  | ⟨1, _⟩ => exact Fin.ext (show 0 + 1 * (i 1).val = (i 1).val by omega)

theorem blk2_emb (i : S1024x1024.Idx) : (win0_2.blk (0 : Fin 1)).view.emb i = i := by
  funext a
  match a with
  | ⟨0, _⟩ => exact Fin.ext (show 0 + 1 * (i 0).val = (i 0).val by omega)
  | ⟨1, _⟩ => exact Fin.ext (show 0 + 1 * (i 1).val = (i 1).val by omega)

theorem xstg_eq (c : Dev nD) : xstg m c = argX m c := funext fun i => by
  unfold xstg; rw [View.read_apply]; exact congrArg (argX m c) (blk0_emb i)
theorem wqstg_eq (c : Dev nD) : wqstg m c = argWq m c := funext fun i => by
  unfold wqstg; rw [View.read_apply]; exact congrArg (argWq m c) (blk1_emb i)
theorem wostg_eq (c : Dev nD) : wostg m c = argWo m c := funext fun i => by
  unfold wostg; rw [View.read_apply]; exact congrArg (argWo m c) (blk2_emb i)

theorem final_out (c : Dev nD) : finalA m c (3 : Fin 4) = OUT m c := by
  unfold finalA
  refine (dats m 0 c).arrAt_eq_of_after_last (3 : Fin 4) t0_0 (by decide +kernel) _ fun j => ?_
  rfl

end

/-! ## The two spellings of an index -/

theorem vix2 {n₀ n₁ : ℕ} (a : Fin n₀) (b : Fin n₁) : (ValueIdx.ix2 a b : (⟨2, ![n₀, n₁]⟩ : Shape).Idx) = ix2 a b := by
  funext q; match q with | ⟨0, _⟩ => rfl | ⟨1, _⟩ => rfl
theorem vix3 {n₀ n₁ n₂ : ℕ} (a : Fin n₀) (b : Fin n₁) (c : Fin n₂) : (ValueIdx.ix3 a b c : (⟨3, ![n₀, n₁, n₂]⟩ : Shape).Idx) = ix3 a b c := by
  funext q; match q with | ⟨0, _⟩ => rfl | ⟨1, _⟩ => rfl | ⟨2, _⟩ => rfl
theorem vix4 {n₀ n₁ n₂ n₃ : ℕ} (a : Fin n₀) (b : Fin n₁) (c : Fin n₂) (d : Fin n₃) :
    (ValueIdx.ix4 a b c d : (⟨4, ![n₀, n₁, n₂, n₃]⟩ : Shape).Idx) = ix4 a b c d := by
  funext q; match q with | ⟨0, _⟩ => rfl | ⟨1, _⟩ => rfl | ⟨2, _⟩ => rfl | ⟨3, _⟩ => rfl

/-! ## The result at an index -/

variable (m : (ℓ : Loc nD τ sig) → Buf (Elt Ideal) ℓ)

/-- Device `c`'s scaled query. -/
def qv (c : Dev nD) (i : Fin 256) (n : Fin 1024) : EReal := (∑ k : Fin 1024, argX m c (ix3 0 i k) * argWq m c (ix2 k n)) * scaleC

/-- The place on a device of the `j`-th key that row `i` sees. -/
def keyAt (i : Fin 256) (j : Fin 1024) : Fin 4096 := ⟨j.val / 64 * 256 + i.val / 64 * 64 + j.val % 64, by omega⟩

/-- Row `i`'s weight at that key of device `c`, head `h`. -/
def ev (c : Dev nD) (h : Fin 8) (i : Fin 256) (j : Fin 1024) : EReal :=
  Ideal.exp (∑ d : Fin 128, qv m c i ⟨128 * h.val + d.val, by omega⟩ * argK m c (ix4 0 (keyAt i j) h d))

theorem KL_apply (c : Dev nD) (h : Fin 8) (j : Fin 4096) (d : Fin 128) : KL m c h (ix3 0 j d) = argK m c (ix4 0 j h d) :=
  congrArg (argK m c) (vix4 (0 : Fin 1) j h d)
theorem VL_apply (c : Dev nD) (h : Fin 8) (j : Fin 4096) (d : Fin 128) : VL m c h (ix3 0 j d) = argV m c (ix4 0 j h d) :=
  congrArg (argV m c) (vix4 (0 : Fin 1) j h d)

theorem Q_apply (c : Dev nD) (i : Fin 256) (n : Fin 1024) : Q m c (ix2 i n) = qv m c i n := by
  unfold Q; rw [xstg_eq, wqstg_eq]; exact qOf_apply _ _ i n

theorem row_split (i : Fin 256) : (⟨i.val / 64 * 64 + i.val % 64, by omega⟩ : Fin 256) = i := Fin.ext (Nat.div_add_mod' _ _)

theorem w_apply (c : Dev nD) (h : Fin 8) (i : Fin 256) (j : Fin 1024) :
    wOf (F := Ideal) (Q m c) h (KL m c h) (ix3 ⟨i.val / 64, by omega⟩ ⟨i.val % 64, by omega⟩ j) = ev m c h i j := by
  rw [wOf_apply]
  refine congrArg Ideal.exp (Finset.sum_congr rfl fun d _ => ?_)
  rw [row_split, Q_apply, KL_apply]
  rfl

theorem acc_apply (c : Dev nD) (h : Fin 8) (i : Fin 256) (d : Fin 128) :
    accOf (F := Ideal) (Q m c) h (KL m c h) (VL m c h) (ix2 i d) = ∑ j : Fin 1024, ev m c h i j * argV m c (ix4 0 (keyAt i j) h d) := by
  rw [accOf_apply]
  refine Finset.sum_congr rfl fun j _ => ?_
  rw [w_apply, VL_apply]
  rfl

theorem den_apply (c : Dev nD) (h : Fin 8) (i : Fin 256) :
    denOf (F := Ideal) (Q m c) h (KL m c h) (ix2 i 0) = ∑ j : Fin 1024, ev m c h i j := by
  rw [denOf_apply]
  exact Finset.sum_congr rfl fun j _ => w_apply m c h i j

theorem PV_lo (c : Dev nD) (i : Fin 256) (n : Fin 1152) (k : Fin 1024) (hn : n.val = k.val) :
    PV m c (ValueIdx.ix2 i n) = ∑ j : Fin 1024, ev m c ⟨k.val / 128, by omega⟩ i j
      * argV m c (ix4 0 (keyAt i j) ⟨k.val / 128, by omega⟩ ⟨k.val % 128, by omega⟩) := by
  have en : n = ⟨k.val, by omega⟩ := Fin.ext hn
  refine (congrArg (fun n => PV m c (ValueIdx.ix2 i n)) en).trans ?_
  unfold PV
  refine (dif_pos k.isLt).trans ?_
  refine Eq.trans (congrArg _ (vix2 i _)) (acc_apply m c ⟨k.val / 128, by omega⟩ i ⟨k.val % 128, by omega⟩)

theorem PV_hi (c : Dev nD) (i : Fin 256) (n : Fin 1152) (h : Fin 8) (hn : n.val = 1024 + h.val) :
    PV m c (ValueIdx.ix2 i n) = ∑ j : Fin 1024, ev m c h i j := by
  unfold PV
  refine (dif_neg (show ¬ n.val < 1024 by omega)).trans ?_
  have e : (⟨(n.val - 1024) % 8, Nat.mod_lt _ (by decide)⟩ : Fin 8) = h := Fin.ext (show (n.val - 1024) % 8 = h.val by omega)
  show denOf (Q m c) ⟨(n.val - 1024) % 8, _⟩ (KL m c ⟨(n.val - 1024) % 8, _⟩) (ValueIdx.ix2 i 0) = _
  rw [e]
  exact Eq.trans (congrArg _ (vix2 i _)) (den_apply m c h i)

/-- A device and its fifteen peers are all the devices. -/
theorem sum_peers (c : Dev nD) (f : Dev nD → EReal) : ∑ e : Dev nD, f e = f c + ∑ r : Fin 15, f (peerP c (Fin.rev r)) := by
  let g : Option (Fin 15) → Dev nD := fun o => o.elim c fun r => peerP c (Fin.rev r)
  have hg : Function.Bijective g := by
    constructor
    · rintro (_ | a) (_ | b) hab
      · rfl
      · exact absurd hab.symm (peer_ne c _)
      · exact absurd hab (peer_ne c _)
      · exact congrArg some (Fin.rev_injective (peer_inj c _ _ hab))
    · intro e
      rcases peer_cover c e with h | ⟨r, h⟩
      · exact ⟨none, h.symm⟩
      · exact ⟨some (Fin.rev r), by show peerP c (Fin.rev (Fin.rev r)) = e; rw [Fin.rev_rev, h]⟩
  rw [← (Equiv.ofBijective g hg).sum_comp, Fintype.sum_option]
  rfl

theorem foldl_apply (c : Dev nD) (a : Fin 16) (n : Fin 1152) : ∀ (l : List (Fin 15)) (acc : FVec Ideal S16x1152 .f32),
    (l.foldl (fun acc r => addSlot acc (SLv m c r)) acc) (ix2 a n)
      = acc (ix2 a n) + (l.map fun r => PV m (peerP c (Fin.rev r)) (ValueIdx.ix2 (rowOf c a) n)).sum
  | [], acc => (add_zero _).symm
  | r :: l, acc => by
    rw [List.foldl_cons, foldl_apply c a n l, List.map_cons, List.sum_cons, addSlot_apply, ← add_assoc]
    rfl

theorem TOT_apply (c : Dev nD) (a : Fin 16) (n : Fin 1152) : TOT m c (ix2 a n) = ∑ e : Dev nD, PV m e (ValueIdx.ix2 (rowOf c a) n) := by
  unfold TOT
  rw [foldl_apply, sum_peers c, Fin.sum_univ_def]
  rfl

theorem CTX_apply (c : Dev nD) (a : Fin 16) (k : Fin 1024) :
    CTX m c (ix2 a k) = Ideal.div (TOT m c (ix2 a ⟨128 * (k.val / 128) + k.val % 128, by omega⟩)) (TOT m c (ix2 a ⟨1024 + k.val / 128, by omega⟩)) :=
  Eq.trans (congrArg _ (vix2 a _)) (ctxOf_apply (TOT m c) ⟨k.val / 128, by omega⟩ a ⟨k.val % 128, by omega⟩)

theorem RES_apply (c : Dev nD) (a : Fin 16) (n : Fin 1024) : RES m c (ix2 a n) = ∑ k : Fin 1024, CTX m c (ix2 a k) * argWo m c (ix2 k n) := by
  unfold RES; rw [wostg_eq]; exact resOf_apply _ _ a n

/-- Sending and receiving change nothing over the extended reals. -/
theorem send_apply (r : FVec Ideal S16x1024 .f32) (j : S16x1024.Idx) :
    (extf .f32 (sendOf r : FVec Ideal S16x1024 .bf16) bitsLt_bf16_f32 : FVec Ideal S16x1024 .f32) j = r j := by
  unfold sendOf
  rw [shapeCast_self]
  rfl

theorem OUT_res (c : Dev nD) (i : Fin 256) (n : Fin 1024) :
    OUT m c (ix3 0 i n) = RES m ⟨i.val / 16, by show _ < 16; omega⟩ (ix2 ⟨i.val % 16, by omega⟩ n) := by
  unfold OUT
  by_cases h : i.val / 16 = c.val
  · have ec : (⟨i.val / 16, by show _ < 16; omega⟩ : Dev nD) = c := Fin.ext h
    rw [ec]
    exact (if_pos h).trans (congrArg (RES m c) (vix2 _ _))
  · exact (if_neg h).trans ((send_apply _ _).trans (congrArg (RES m _) (vix2 _ _)))

/-- The result is the quotient of the two sums over devices and keys, projected. -/
theorem OUT_apply (c : Dev nD) (i : Fin 256) (n : Fin 1024) :
    OUT m c (ix3 0 i n) = ∑ k : Fin 1024, Ideal.div
        (∑ e : Dev nD, ∑ j : Fin 1024, ev m e ⟨k.val / 128, by omega⟩ i j * argV m e (ix4 0 (keyAt i j) ⟨k.val / 128, by omega⟩ ⟨k.val % 128, by omega⟩))
        (∑ e : Dev nD, ∑ j : Fin 1024, ev m e ⟨k.val / 128, by omega⟩ i j)
      * argWo m ⟨i.val / 16, by show _ < 16; omega⟩ (ix2 k n) := by
  have er : rowOf ⟨i.val / 16, by show _ < 16; omega⟩ ⟨i.val % 16, by omega⟩ = i := Fin.ext (Nat.div_add_mod _ _)
  rw [OUT_res, RES_apply]
  refine Finset.sum_congr rfl fun k _ => ?_
  rw [CTX_apply, TOT_apply, TOT_apply, er]
  congr 2
  · exact Finset.sum_congr rfl fun e _ => PV_lo m e i _ k (Nat.div_add_mod _ _)
  · exact Finset.sum_congr rfl fun e _ => PV_hi m e i _ ⟨k.val / 128, by omega⟩ rfl

end Cert.KernelIdeal.Attn

end
-- ==== Proof.Soft.lean ====
/-
Facts of extended-real arithmetic: a softmax that subtracts the row's maximum and normalises before the sum is the quotient of the
two plain sums, and the sum over the keys a query sees, by device and place.
-/
module

public import Idealize.ShloMosaic.PureOps.Ideal
public import Idealize.ShloMosaic.PureOps.Ideal.Laws

@[expose] public section

noncomputable section

namespace Cert.Soft

open Idealize.ShloMosaic

/-- A real is carried through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor is carried into a finite sum. -/
theorem sum_mul_coe {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The greatest of finitely many values, some real and the others minus infinity, is real. -/
theorem fold_max_real {ι : Type*} [Fintype ι] (p : ι → Prop) [DecidablePred p] (s : ι → ℝ) (j : ι) (hj : p j) :
    ∃ M : ℝ, (Finset.univ : Finset ι).fold max (⊥ : EReal) (fun J => if p J then (s J : EReal) else ⊥) = (M : EReal) := by
  obtain ⟨J, -, e⟩ := Finset.exists_mem_eq_sup (Finset.univ : Finset ι) ⟨j, Finset.mem_univ j⟩ (fun J => if p J then (s J : EReal) else ⊥)
  refine ⟨s J, Eq.trans e ?_⟩
  have hle : (if p j then (s j : EReal) else ⊥) ≤ (if p J then (s J : EReal) else ⊥) :=
    (Finset.le_sup (f := fun J => if p J then (s J : EReal) else ⊥) (Finset.mem_univ j)).trans e.le
  by_cases hJ : p J
  · exact if_pos hJ
  · rw [if_pos hj, if_neg hJ] at hle
    exact absurd (le_bot_iff.mp hle) (EReal.coe_ne_bot _)

/-- The normalised softmax against the quotient of the plain sums. -/
theorem soft {ι : Type*} [Fintype ι] (p : ι → Prop) [DecidablePred p] (s : ι → ℝ) (v : ι → EReal) (j : ι) (hj : p j) (M : EReal)
    (hM : M = (Finset.univ : Finset ι).fold max (⊥ : EReal) (fun J => if p J then (s J : EReal) else ⊥)) :
    (∑ J, v J * Ideal.div (Ideal.exp ((if p J then (s J : EReal) else ⊥) - M)) (∑ J', Ideal.exp ((if p J' then (s J' : EReal) else ⊥) - M)))
      = Ideal.div (∑ J ∈ Finset.univ.filter p, Ideal.exp (s J : EReal) * v J) (∑ J ∈ Finset.univ.filter p, Ideal.exp (s J : EReal)) := by
  obtain ⟨r, hr⟩ := fold_max_real p s j hj
  rw [hM, hr]
  have hE : ∀ J, Ideal.exp ((if p J then (s J : EReal) else ⊥) - (r : EReal)) = ((if p J then Real.exp (s J) * Real.exp (-r) else 0 : ℝ) : EReal) := by
    intro J
    by_cases h : p J
    · rw [if_pos h, if_pos h, ← EReal.coe_sub, Ideal.exp_coe, sub_eq_add_neg, Real.exp_add]
    · rw [if_neg h, if_neg h, EReal.bot_sub, Ideal.exp_bot]; rfl
  have hpos : 0 < ∑ J ∈ Finset.univ.filter p, Real.exp (s J) :=
    Finset.sum_pos (fun J _ => Real.exp_pos _) ⟨j, Finset.mem_filter.mpr ⟨Finset.mem_univ j, hj⟩⟩
  have hr0 := Real.exp_pos (-r)
  have hS : (∑ J', Ideal.exp ((if p J' then (s J' : EReal) else ⊥) - (r : EReal)))
      = (((∑ J ∈ Finset.univ.filter p, Real.exp (s J)) * Real.exp (-r) : ℝ) : EReal) := by
    refine (Finset.sum_congr rfl fun J _ => hE J).trans ?_
    rw [← coe_sum, ← Finset.sum_filter, Finset.sum_mul]
  have hW : (∑ J ∈ Finset.univ.filter p, Ideal.exp (s J : EReal)) = ((∑ J ∈ Finset.univ.filter p, Real.exp (s J) : ℝ) : EReal) := by
    rw [coe_sum]; rfl
  rw [hS, hW, Ideal.div_coe hpos.ne', sum_mul_coe _ _ _ (by positivity)]
  refine Eq.trans ?_ (Finset.sum_filter p _).symm
  refine Finset.sum_congr rfl fun J _ => ?_
  rw [hE J, Ideal.div_coe (mul_pos hpos hr0).ne', ← EReal.coe_mul]
  by_cases h : p J
  · rw [if_pos h, if_pos h, Ideal.exp_coe, mul_comm (Real.exp (s J) : EReal), mul_assoc (v J), ← EReal.coe_mul]
    congr 2
    field_simp
  · rw [if_neg h, if_neg h, zero_mul, EReal.coe_zero, mul_zero]

/-- The sum over the keys that a query of block `g` sees, by device and place. -/
theorem sum_keys (g : Fin 4) (f : Fin 65536 → EReal) :
    ∑ J ∈ Finset.univ.filter (fun J : Fin 65536 => J.val / 64 % 4 = g.val), f J
      = ∑ e : Fin 16, ∑ j : Fin 1024, f ⟨e.val * 4096 + (j.val / 64 * 256 + g.val * 64 + j.val % 64), by omega⟩ := by
  rw [← Finset.sum_product' (s := Finset.univ) (t := Finset.univ)
    (f := fun (e : Fin 16) (j : Fin 1024) => f ⟨e.val * 4096 + (j.val / 64 * 256 + g.val * 64 + j.val % 64), by omega⟩)]
  refine Finset.sum_bij' (fun J _ => ((⟨J.val / 4096, by omega⟩ : Fin 16), (⟨J.val % 4096 / 256 * 64 + J.val % 64, by omega⟩ : Fin 1024)))
    (fun x _ => ⟨x.1.val * 4096 + (x.2.val / 64 * 256 + g.val * 64 + x.2.val % 64), by omega⟩) ?_ ?_ ?_ ?_ ?_
  · intro J _; exact Finset.mem_product.mpr ⟨Finset.mem_univ _, Finset.mem_univ _⟩
  · intro x _; exact Finset.mem_filter.mpr ⟨Finset.mem_univ _, by
      show (x.1.val * 4096 + (x.2.val / 64 * 256 + g.val * 64 + x.2.val % 64)) / 64 % 4 = g.val
      omega⟩
  · intro J hJ
    have := (Finset.mem_filter.mp hJ).2
    apply Fin.ext
    show J.val / 4096 * 4096 + ((J.val % 4096 / 256 * 64 + J.val % 64) / 64 * 256 + g.val * 64 + (J.val % 4096 / 256 * 64 + J.val % 64) % 64) = J.val
    omega
  · rintro ⟨e, k⟩ _
    refine Prod.ext (Fin.ext ?_) (Fin.ext ?_)
    · show (e.val * 4096 + (k.val / 64 * 256 + g.val * 64 + k.val % 64)) / 4096 = e.val; omega
    · show (e.val * 4096 + (k.val / 64 * 256 + g.val * 64 + k.val % 64)) % 4096 / 256 * 64 + (e.val * 4096 + (k.val / 64 * 256 + g.val * 64 + k.val % 64)) % 64 = k.val; omega
  · intro J hJ
    have := (Finset.mem_filter.mp hJ).2
    refine congrArg f (Fin.ext ?_)
    show J.val = J.val / 4096 * 4096 + ((J.val % 4096 / 256 * 64 + J.val % 64) / 64 * 256 + g.val * 64 + (J.val % 4096 / 256 * 64 + J.val % 64) % 64)
    omega

/-- An extended real whose absolute value is below infinity is real. -/
theorem real_of_abs_lt {x : EReal} (h : max x (-x) < ⊤) : ∃ r : ℝ, x = (r : EReal) := by
  induction x with
  | bot => exact absurd h (by simp)
  | top => exact absurd h (by simp)
  | coe r => exact ⟨r, rfl⟩

end Cert.Soft

end
-- ==== Proof.Equal.lean ====
/-
The kernel's result is the reference's, over the extended reals, where the queries' and keys' arguments are real.
-/
module

public import proofs.«01_k».proof.Proof.Ref2
public import proofs.«01_k».proof.Proof.Val2
public import proofs.«01_k».proof.Proof.Soft

@[expose] public section

noncomputable section

namespace Cert.Equal

open Idealize.ShloMosaic Idealize.SL.Sem
open Cert.ReferenceIdeal.Attn (SC SM MX EX SU WN ANY PR REF scaleR)
open Cert.Soft (coe_sum soft sum_keys)

set_option maxRecDepth 16384

abbrev SX : Shape := ⟨3, ![1, 256, 1024]⟩
abbrev SW : Shape := ⟨2, ![1024, 1024]⟩
abbrev SK : Shape := ⟨4, ![1, 65536, 8, 128]⟩

/-- The scores, over the reals. -/
def score (xr : SX.Idx → ℝ) (wr : SW.Idx → ℝ) (kr : SK.Idx → ℝ) (σ : ℝ) (h : Fin 8) (i : Fin 256) (J : Fin 65536) : ℝ :=
  (∑ d : Fin 128, (∑ e : Fin 1024, xr (ix3 0 i e) * wr (ix2 e ⟨h.val * 128 + d.val, by omega⟩)) * kr (ix4 0 J h d)) * σ

section
variable (x : FVec Ideal SX .f32) (wq : FVec Ideal SW .f32) (k v : FVec Ideal SK .f32) (wo : FVec Ideal SW .f32)
variable (xr : SX.Idx → ℝ) (wr : SW.Idx → ℝ) (kr : SK.Idx → ℝ) (σ : ℝ)
variable (hx : ∀ i, x i = (xr i : EReal)) (hw : ∀ i, wq i = (wr i : EReal)) (hk : ∀ i, k i = (kr i : EReal)) (hσ : scaleR = (σ : EReal))

include hx hw hk hσ in
theorem score_ref (h : Fin 8) (i : Fin 256) (J : Fin 65536) : SC x wq k (ix4 0 h i J) = (score xr wr kr σ h i J : EReal) := by
  rw [Cert.ReferenceIdeal.Attn.SC_apply, hσ]
  simp only [hx, hw, hk, ← EReal.coe_mul, ← coe_sum]
  rfl

include hx hw hk hσ in
theorem score_kernel (h : Fin 8) (i : Fin 256) (J : Fin 65536) :
    (∑ d : Fin 128, ((∑ e : Fin 1024, x (ix3 0 i e) * wq (ix2 e ⟨128 * h.val + d.val, by omega⟩)) * scaleR) * k (ix4 0 J h d))
      = (score xr wr kr σ h i J : EReal) := by
  rw [hσ]
  simp only [hx, hw, hk, ← EReal.coe_mul, ← coe_sum]
  refine congrArg Real.toEReal ?_
  unfold score
  rw [Finset.sum_mul]
  refine Finset.sum_congr rfl fun d _ => ?_
  have e : (⟨128 * h.val + d.val, by omega⟩ : Fin 1024) = ⟨h.val * 128 + d.val, by omega⟩ := Fin.ext (by show 128 * h.val + d.val = h.val * 128 + d.val; omega)
  rw [e]
  ring

include hx hw hk hσ in
/-- The reference's result: the quotient of the two plain sums over the keys a row sees, projected. -/
theorem ref_apply (i : Fin 256) (n : Fin 1024) :
    REF x wq k v wo (ix3 0 i n) = ∑ c : Fin 1024, Ideal.div
        (∑ J ∈ Finset.univ.filter (fun J : Fin 65536 => J.val / 64 % 4 = i.val / 64),
          Ideal.exp (score xr wr kr σ ⟨c.val / 128, by omega⟩ i J : EReal) * v (ix4 0 J ⟨c.val / 128, by omega⟩ ⟨c.val % 128, by omega⟩))
        (∑ J ∈ Finset.univ.filter (fun J : Fin 65536 => J.val / 64 % 4 = i.val / 64),
          Ideal.exp (score xr wr kr σ ⟨c.val / 128, by omega⟩ i J : EReal))
      * wo (ix2 c n) := by
  unfold REF
  rw [Cert.ReferenceIdeal.Attn.PR_apply]
  refine Finset.sum_congr rfl fun c _ => congrArg (· * wo (ix2 c n)) ?_
  have hs : ∀ J, SM (SC x wq k) (ix4 0 ⟨c.val / 128, by omega⟩ i J)
      = if J.val / 64 % 4 = i.val / 64 then (score xr wr kr σ ⟨c.val / 128, by omega⟩ i J : EReal) else ⊥ := fun J => by
    rw [Cert.ReferenceIdeal.Attn.SM_apply, score_ref x wq k xr wr kr σ hx hw hk hσ]
  have hM := Cert.ReferenceIdeal.Attn.MX_apply (SM (SC x wq k)) ⟨c.val / 128, by omega⟩ i
  simp only [hs] at hM
  refine Eq.trans (Finset.sum_congr rfl fun J _ => ?_)
    (soft (fun J : Fin 65536 => J.val / 64 % 4 = i.val / 64) (fun J => score xr wr kr σ ⟨c.val / 128, by omega⟩ i J)
      (fun J => v (ix4 0 J ⟨c.val / 128, by omega⟩ ⟨c.val % 128, by omega⟩)) ⟨64 * (i.val / 64), by omega⟩
      (by show 64 * (i.val / 64) / 64 % 4 = i.val / 64; omega) _ hM)
  rw [Cert.ReferenceIdeal.Attn.WN_apply _ _ _ _ _ _ (Cert.ReferenceIdeal.Attn.ANY_apply i), Cert.ReferenceIdeal.Attn.SU_apply]
  simp only [Cert.ReferenceIdeal.Attn.EX_apply, hs]

end

open Cert.KernelIdeal Cert.KernelIdeal.Attn
open Idealize.ShloMosaic.TcCoe

variable (m : (ℓ : Loc nD τ sig) → Buf (Elt Ideal) ℓ)
variable (x : FVec Ideal SX .f32) (wq : FVec Ideal SW .f32) (k v : FVec Ideal SK .f32) (wo : FVec Ideal SW .f32)

/-- Where device `e`'s key `j` lies among all of them. -/
def place (e : Dev nD) (j : Fin 4096) : Fin 65536 := ⟨e.val * 4096 + j.val, by have : e.val < 16 := e.isLt; omega⟩

theorem equal
    (ex : ∀ c, argX m c = x) (ewq : ∀ c, argWq m c = wq) (ewo : ∀ c, argWo m c = wo)
    (ek : ∀ (c : Dev nD) j h d, argK m c (ix4 0 j h d) = k (ix4 0 (place c j) h d))
    (evv : ∀ (c : Dev nD) j h d, argV m c (ix4 0 j h d) = v (ix4 0 (place c j) h d))
    (fx : ∀ i, ∃ r : ℝ, x i = (r : EReal)) (fw : ∀ i, ∃ r : ℝ, wq i = (r : EReal)) (fk : ∀ i, ∃ r : ℝ, k i = (r : EReal)) (c : Dev nD) :
    OUT m c = REF x wq k v wo := by
  choose xr hx using fx
  choose wr hw using fw
  choose kr hk using fk
  obtain ⟨σ, hσ⟩ := Cert.ReferenceIdeal.Attn.scaleR_real
  have hev : ∀ (e : Dev nD) (h : Fin 8) (i : Fin 256) (j : Fin 1024), ev m e h i j = Ideal.exp (score xr wr kr σ h i (place e (keyAt i j)) : EReal) := by
    intro e h i j
    unfold ev qv
    rw [← score_kernel x wq k xr wr kr σ hx hw hk hσ]
    simp only [ex, ewq, ek]
    rfl
  funext j
  obtain ⟨i, n, rfl⟩ : ∃ (i : Fin 256) (n : Fin 1024), j = (ix3 0 i n : SX.Idx) := ⟨j 1, j 2, by
    funext q
    match q with
    | ⟨0, _⟩ => exact Subsingleton.elim (α := Fin 1) _ _
    | ⟨1, _⟩ => rfl
    | ⟨2, _⟩ => rfl⟩
  rw [OUT_apply, ref_apply x wq k v wo xr wr kr σ hx hw hk hσ]
  refine Finset.sum_congr rfl fun q _ => ?_
  rw [ewo]
  refine congrArg (· * wo (ix2 q n)) (congrArg₂ Ideal.div ?_ ?_)
  · rw [sum_keys ⟨i.val / 64, by omega⟩]
    refine Finset.sum_congr rfl fun e _ => Finset.sum_congr rfl fun j _ => ?_
    rw [hev, evv]
    rfl
  · rw [sum_keys ⟨i.val / 64, by omega⟩]
    refine Finset.sum_congr rfl fun e _ => Finset.sum_congr rfl fun j _ => ?_
    rw [hev]
    rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's frame at the words: `Cert.KernelIdeal.Attn.run_frame` (Proof/Whole.lean), which holds at any float values. -/
theorem frame_kernel : Cert.quiescent_Kernel := by
  intro m ρ _
  rw [Cert.Same.tables]
  exact (θ_run Cert.KernelIdeal.defs _ _).mono (fun _ h => h.1) (Cert.KernelIdeal.Attn.run_frame (F := Bits) m ρ)

/-- The kernel's frame over the reals: the same run. -/
theorem frame_kernelIdeal : Cert.quiescent_KernelIdeal := fun m ρ _ =>
  (θ_run Cert.KernelIdeal.defs _ _).mono (fun _ h => h.1) (Cert.KernelIdeal.Attn.run_frame (F := Ideal) m ρ)

/-- The reference's frame: its run read at its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem facts_kernel : Cert.Pre_finite_scores_KernelIdeal.Facts := ⟨by decide, by decide, by decide⟩
theorem facts_reference : Cert.Pre_finite_scores_ReferenceIdeal.Facts := ⟨by decide, by decide, by decide⟩

/-- The bound of the precondition is infinity. -/
theorem ofBits_top : Ideal.ofBits .f32 0x7F800000#32 = ⊤ := by simp [Ideal.ofBits, Ideal.ieee]

/-- An element that the comparison passes is real. -/
theorem real_of_flag {x : EReal} (h : BitVec.ofBool (decide (max x (-x) < Ideal.ofBits .f32 0x7F800000#32)) = 1#1) : ∃ r : ℝ, x = (r : EReal) := by
  rw [ofBits_top] at h
  refine Cert.Soft.real_of_abs_lt ?_
  by_contra hn
  rw [decide_eq_false hn] at h
  exact absurd h (by decide)

/-- Where an element of a device's keys or values lies in the whole array. -/
theorem block_at (T : (⟨4, ![1, 65536, 8, 128]⟩ : Shape).Idx → EReal) (c : Fin 16) (j : Fin 4096) (h : Fin 8) (d : Fin 128) :
    Layout.block ⟨4, ![1, 4096, 8, 128]⟩ ⟨4, ![1, 65536, 8, 128]⟩ 1 16 c T (by decide) (ix4 0 j h d) = T (ix4 0 (Cert.Equal.place c j) h d) := by
  refine congrArg T (funext fun q => ?_)
  match q with
  | ⟨0, _⟩ => rfl
  | ⟨1, _⟩ => rfl
  | ⟨2, _⟩ => rfl
  | ⟨3, _⟩ => rfl

/-- Every element of the whole keys is some device's. -/
theorem whole_at (i : (⟨4, ![1, 65536, 8, 128]⟩ : Shape).Idx) :
    ∃ (c : Fin 16) (j : Fin 4096) (h : Fin 8) (d : Fin 128), i = (ix4 0 (Cert.Equal.place c j) h d : (⟨4, ![1, 65536, 8, 128]⟩ : Shape).Idx) := by
  have h1 : (i 1).val < 65536 := (i 1).isLt
  refine ⟨⟨(i 1).val / 4096, by omega⟩, ⟨(i 1).val % 4096, by omega⟩, i 2, i 3, funext fun q => ?_⟩
  match q with
  | ⟨0, _⟩ => exact Subsingleton.elim (α := Fin 1) _ _
  | ⟨1, _⟩ => exact Fin.ext (Nat.div_add_mod' _ _).symm
  | ⟨2, _⟩ => rfl
  | ⟨3, _⟩ => rfl

/-- The kernel's result and the reference's are the same array, on every device. -/
theorem algebraic : @Cert.algebraic_KernelIdeal_ReferenceIdeal_pre_finite_scores_KernelIdeal Cert.KernelIdeal.Gen.facts Cert.ReferenceIdeal.Gen.facts facts_kernel := by
  intro m g m' g' hpre hagree
  refine ⟨Cert.ReferenceIdeal.Value.res_main_v39 m' 0, ?_, ?_⟩
  · refine (θ_run Cert.KernelIdeal.defs _ _).mono (fun r h c => ?_) (Cert.KernelIdeal.Attn.run_frame (F := Ideal) m g)
    refine ⟨?_, h.1.1 c⟩
    rw [h.2 c, Cert.KernelIdeal.Attn.final_out, Cert.ReferenceIdeal.Attn.res_eq]
    refine Cert.Equal.equal m _ _ _ _ _ (fun c => (hagree c).1) (fun c => (hagree c).2.1) (fun c => (hagree c).2.2.2.2)
      (fun c j h d => (congrFun (hagree c).2.2.1 (ix4 0 j h d)).trans (block_at _ c j h d))
      (fun c j h d => (congrFun (hagree c).2.2.2.1 (ix4 0 j h d)).trans (block_at _ c j h d)) (fun i => ?_) (fun i => ?_) (fun i => ?_) c
    · obtain ⟨r, hr⟩ := real_of_flag (congrFun (hpre 0).1 i)
      exact ⟨r, (congrFun (hagree 0).1 i).symm.trans hr⟩
    · obtain ⟨r, hr⟩ := real_of_flag (congrFun (hpre 0).2.1 i)
      exact ⟨r, (congrFun (hagree 0).2.1 i).symm.trans hr⟩
    · obtain ⟨e, j, h', d, rfl⟩ := whole_at i
      obtain ⟨r, hr⟩ := real_of_flag (congrFun (hpre e).2.2 (ix4 0 j h' d))
      exact ⟨r, ((congrFun (hagree e).2.2.1 (ix4 0 j h' d)).trans (block_at _ e j h' d)).symm.trans hr⟩
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, facts_kernel, facts_reference,
  frame_kernel, frame_kernelIdeal, fun m g _ => frame_kernelIdeal m g trivial, frame_reference, fun m g _ => frame_reference m g trivial, trivial, algebraic⟩

end Cert.Proof

end
